-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S4x8448x512 : Shape := ⟨3, ![4, 8448, 512]⟩
abbrev S4x8448x1536 : Shape := ⟨3, ![4, 8448, 1536]⟩
abbrev S64 : Shape := ⟨1, ![64]⟩
abbrev S128 : Shape := ⟨1, ![128]⟩
abbrev S_ : Shape := ⟨0, ![]⟩

class Facts : Prop where
  bcast_S_S4x8448x512 : S_.BroadcastsInDim S4x8448x512 (![] : Fin 0 → Fin S4x8448x512.rank)
  reducesTo_S4x8448x512_S_d0_1_2 : S4x8448x512.ReducesTo [0, 1, 2] S_
  h_S_ : 0 < S_.numel
  slices_S4x8448x1536_S4x8448x512_0_0_1024 : S4x8448x1536.Slices ![0, 0, 1024] S4x8448x512
  bcast_S_S64 : S_.BroadcastsInDim S64 (![] : Fin 0 → Fin S64.rank)
  reducesTo_S64_S_d0 : S64.ReducesTo [0] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S64 .f32) (main_arg5 : FVec F S64 .f32) (main_arg6 : FVec F S64 .f32) (main_v14 : IVec S_ 1) (main_v15 : FVec F S64 .f32) (main_v16 : FVec F S64 .f32) : IVec S_ 1 :=
  let main_v17 : IVec S64 1 := cmpf .olt main_v15 main_v16
  let main_c_5 : IVec S_ 1 := constantI S_ 1 1#1
  let main_v18 : IVec S_ 1 := (fun x v => Host.reduce IntOp.andi x v reducesTo_S64_S_d0 h_S_) main_v17 main_c_5
  let main_v19 : IVec S_ 1 := andi main_v14 main_v18
  let main_v20 : FVec F S64 .f32 := Host.absf main_arg4
  let main_cst_6 : FVec F S_ .f32 := constant S_ .f32 0x7F800000#32
  let main_v21 : FVec F S64 .f32 := broadcastInDim S64 ![] bcast_S_S64 main_cst_6
  let main_v22 : IVec S64 1 := cmpf .olt main_v20 main_v21
  let main_c_7 : IVec S_ 1 := constantI S_ 1 1#1
  let main_v23 : IVec S_ 1 := (fun x v => Host.reduce IntOp.andi x v reducesTo_S64_S_d0 h_S_) main_v22 main_c_7
  let main_v24 : IVec S_ 1 := andi main_v19 main_v23
  let main_v25 : FVec F S64 .f32 := Host.absf main_arg5
  let main_cst_8 : FVec F S_ .f32 := constant S_ .f32 0x7F800000#32
  let main_v26 : FVec F S64 .f32 := broadcastInDim S64 ![] bcast_S_S64 main_cst_8
  let main_v27 : IVec S64 1 := cmpf .olt main_v25 main_v26
  let main_c_9 : IVec S_ 1 := constantI S_ 1 1#1
  let main_v28 : IVec S_ 1 := (fun x v => Host.reduce IntOp.andi x v reducesTo_S64_S_d0 h_S_) main_v27 main_c_9
  let main_v29 : IVec S_ 1 := andi main_v24 main_v28
  let main_v30 : FVec F S64 .f32 := Host.absf main_arg6
  let main_cst_10 : FVec F S_ .f32 := constant S_ .f32 0x7F800000#32
  let main_v31 : FVec F S64 .f32 := broadcastInDim S64 ![] bcast_S_S64 main_cst_10
  let main_v32 : IVec S64 1 := cmpf .olt main_v30 main_v31
  let main_c_11 : IVec S_ 1 := constantI S_ 1 1#1
  let main_v33 : IVec S_ 1 := (fun x v => Host.reduce IntOp.andi x v reducesTo_S64_S_d0 h_S_) main_v32 main_c_11
  fn_part2 (F := F) main_v29 main_v33

def fn {F : FTy → Type} [FloatOps F] (main_arg0 : FVec F S4x8448x512 .f32) (main_arg1 : FVec F S4x8448x1536 .f32) (main_arg2 : FVec F S4x8448x512 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S4x8448x512 .f32 := Host.absf main_arg0
  let main_cst : FVec F S_ .f32 := constant S_ .f32 0x7F800000#32
  let main_v1 : FVec F S4x8448x512 .f32 := broadcastInDim S4x8448x512 ![] bcast_S_S4x8448x512 main_cst
  let main_v2 : IVec S4x8448x512 1 := cmpf .olt main_v0 main_v1
  let main_c : IVec S_ 1 := constantI S_ 1 1#1
  let main_v3 : IVec S_ 1 := (fun x v => Host.reduce IntOp.andi x v reducesTo_S4x8448x512_S_d0_1_2 h_S_) main_v2 main_c
  let main_v4 : FVec F S4x8448x512 .f32 := (extractStridedSlice S4x8448x512 ![0, 0, 1024] · slices_S4x8448x1536_S4x8448x512_0_0_1024) main_arg1
  let main_v5 : FVec F S4x8448x512 .f32 := Host.absf main_v4
  let main_cst_0 : FVec F S_ .f32 := constant S_ .f32 0x7F800000#32
  let main_v6 : FVec F S4x8448x512 .f32 := broadcastInDim S4x8448x512 ![] bcast_S_S4x8448x512 main_cst_0
  let main_v7 : IVec S4x8448x512 1 := cmpf .olt main_v5 main_v6
  let main_c_1 : IVec S_ 1 := constantI S_ 1 1#1
  let main_v8 : IVec S_ 1 := (fun x v => Host.reduce IntOp.andi x v reducesTo_S4x8448x512_S_d0_1_2 h_S_) main_v7 main_c_1
  let main_v9 : IVec S_ 1 := andi main_v3 main_v8
  let main_v10 : FVec F S4x8448x512 .f32 := Host.absf main_arg2
  let main_cst_2 : FVec F S_ .f32 := constant S_ .f32 0x7F800000#32
  let main_v11 : FVec F S4x8448x512 .f32 := broadcastInDim S4x8448x512 ![] bcast_S_S4x8448x512 main_cst_2
  let main_v12 : IVec S4x8448x512 1 := cmpf .olt main_v10 main_v11
  let main_c_3 : IVec S_ 1 := constantI S_ 1 1#1
  let main_v13 : IVec S_ 1 := (fun x v => Host.reduce IntOp.andi x v reducesTo_S4x8448x512_S_d0_1_2 h_S_) main_v12 main_c_3
  let main_v14 : IVec S_ 1 := andi main_v9 main_v13
  let main_v15 : FVec F S64 .f32 := Host.absf main_arg3
  let main_cst_4 : FVec F S_ .f32 := constant S_ .f32 0x7F800000#32
  let main_v16 : FVec F S64 .f32 := broadcastInDim S64 ![] bcast_S_S64 main_cst_4
  fn_part1 (F := F) main_arg4 main_arg5 main_arg6 main_v14 main_v15 main_v16
-- ==== Pre_finite5.lean ====
abbrev S4x8448x512 : Shape := ⟨3, ![4, 8448, 512]⟩
abbrev S4x8448x128 : Shape := ⟨3, ![4, 8448, 128]⟩
abbrev S_ : Shape := ⟨0, ![]⟩

class Facts : Prop where
  bcast_S_S4x8448x512 : S_.BroadcastsInDim S4x8448x512 (![] : Fin 0 → Fin S4x8448x512.rank)
  reducesTo_S4x8448x512_S_d0_1_2 : S4x8448x512.ReducesTo [0, 1, 2] S_
  h_S_ : 0 < S_.numel
  bcast_S_S4x8448x128 : S_.BroadcastsInDim S4x8448x128 (![] : Fin 0 → Fin S4x8448x128.rank)
  reducesTo_S4x8448x128_S_d0_1_2 : S4x8448x128.ReducesTo [0, 1, 2] S_

variable [Facts]

def fn {F : FTy → Type} [FloatOps F] (main_arg0 : FVec F S4x8448x512 .f32) (main_arg1 : FVec F S4x8448x128 .f32) (main_arg2 : FVec F S4x8448x128 .f32) : IVec S_ 1 :=
  let main_v0 : FVec F S4x8448x512 .f32 := Host.absf main_arg0
  let main_cst : FVec F S_ .f32 := constant S_ .f32 0x7F800000#32
  let main_v1 : FVec F S4x8448x512 .f32 := broadcastInDim S4x8448x512 ![] bcast_S_S4x8448x512 main_cst
  let main_v2 : IVec S4x8448x512 1 := cmpf .olt main_v0 main_v1
  let main_c : IVec S_ 1 := constantI S_ 1 1#1
  let main_v3 : IVec S_ 1 := (fun x v => Host.reduce IntOp.andi x v reducesTo_S4x8448x512_S_d0_1_2 h_S_) main_v2 main_c
  let main_v4 : FVec F S4x8448x128 .f32 := Host.absf main_arg1
  let main_cst_0 : FVec F S_ .f32 := constant S_ .f32 0x7F800000#32
  let main_v5 : FVec F S4x8448x128 .f32 := broadcastInDim S4x8448x128 ![] bcast_S_S4x8448x128 main_cst_0
  let main_v6 : IVec S4x8448x128 1 := cmpf .olt main_v4 main_v5
  let main_c_1 : IVec S_ 1 := constantI S_ 1 1#1
  let main_v7 : IVec S_ 1 := (fun x v => Host.reduce IntOp.andi x v reducesTo_S4x8448x128_S_d0_1_2 h_S_) main_v6 main_c_1
  let main_v8 : IVec S_ 1 := andi main_v3 main_v7
  let main_v9 : FVec F S4x8448x128 .f32 := Host.absf main_arg2
  let main_cst_2 : FVec F S_ .f32 := constant S_ .f32 0x7F800000#32
  let main_v10 : FVec F S4x8448x128 .f32 := broadcastInDim S4x8448x128 ![] bcast_S_S4x8448x128 main_cst_2
  let main_v11 : IVec S4x8448x128 1 := cmpf .olt main_v9 main_v10
  let main_c_3 : IVec S_ 1 := constantI S_ 1 1#1
  let main_v12 : IVec S_ 1 := (fun x v => Host.reduce IntOp.andi x v reducesTo_S4x8448x128_S_d0_1_2 h_S_) main_v11 main_c_3
  let main_v13 : IVec S_ 1 := andi main_v8 main_v12
  main_v13
-- ==== Kernel.lean ====
abbrev S4x8448x512 : Shape := ⟨3, ![4, 8448, 512]⟩
abbrev S4x8448x1536 : Shape := ⟨3, ![4, 8448, 1536]⟩
abbrev S64 : Shape := ⟨1, ![64]⟩
abbrev S128 : Shape := ⟨1, ![128]⟩
abbrev S_ : Shape := ⟨0, ![]⟩
abbrev S4x512x8448 : Shape := ⟨3, ![4, 512, 8448]⟩
abbrev S4x4x128x8448 : Shape := ⟨4, ![4, 4, 128, 8448]⟩
abbrev S4x4x16x8448 : Shape := ⟨4, ![4, 4, 16, 8448]⟩
abbrev S4x4x144x8448 : Shape := ⟨4, ![4, 4, 144, 8448]⟩
abbrev S1x64 : Shape := ⟨2, ![1, 64]⟩
abbrev S4x64 : Shape := ⟨2, ![4, 64]⟩
abbrev S1x128 : Shape := ⟨2, ![1, 128]⟩
abbrev S1x256x256 : Shape := ⟨3, ![1, 256, 256]⟩
abbrev S1x8448x256 : Shape := ⟨3, ![1, 8448, 256]⟩
abbrev S1x2x144x8448 : Shape := ⟨4, ![1, 2, 144, 8448]⟩
abbrev S2x4x512x256 : Shape := ⟨4, ![2, 4, 512, 256]⟩
abbrev S4x256x256 : Shape := ⟨3, ![4, 256, 256]⟩
abbrev S4x144x256 : Shape := ⟨3, ![4, 144, 256]⟩
abbrev S4x1x256 : Shape := ⟨3, ![4, 1, 256]⟩
abbrev S3x4x1x256 : Shape := ⟨4, ![3, 4, 1, 256]⟩
abbrev S128x256 : Shape := ⟨2, ![128, 256]⟩
abbrev S1x128x256 : Shape := ⟨3, ![1, 128, 256]⟩
abbrev S1x256x128 : Shape := ⟨3, ![1, 256, 128]⟩
abbrev S256x128 : Shape := ⟨2, ![256, 128]⟩
abbrev S256x256 : Shape := ⟨2, ![256, 256]⟩
abbrev S1x512x128 : Shape := ⟨3, ![1, 512, 128]⟩
abbrev S512x128 : Shape := ⟨2, ![512, 128]⟩
abbrev S512x256 : Shape := ⟨2, ![512, 256]⟩
abbrev S1x1x512x256 : Shape := ⟨4, ![1, 1, 512, 256]⟩
abbrev S1x1x256 : Shape := ⟨3, ![1, 1, 256]⟩
abbrev S1x256 : Shape := ⟨2, ![1, 256]⟩
abbrev S256 : Shape := ⟨1, ![256]⟩
abbrev S1x1x1x256 : Shape := ⟨4, ![1, 1, 1, 256]⟩
abbrev S1x1x144x256 : Shape := ⟨4, ![1, 1, 144, 256]⟩
abbrev S144x256 : Shape := ⟨2, ![144, 256]⟩
abbrev S1x144x256 : Shape := ⟨3, ![1, 144, 256]⟩
abbrev S1x1x144x512 : Shape := ⟨4, ![1, 1, 144, 512]⟩
abbrev S144x512 : Shape := ⟨2, ![144, 512]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩
abbrev S256x1 : Shape := ⟨2, ![256, 1]⟩

abbrev nBuf : Space → Nat
  | .hbm => 31
  | .vmem => 19
  | .smem => 0
  | _ => 0

abbrev bufTy : (tb : Table) → Fin (tcTables nBuf tb) → BufTy
  | .hbm, ⟨0, _⟩ => ⟨S4x8448x512, .f32⟩
  | .hbm, ⟨1, _⟩ => ⟨S4x8448x1536, .f32⟩
  | .hbm, ⟨2, _⟩ => ⟨S4x8448x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x8448x512, .f32⟩
  | .hbm, ⟨14, _⟩ => ⟨S4x8448x512, .f32⟩
  | .hbm, ⟨15, _⟩ => ⟨S4x512x8448, .f32⟩
  | .hbm, ⟨16, _⟩ => ⟨S4x512x8448, .bf16⟩
  | .hbm, ⟨17, _⟩ => ⟨S4x512x8448, .f32⟩
  | .hbm, ⟨18, _⟩ => ⟨S4x4x128x8448, .f32⟩
  | .hbm, ⟨19, _⟩ => ⟨S4x4x128x8448, .bf16⟩
  | .hbm, ⟨20, _⟩ => ⟨S_, .bf16⟩
  | .hbm, ⟨21, _⟩ => ⟨S4x4x16x8448, .bf16⟩
  | .hbm, ⟨22, _⟩ => ⟨S4x4x144x8448, .bf16⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S4x64, .f32⟩
  | .hbm, ⟨28, _⟩ => ⟨S4x8448x1536, .bf16⟩
  | .hbm, ⟨29, _⟩ => ⟨S1x128, .f32⟩
  | .hbm, ⟨30, _⟩ => ⟨S4x8448x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x8448x256, .bf16⟩
  | .local _ .vmem, ⟨5, _⟩ => ⟨S1x8448x256, .bf16⟩
  | .local _ .vmem, ⟨6, _⟩ => ⟨S1x2x144x8448, .bf16⟩
  | .local _ .vmem, ⟨7, _⟩ => ⟨S1x2x144x8448, .bf16⟩
  | .local _ .vmem, ⟨8, _⟩ => ⟨S4x64, .f32⟩
  | .local _ .vmem, ⟨9, _⟩ => ⟨S1x128, .f32⟩
  | .local _ .vmem, ⟨10, _⟩ => ⟨S1x256x256, .bf16⟩
  | .local _ .vmem, ⟨11, _⟩ => ⟨S1x256x256, .bf16⟩
  | .local _ .vmem, ⟨12, _⟩ => ⟨S2x4x512x256, .f32⟩
  | .local _ .vmem, ⟨13, _⟩ => ⟨S2x4x512x256, .bf16⟩
  | .local _ .vmem, ⟨14, _⟩ => ⟨S4x256x256, .f32⟩
  | .local _ .vmem, ⟨15, _⟩ => ⟨S4x256x256, .bf16⟩
  | .local _ .vmem, ⟨16, _⟩ => ⟨S4x144x256, .f32⟩
  | .local _ .vmem, ⟨17, _⟩ => ⟨S4x1x256, .f32⟩
  | .local _ .vmem, ⟨18, _⟩ => ⟨S3x4x1x256, .f32⟩
  | _, _ => ⟨S4x8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 2, 33], ![false, false, false]⟩

def k0_cond2 (i : grid0.Coords) : BitVec 1 :=
  let arg2 : BitVec 32 := BitVec.ofNat 32 (i 2).val
  let c32_i32 : BitVec 32 := 32#32
  let v0 : BitVec 1 := Scalar.cmpi .slt arg2 c32_i32
  let v5 : BitVec 32 := Scalar.extui v0
  let c0_i32_1 : BitVec 32 := 0#32
  let v6 : BitVec 1 := Scalar.cmpi .ne v5 c0_i32_1
  v6

def k0_cond3 (i : grid0.Coords) : BitVec 1 :=
  let arg2 : BitVec 32 := BitVec.ofNat 32 (i 2).val
  let c32_i32 : BitVec 32 := 32#32
  let v0 : BitVec 1 := Scalar.cmpi .slt arg2 c32_i32
  let v_true : BitVec 1 := 1#1
  let v7 : BitVec 1 := Scalar.xori v0 v_true
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.minsi v0 c32_i32
  let c0_i32 : BitVec 32 := 0#32
  ![arg0.toNat, arg1.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x144x8448 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S4x8448x512 : Shape := ⟨3, ![4, 8448, 512]⟩
abbrev S4x8448x1536 : Shape := ⟨3, ![4, 8448, 1536]⟩
abbrev S64 : Shape := ⟨1, ![64]⟩
abbrev S128 : Shape := ⟨1, ![128]⟩
abbrev S_ : Shape := ⟨0, ![]⟩
abbrev S4x8448x8x64 : Shape := ⟨4, ![4, 8448, 8, 64]⟩
abbrev S4x8x8448x64 : Shape := ⟨4, ![4, 8, 8448, 64]⟩
abbrev S4x8448x4x128 : Shape := ⟨4, ![4, 8448, 4, 128]⟩
abbrev S4x4x8448x128 : Shape := ⟨4, ![4, 4, 8448, 128]⟩
abbrev S4x4x8448x64 : Shape := ⟨4, ![4, 4, 8448, 64]⟩
abbrev S4x4x8192x64 : Shape := ⟨4, ![4, 4, 8192, 64]⟩
abbrev S4x4x8192x8448 : Shape := ⟨4, ![4, 4, 8192, 8448]⟩
abbrev S4x4x8192 : Shape := ⟨3, ![4, 4, 8192]⟩
abbrev S4x4x8192x1 : Shape := ⟨4, ![4, 4, 8192, 1]⟩
abbrev S4x4x8192x128 : Shape := ⟨4, ![4, 4, 8192, 128]⟩
abbrev S4x4x256x64 : Shape := ⟨4, ![4, 4, 256, 64]⟩
abbrev S4x4x256x128 : Shape := ⟨4, ![4, 4, 256, 128]⟩
abbrev S4x4x256x256 : Shape := ⟨4, ![4, 4, 256, 256]⟩
abbrev S4x4x256 : Shape := ⟨3, ![4, 4, 256]⟩
abbrev S4x4x256x1 : Shape := ⟨4, ![4, 4, 256, 1]⟩
abbrev S1x1x1x128 : Shape := ⟨4, ![1, 1, 1, 128]⟩
abbrev S4x8192x4x128 : Shape := ⟨4, ![4, 8192, 4, 128]⟩
abbrev S4x8192x512 : Shape := ⟨3, ![4, 8192, 512]⟩
abbrev S4x256x4x128 : Shape := ⟨4, ![4, 256, 4, 128]⟩
abbrev S4x256x512 : Shape := ⟨3, ![4, 256, 512]⟩

abbrev nBuf : Space → Nat
  | .hbm => 161
  | .vmem => 0
  | .smem => 0
  | _ => 0

abbrev hbmTy0_0 (i : Nat) : BufTy := match i % 128 with
  | 0 => ⟨S4x8448x512, .f32⟩
  | 1 => ⟨S4x8448x1536, .f32⟩
  | 2 => ⟨S4x8448x512, .f32⟩
  | 3 => ⟨S64, .f32⟩
  | 4 => ⟨S64, .f32⟩
  | 5 => ⟨S64, .f32⟩
  | 6 => ⟨S64, .f32⟩
  | 7 => ⟨S128, .f32⟩
  | 8 => ⟨S64, .f32⟩
  | 9 => ⟨S_, .f32⟩
  | 10 => ⟨S_, .f32⟩
  | 11 => ⟨S_, .f32⟩
  | 12 => ⟨S64, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S4x8448x8x64, .f32⟩
  | 20 => ⟨S4x8x8448x64, .f32⟩
  | 21 => ⟨S4x8448x512, .f32⟩
  | 22 => ⟨S4x8448x8x64, .f32⟩
  | 23 => ⟨S4x8x8448x64, .f32⟩
  | 24 => ⟨S4x8448x4x128, .f32⟩
  | 25 => ⟨S4x4x8448x128, .f32⟩
  | 26 => ⟨S4x4x8448x64, .f32⟩
  | 27 => ⟨S4x4x8448x64, .f32⟩
  | 28 => ⟨S4x4x8448x64, .f32⟩
  | 29 => ⟨S4x4x8448x64, .f32⟩
  | 30 => ⟨S4x4x8192x64, .f32⟩
  | 31 => ⟨S4x4x8192x64, .f32⟩
  | 32 => ⟨S4x4x8192x8448, .f32⟩
  | 33 => ⟨S_, .f32⟩
  | 34 => ⟨S4x4x8192x8448, .f32⟩
  | 35 => ⟨S4x4x8192x8448, .f32⟩
  | 36 => ⟨S_, .f32⟩
  | 37 => ⟨S4x4x8192, .f32⟩
  | 38 => ⟨S_, .f32⟩
  | 39 => ⟨S4x4x8192, .f32⟩
  | 40 => ⟨S4x4x8192, .f32⟩
  | 41 => ⟨S4x4x8192x1, .f32⟩
  | 42 => ⟨S4x4x8192x8448, .f32⟩
  | 43 => ⟨S4x4x8192x8448, .f32⟩
  | 44 => ⟨S4x4x8192x8448, .f32⟩
  | 45 => ⟨S_, .f32⟩
  | 46 => ⟨S4x4x8192, .f32⟩
  | 47 => ⟨S4x4x8192x1, .f32⟩
  | 48 => ⟨S4x4x8192x8448, .f32⟩
  | 49 => ⟨S4x4x8192x8448, .f32⟩
  | 50 => ⟨S4x4x8192x8448, .f32⟩
  | 51 => ⟨S_, .f32⟩
  | 52 => ⟨S4x4x8192x8448, .f32⟩
  | 53 => ⟨S4x4x8192x8448, .f32⟩
  | 54 => ⟨S_, .f32⟩
  | 55 => ⟨S4x4x8192, .f32⟩
  | 56 => ⟨S_, .f32⟩
  | 57 => ⟨S4x4x8192, .f32⟩
  | 58 => ⟨S4x4x8192, .f32⟩
  | 59 => ⟨S4x4x8192x1, .f32⟩
  | 60 => ⟨S4x4x8192x8448, .f32⟩
  | 61 => ⟨S4x4x8192x8448, .f32⟩
  | 62 => ⟨S4x4x8192x8448, .f32⟩
  | 63 => ⟨S_, .f32⟩
  | 64 => ⟨S4x4x8192, .f32⟩
  | 65 => ⟨S4x4x8192x1, .f32⟩
  | 66 => ⟨S4x4x8192x8448, .f32⟩
  | 67 => ⟨S4x4x8192x8448, .f32⟩
  | 68 => ⟨S4x4x8192x8448, .f32⟩
  | 69 => ⟨S4x4x8192x8448, .f32⟩
  | 70 => ⟨S4x4x8192x8448, .f32⟩
  | 71 => ⟨S4x4x8192x128, .f32⟩
  | 72 => ⟨S4x4x256x64, .f32⟩
  | 73 => ⟨S4x4x256x64, .f32⟩
  | 74 => ⟨S4x4x256x64, .f32⟩
  | 75 => ⟨S4x4x256x64, .f32⟩
  | 76 => ⟨S4x4x256x128, .f32⟩
  | 77 => ⟨S4x4x256x256, .f32⟩
  | 78 => ⟨S_, .f32⟩
  | 79 => ⟨S4x4x256x256, .f32⟩
  | 80 => ⟨S4x4x256x256, .f32⟩
  | 81 => ⟨S_, .f32⟩
  | 82 => ⟨S4x4x256, .f32⟩
  | 83 => ⟨S_, .f32⟩
  | 84 => ⟨S4x4x256, .f32⟩
  | 85 => ⟨S4x4x256, .f32⟩
  | 86 => ⟨S4x4x256x1, .f32⟩
  | 87 => ⟨S4x4x256x256, .f32⟩
  | 88 => ⟨S4x4x256x256, .f32⟩
  | 89 => ⟨S4x4x256x256, .f32⟩
  | 90 => ⟨S_, .f32⟩
  | 91 => ⟨S4x4x256, .f32⟩
  | 92 => ⟨S4x4x256x1, .f32⟩
  | 93 => ⟨S4x4x256x256, .f32⟩
  | 94 => ⟨S4x4x256x256, .f32⟩
  | 95 => ⟨S4x4x256x256, .f32⟩
  | 96 => ⟨S_, .f32⟩
  | 97 => ⟨S4x4x256x256, .f32⟩
  | 98 => ⟨S4x4x256x256, .f32⟩
  | 99 => ⟨S_, .f32⟩
  | 100 => ⟨S4x4x256, .f32⟩
  | 101 => ⟨S_, .f32⟩
  | 102 => ⟨S4x4x256, .f32⟩
  | 103 => ⟨S4x4x256, .f32⟩
  | 104 => ⟨S4x4x256x1, .f32⟩
  | 105 => ⟨S4x4x256x256, .f32⟩
  | 106 => ⟨S4x4x256x256, .f32⟩
  | 107 => ⟨S4x4x256x256, .f32⟩
  | 108 => ⟨S_, .f32⟩
  | 109 => ⟨S4x4x256, .f32⟩
  | 110 => ⟨S4x4x256x1, .f32⟩
  | 111 => ⟨S4x4x256x256, .f32⟩
  | 112 => ⟨S4x4x256x256, .f32⟩
  | 113 => ⟨S4x4x256x256, .f32⟩
  | 114 => ⟨S4x4x256x256, .f32⟩
  | 115 => ⟨S4x4x256x256, .f32⟩
  | 116 => ⟨S4x4x256x128, .f32⟩
  | 117 => ⟨S4x4x8192x128, .f32⟩
  | 118 => ⟨S_, .f32⟩
  | 119 => ⟨S4x4x8192, .f32⟩
  | 120 => ⟨S4x4x8192x1, .f32⟩
  | 121 => ⟨S_, .f32⟩
  | 122 => ⟨S4x4x8192x1, .f32⟩
  | 123 => ⟨S4x4x8192x1, .f32⟩
  | 124 => ⟨S_, .f32⟩
  | 125 => ⟨S4x4x8192x1, .f32⟩
  | 126 => ⟨S4x4x8192x1, .f32⟩
  | 127 => ⟨S4x4x8192x1, .f32⟩
  | _ => ⟨S4x8448x512, .f32⟩

abbrev hbmTy0_1 (i : Nat) : BufTy := match i % 128 with
  | 0 => ⟨S4x4x8192x128, .f32⟩
  | 1 => ⟨S4x4x8192x128, .f32⟩
  | 2 => ⟨S1x1x1x128, .f32⟩
  | 3 => ⟨S4x4x8192x128, .f32⟩
  | 4 => ⟨S4x4x8192x128, .f32⟩
  | 5 => ⟨S_, .f32⟩
  | 6 => ⟨S4x4x8192x128, .f32⟩
  | 7 => ⟨S4x4x8192x128, .f32⟩
  | 8 => ⟨S4x8192x4x128, .f32⟩
  | 9 => ⟨S4x8192x512, .f32⟩
  | 10 => ⟨S4x4x256x128, .f32⟩
  | 11 => ⟨S_, .f32⟩
  | 12 => ⟨S4x4x256, .f32⟩
  | 13 => ⟨S4x4x256x1, .f32⟩
  | 14 => ⟨S_, .f32⟩
  | 15 => ⟨S4x4x256x1, .f32⟩
  | 16 => ⟨S4x4x256x1, .f32⟩
  | 17 => ⟨S_, .f32⟩
  | 18 => ⟨S4x4x256x1, .f32⟩
  | 19 => ⟨S4x4x256x1, .f32⟩
  | 20 => ⟨S4x4x256x1, .f32⟩
  | 21 => ⟨S4x4x256x128, .f32⟩
  | 22 => ⟨S4x4x256x128, .f32⟩
  | 23 => ⟨S1x1x1x128, .f32⟩
  | 24 => ⟨S4x4x256x128, .f32⟩
  | 25 => ⟨S4x4x256x128, .f32⟩
  | 26 => ⟨S_, .f32⟩
  | 27 => ⟨S4x4x256x128, .f32⟩
  | 28 => ⟨S4x4x256x128, .f32⟩
  | 29 => ⟨S4x256x4x128, .f32⟩
  | 30 => ⟨S4x256x512, .f32⟩
  | 31 => ⟨S4x8448x512, .f32⟩
  | 32 => ⟨S4x8448x512, .bf16⟩
  | _ => ⟨S4x8448x512, .f32⟩

abbrev hbmTy (i : Nat) : BufTy := match i / 128 with
  | 0 => hbmTy0_0 i
  | 1 => hbmTy0_1 i
  | _ => ⟨S4x8448x512, .f32⟩

abbrev bufTy : (tb : Table) → Fin (tcTables nBuf tb) → BufTy
  | .hbm, ⟨i, _⟩ => hbmTy i
  | _, _ => ⟨S4x8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_13 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_cst_15 : Ref sig .tc := ⟨.hbm, 99, rfl⟩
abbrev main_v75 : Ref sig .tc := ⟨.hbm, 100, rfl⟩
abbrev main_cst_16 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_17 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_18 : Ref sig .tc := ⟨.hbm, 118, rfl⟩
abbrev main_v91 : Ref sig .tc := ⟨.hbm, 119, rfl⟩
abbrev main_v92 : Ref sig .tc := ⟨.hbm, 120, rfl⟩
abbrev main_cst_19 : Ref sig .tc := ⟨.hbm, 121, rfl⟩
abbrev main_v93 : Ref sig .tc := ⟨.hbm, 122, rfl⟩
abbrev main_v94 : Ref sig .tc := ⟨.hbm, 123, rfl⟩
abbrev main_cst_20 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_21 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_22 : Ref sig .tc := ⟨.hbm, 139, rfl⟩
abbrev main_v108 : Ref sig .tc := ⟨.hbm, 140, rfl⟩
abbrev main_v109 : Ref sig .tc := ⟨.hbm, 141, rfl⟩
abbrev main_cst_23 : Ref sig .tc := ⟨.hbm, 142, rfl⟩
abbrev main_v110 : Ref sig .tc := ⟨.hbm, 143, rfl⟩
abbrev main_v111 : Ref sig .tc := ⟨.hbm, 144, rfl⟩
abbrev main_cst_24 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_25 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩

abbrev nD : Nat := 1
abbrev τ : Topo := Topo.v7x

variable {F : FTy → Type} [FloatOps F]
-- ==== Kernel2.lean ====
abbrev S4x8448x512 : Shape := ⟨3, ![4, 8448, 512]⟩
abbrev S1024x1024 : Shape := ⟨2, ![1024, 1024]⟩
abbrev S4x8448x1024 : Shape := ⟨3, ![4, 8448, 1024]⟩
abbrev S4x6144 : Shape := ⟨2, ![4, 6144]⟩
abbrev S6144 : Shape := ⟨1, ![6144]⟩
abbrev S1024x5632 : Shape := ⟨2, ![1024, 5632]⟩
abbrev S3x2816 : Shape := ⟨2, ![3, 2816]⟩
abbrev S2816 : Shape := ⟨1, ![2816]⟩
abbrev S512x1024 : Shape := ⟨2, ![512, 1024]⟩
abbrev S4x1x6x1024 : Shape := ⟨4, ![4, 1, 6, 1024]⟩
abbrev S1x1x6x1024 : Shape := ⟨4, ![1, 1, 6, 1024]⟩
abbrev S4x2x6x1024 : Shape := ⟨4, ![4, 2, 6, 1024]⟩
abbrev S1x2816 : Shape := ⟨2, ![1, 2816]⟩
abbrev S4x8448x2816 : Shape := ⟨3, ![4, 8448, 2816]⟩
abbrev S1x256x512 : Shape := ⟨3, ![1, 256, 512]⟩
abbrev S1x16x512 : Shape := ⟨3, ![1, 16, 512]⟩
abbrev S1x256x1024 : Shape := ⟨3, ![1, 256, 1024]⟩
abbrev S1x16x1024 : Shape := ⟨3, ![1, 16, 1024]⟩
abbrev S1024x2816 : Shape := ⟨2, ![1024, 2816]⟩
abbrev S1x256x2816 : Shape := ⟨3, ![1, 256, 2816]⟩
abbrev S16x512 : Shape := ⟨2, ![16, 512]⟩
abbrev S256x512 : Shape := ⟨2, ![256, 512]⟩
abbrev S288x512 : Shape := ⟨2, ![288, 512]⟩
abbrev S288x1024 : Shape := ⟨2, ![288, 1024]⟩
abbrev S16x1024 : Shape := ⟨2, ![16, 1024]⟩
abbrev S256x1024 : Shape := ⟨2, ![256, 1024]⟩
abbrev S1x1x1x1024 : Shape := ⟨4, ![1, 1, 1, 1024]⟩
abbrev S1x1024 : Shape := ⟨2, ![1, 1024]⟩
abbrev S288 : Shape := ⟨1, ![288]⟩
abbrev S288x1 : Shape := ⟨2, ![288, 1]⟩
abbrev S1024x256 : Shape := ⟨2, ![1024, 256]⟩
abbrev S288x256 : Shape := ⟨2, ![288, 256]⟩
abbrev S256x256 : Shape := ⟨2, ![256, 256]⟩
abbrev S1x256 : Shape := ⟨2, ![1, 256]⟩
abbrev S1x256x256 : Shape := ⟨3, ![1, 256, 256]⟩

abbrev nBuf : Space → Nat
  | .hbm => 22
  | .vmem => 30
  | .smem => 0
  | _ => 0

abbrev bufTy : (tb : Table) → Fin (tcTables nBuf tb) → BufTy
  | .hbm, ⟨0, _⟩ => ⟨S4x8448x512, .f32⟩
  | .hbm, ⟨1, _⟩ => ⟨S4x8448x512, .f32⟩
  | .hbm, ⟨2, _⟩ => ⟨S1024x1024, .f32⟩
  | .hbm, ⟨3, _⟩ => ⟨S4x8448x1024, .f32⟩
  | .hbm, ⟨4, _⟩ => ⟨S4x6144, .f32⟩
  | .hbm, ⟨5, _⟩ => ⟨S6144, .f32⟩
  | .hbm, ⟨6, _⟩ => ⟨S1024x5632, .f32⟩
  | .hbm, ⟨7, _⟩ => ⟨S3x2816, .f32⟩
  | .hbm, ⟨8, _⟩ => ⟨S2816, .f32⟩
  | .hbm, ⟨9, _⟩ => ⟨S1024x1024, .bf16⟩
  | .hbm, ⟨10, _⟩ => ⟨S4x8448x512, .bf16⟩
  | .hbm, ⟨11, _⟩ => ⟨S4x8448x512, .bf16⟩
  | .hbm, ⟨12, _⟩ => ⟨S512x1024, .bf16⟩
  | .hbm, ⟨13, _⟩ => ⟨S512x1024, .bf16⟩
  | .hbm, ⟨14, _⟩ => ⟨S4x1x6x1024, .f32⟩
  | .hbm, ⟨15, _⟩ => ⟨S1x1x6x1024, .f32⟩
  | .hbm, ⟨16, _⟩ => ⟨S4x1x6x1024, .f32⟩
  | .hbm, ⟨17, _⟩ => ⟨S4x2x6x1024, .f32⟩
  | .hbm, ⟨18, _⟩ => ⟨S1024x5632, .bf16⟩
  | .hbm, ⟨19, _⟩ => ⟨S1x2816, .f32⟩
  | .hbm, ⟨20, _⟩ => ⟨S4x8448x1024, .f32⟩
  | .hbm, ⟨21, _⟩ => ⟨S4x8448x2816, .bf16⟩
  | .local _ .vmem, ⟨0, _⟩ => ⟨S1x256x512, .bf16⟩
  | .local _ .vmem, ⟨1, _⟩ => ⟨S1x256x512, .bf16⟩
  | .local _ .vmem, ⟨2, _⟩ => ⟨S1x16x512, .bf16⟩
  | .local _ .vmem, ⟨3, _⟩ => ⟨S1x16x512, .bf16⟩
  | .local _ .vmem, ⟨4, _⟩ => ⟨S1x16x512, .bf16⟩
  | .local _ .vmem, ⟨5, _⟩ => ⟨S1x16x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x256x1024, .f32⟩
  | .local _ .vmem, ⟨13, _⟩ => ⟨S1x256x1024, .f32⟩
  | .local _ .vmem, ⟨14, _⟩ => ⟨S1x16x1024, .f32⟩
  | .local _ .vmem, ⟨15, _⟩ => ⟨S1x16x1024, .f32⟩
  | .local _ .vmem, ⟨16, _⟩ => ⟨S1x16x1024, .f32⟩
  | .local _ .vmem, ⟨17, _⟩ => ⟨S1x16x1024, .f32⟩
  | .local _ .vmem, ⟨18, _⟩ => ⟨S512x1024, .bf16⟩
  | .local _ .vmem, ⟨19, _⟩ => ⟨S512x1024, .bf16⟩
  | .local _ .vmem, ⟨20, _⟩ => ⟨S1x1x6x1024, .f32⟩
  | .local _ .vmem, ⟨21, _⟩ => ⟨S1x1x6x1024, .f32⟩
  | .local _ .vmem, ⟨22, _⟩ => ⟨S1024x2816, .bf16⟩
  | .local _ .vmem, ⟨23, _⟩ => ⟨S1024x2816, .bf16⟩
  | .local _ .vmem, ⟨24, _⟩ => ⟨S3x2816, .f32⟩
  | .local _ .vmem, ⟨25, _⟩ => ⟨S1x2816, .f32⟩
  | .local _ .vmem, ⟨26, _⟩ => ⟨S1x256x1024, .f32⟩
  | .local _ .vmem, ⟨27, _⟩ => ⟨S1x256x1024, .f32⟩
  | .local _ .vmem, ⟨28, _⟩ => ⟨S1x256x2816, .bf16⟩
  | .local _ .vmem, ⟨29, _⟩ => ⟨S1x256x2816, .bf16⟩
  | _, _ => ⟨S4x8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  let c0_i32_0 : BitVec 32 := 0#32
  ![arg0.toNat, v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg1 c32_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg1 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x6x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference2Ideal.lean ====
abbrev S4x8448x512 : Shape := ⟨3, ![4, 8448, 512]⟩
abbrev S1024x1024 : Shape := ⟨2, ![1024, 1024]⟩
abbrev S4x8448x1024 : Shape := ⟨3, ![4, 8448, 1024]⟩
abbrev S4x6144 : Shape := ⟨2, ![4, 6144]⟩
abbrev S6144 : Shape := ⟨1, ![6144]⟩
abbrev S1024x5632 : Shape := ⟨2, ![1024, 5632]⟩
abbrev S3x2816 : Shape := ⟨2, ![3, 2816]⟩
abbrev S2816 : Shape := ⟨1, ![2816]⟩
abbrev S4x1024 : Shape := ⟨2, ![4, 1024]⟩
abbrev S1024 : Shape := ⟨1, ![1024]⟩
abbrev S4x1x1024 : Shape := ⟨3, ![4, 1, 1024]⟩
abbrev S4x8192x1024 : Shape := ⟨3, ![4, 8192, 1024]⟩
abbrev S4x256x1024 : Shape := ⟨3, ![4, 256, 1024]⟩
abbrev S_ : Shape := ⟨0, ![]⟩
abbrev S4x8448 : Shape := ⟨2, ![4, 8448]⟩
abbrev S4x8448x1 : Shape := ⟨3, ![4, 8448, 1]⟩
abbrev S4x8448x5632 : Shape := ⟨3, ![4, 8448, 5632]⟩
abbrev S4x8448x2816 : Shape := ⟨3, ![4, 8448, 2816]⟩
abbrev S8448 : Shape := ⟨1, ![8448]⟩
abbrev S8448x1 : Shape := ⟨2, ![8448, 1]⟩
abbrev S4x1x2816 : Shape := ⟨3, ![4, 1, 2816]⟩
abbrev S4x8447x2816 : Shape := ⟨3, ![4, 8447, 2816]⟩
abbrev S1x2816 : Shape := ⟨2, ![1, 2816]⟩
abbrev S1x1x2816 : Shape := ⟨3, ![1, 1, 2816]⟩

abbrev nBuf : Space → Nat
  | .hbm => 107
  | .vmem => 0
  | .smem => 0
  | _ => 0

abbrev bufTy : (tb : Table) → Fin (tcTables nBuf tb) → BufTy
  | .hbm, ⟨0, _⟩ => ⟨S4x8448x512, .f32⟩
  | .hbm, ⟨1, _⟩ => ⟨S4x8448x512, .f32⟩
  | .hbm, ⟨2, _⟩ => ⟨S1024x1024, .f32⟩
  | .hbm, ⟨3, _⟩ => ⟨S4x8448x1024, .f32⟩
  | .hbm, ⟨4, _⟩ => ⟨S4x6144, .f32⟩
  | .hbm, ⟨5, _⟩ => ⟨S6144, .f32⟩
  | .hbm, ⟨6, _⟩ => ⟨S1024x5632, .f32⟩
  | .hbm, ⟨7, _⟩ => ⟨S3x2816, .f32⟩
  | .hbm, ⟨8, _⟩ => ⟨S2816, .f32⟩
  | .hbm, ⟨9, _⟩ => ⟨S4x8448x1024, .f32⟩
  | .hbm, ⟨10, _⟩ => ⟨S4x1024, .f32⟩
  | .hbm, ⟨11, _⟩ => ⟨S1024, .f32⟩
  | .hbm, ⟨12, _⟩ => ⟨S4x1x1024, .f32⟩
  | .hbm, ⟨13, _⟩ => ⟨S4x8192x1024, .f32⟩
  | .hbm, ⟨14, _⟩ => ⟨S4x256x1024, .f32⟩
  | .hbm, ⟨15, _⟩ => ⟨S4x8448x1024, .f32⟩
  | .hbm, ⟨16, _⟩ => ⟨S4x8448x1024, .f32⟩
  | .hbm, ⟨17, _⟩ => ⟨S4x8448x1024, .f32⟩
  | .hbm, ⟨18, _⟩ => ⟨S4x8448x1024, .f32⟩
  | .hbm, ⟨19, _⟩ => ⟨S4x1024, .f32⟩
  | .hbm, ⟨20, _⟩ => ⟨S1024, .f32⟩
  | .hbm, ⟨21, _⟩ => ⟨S4x1x1024, .f32⟩
  | .hbm, ⟨22, _⟩ => ⟨S4x8192x1024, .f32⟩
  | .hbm, ⟨23, _⟩ => ⟨S4x256x1024, .f32⟩
  | .hbm, ⟨24, _⟩ => ⟨S4x8448x1024, .f32⟩
  | .hbm, ⟨25, _⟩ => ⟨S4x1024, .f32⟩
  | .hbm, ⟨26, _⟩ => ⟨S1024, .f32⟩
  | .hbm, ⟨27, _⟩ => ⟨S4x1x1024, .f32⟩
  | .hbm, ⟨28, _⟩ => ⟨S4x8192x1024, .f32⟩
  | .hbm, ⟨29, _⟩ => ⟨S4x256x1024, .f32⟩
  | .hbm, ⟨30, _⟩ => ⟨S4x8448x1024, .f32⟩
  | .hbm, ⟨31, _⟩ => ⟨S4x8448x1024, .f32⟩
  | .hbm, ⟨32, _⟩ => ⟨S_, .f32⟩
  | .hbm, ⟨33, _⟩ => ⟨S4x8448, .f32⟩
  | .hbm, ⟨34, _⟩ => ⟨S4x8448x1, .f32⟩
  | .hbm, ⟨35, _⟩ => ⟨S_, .f32⟩
  | .hbm, ⟨36, _⟩ => ⟨S4x8448x1, .f32⟩
  | .hbm, ⟨37, _⟩ => ⟨S4x8448x1, .f32⟩
  | .hbm, ⟨38, _⟩ => ⟨S_, .f32⟩
  | .hbm, ⟨39, _⟩ => ⟨S4x8448x1, .f32⟩
  | .hbm, ⟨40, _⟩ => ⟨S4x8448x1, .f32⟩
  | .hbm, ⟨41, _⟩ => ⟨S4x8448x1, .f32⟩
  | .hbm, ⟨42, _⟩ => ⟨S4x8448x1024, .f32⟩
  | .hbm, ⟨43, _⟩ => ⟨S4x8448x1024, .f32⟩
  | .hbm, ⟨44, _⟩ => ⟨S_, .f32⟩
  | .hbm, ⟨45, _⟩ => ⟨S4x8448x1024, .f32⟩
  | .hbm, ⟨46, _⟩ => ⟨S4x8448x1024, .f32⟩
  | .hbm, ⟨47, _⟩ => ⟨S4x8448x1024, .f32⟩
  | .hbm, ⟨48, _⟩ => ⟨S4x8448x1024, .f32⟩
  | .hbm, ⟨49, _⟩ => ⟨S4x8448x5632, .f32⟩
  | .hbm, ⟨50, _⟩ => ⟨S4x8448x2816, .f32⟩
  | .hbm, ⟨51, _⟩ => ⟨S4x8448x2816, .f32⟩
  | .hbm, ⟨52, _⟩ => ⟨S8448, .i32⟩
  | .hbm, ⟨53, _⟩ => ⟨S8448x1, .i32⟩
  | .hbm, ⟨54, _⟩ => ⟨S_, .f32⟩
  | .hbm, ⟨55, _⟩ => ⟨S4x1x2816, .f32⟩
  | .hbm, ⟨56, _⟩ => ⟨S_, .i32⟩
  | .hbm, ⟨57, _⟩ => ⟨S8448x1, .i32⟩
  | .hbm, ⟨58, _⟩ => ⟨S8448x1, .i1⟩
  | .hbm, ⟨59, _⟩ => ⟨S4x8447x2816, .f32⟩
  | .hbm, ⟨60, _⟩ => ⟨S4x8448x2816, .f32⟩
  | .hbm, ⟨61, _⟩ => ⟨S_, .f32⟩
  | .hbm, ⟨62, _⟩ => ⟨S_, .f32⟩
  | .hbm, ⟨63, _⟩ => ⟨S4x8448x2816, .i1⟩
  | .hbm, ⟨64, _⟩ => ⟨S4x8448x2816, .f32⟩
  | .hbm, ⟨65, _⟩ => ⟨S4x8448x2816, .f32⟩
  | .hbm, ⟨66, _⟩ => ⟨S_, .i32⟩
  | .hbm, ⟨67, _⟩ => ⟨S8448x1, .i32⟩
  | .hbm, ⟨68, _⟩ => ⟨S8448x1, .i1⟩
  | .hbm, ⟨69, _⟩ => ⟨S4x8447x2816, .f32⟩
  | .hbm, ⟨70, _⟩ => ⟨S4x8448x2816, .f32⟩
  | .hbm, ⟨71, _⟩ => ⟨S_, .f32⟩
  | .hbm, ⟨72, _⟩ => ⟨S_, .f32⟩
  | .hbm, ⟨73, _⟩ => ⟨S4x8448x2816, .i1⟩
  | .hbm, ⟨74, _⟩ => ⟨S4x8448x2816, .f32⟩
  | .hbm, ⟨75, _⟩ => ⟨S4x8448x2816, .f32⟩
  | .hbm, ⟨76, _⟩ => ⟨S1x2816, .f32⟩
  | .hbm, ⟨77, _⟩ => ⟨S2816, .f32⟩
  | .hbm, ⟨78, _⟩ => ⟨S1x1x2816, .f32⟩
  | .hbm, ⟨79, _⟩ => ⟨S4x8448x2816, .f32⟩
  | .hbm, ⟨80, _⟩ => ⟨S4x8448x2816, .f32⟩
  | .hbm, ⟨81, _⟩ => ⟨S1x2816, .f32⟩
  | .hbm, ⟨82, _⟩ => ⟨S2816, .f32⟩
  | .hbm, ⟨83, _⟩ => ⟨S1x1x2816, .f32⟩
  | .hbm, ⟨84, _⟩ => ⟨S4x8448x2816, .f32⟩
  | .hbm, ⟨85, _⟩ => ⟨S4x8448x2816, .f32⟩
  | .hbm, ⟨86, _⟩ => ⟨S4x8448x2816, .f32⟩
  | .hbm, ⟨87, _⟩ => ⟨S1x2816, .f32⟩
  | .hbm, ⟨88, _⟩ => ⟨S2816, .f32⟩
  | .hbm, ⟨89, _⟩ => ⟨S1x1x2816, .f32⟩
  | .hbm, ⟨90, _⟩ => ⟨S4x8448x2816, .f32⟩
  | .hbm, ⟨91, _⟩ => ⟨S4x8448x2816, .f32⟩
  | .hbm, ⟨92, _⟩ => ⟨S4x8448x2816, .f32⟩
  | .hbm, ⟨93, _⟩ => ⟨S1x1x2816, .f32⟩
  | .hbm, ⟨94, _⟩ => ⟨S4x8448x2816, .f32⟩
  | .hbm, ⟨95, _⟩ => ⟨S4x8448x2816, .f32⟩
  | .hbm, ⟨96, _⟩ => ⟨S4x8448x2816, .f32⟩
  | .hbm, ⟨97, _⟩ => ⟨S4x8448x2816, .f32⟩
  | .hbm, ⟨98, _⟩ => ⟨S_, .f32⟩
  | .hbm, ⟨99, _⟩ => ⟨S4x8448x2816, .f32⟩
  | .hbm, ⟨100, _⟩ => ⟨S4x8448x2816, .f32⟩
  | .hbm, ⟨101, _⟩ => ⟨S_, .f32⟩
  | .hbm, ⟨102, _⟩ => ⟨S4x8448x2816, .f32⟩
  | .hbm, ⟨103, _⟩ => ⟨S4x8448x2816, .f32⟩
  | .hbm, ⟨104, _⟩ => ⟨S4x8448x2816, .f32⟩
  | .hbm, ⟨105, _⟩ => ⟨S4x8448x2816, .f32⟩
  | .hbm, ⟨106, _⟩ => ⟨S4x8448x2816, .bf16⟩
  | _, _ => ⟨S4x8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_c : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v46 : Ref sig .tc := ⟨.hbm, 65, rfl⟩
abbrev main_c_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Kernel3.lean ====
abbrev S4x8448x2816 : Shape := ⟨3, ![4, 8448, 2816]⟩
abbrev S2816x1024 : Shape := ⟨2, ![2816, 1024]⟩
abbrev S4x8448x1024 : Shape := ⟨3, ![4, 8448, 1024]⟩
abbrev S4x6144 : Shape := ⟨2, ![4, 6144]⟩
abbrev S6144 : Shape := ⟨1, ![6144]⟩
abbrev S4x1x6x1024 : Shape := ⟨4, ![4, 1, 6, 1024]⟩
abbrev S1x1x6x1024 : Shape := ⟨4, ![1, 1, 6, 1024]⟩
abbrev S4x2x6x1024 : Shape := ⟨4, ![4, 2, 6, 1024]⟩
abbrev S4x8192x1024 : Shape := ⟨3, ![4, 8192, 1024]⟩
abbrev S4x256x2816 : Shape := ⟨3, ![4, 256, 2816]⟩
abbrev S4x256x1024 : Shape := ⟨3, ![4, 256, 1024]⟩
abbrev S1x256x2816 : Shape := ⟨3, ![1, 256, 2816]⟩
abbrev S256x2816 : Shape := ⟨2, ![256, 2816]⟩
abbrev S1024x2816 : Shape := ⟨2, ![1024, 2816]⟩
abbrev S1024x1024 : Shape := ⟨2, ![1024, 1024]⟩
abbrev S1x256x1024 : Shape := ⟨3, ![1, 256, 1024]⟩
abbrev S256x1024 : Shape := ⟨2, ![256, 1024]⟩
abbrev S1x1x1x1024 : Shape := ⟨4, ![1, 1, 1, 1024]⟩
abbrev S1x1024 : Shape := ⟨2, ![1, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x8448x2816, .f32⟩
  | .hbm, ⟨1, _⟩ => ⟨S2816x1024, .f32⟩
  | .hbm, ⟨2, _⟩ => ⟨S4x8448x1024, .f32⟩
  | .hbm, ⟨3, _⟩ => ⟨S4x6144, .f32⟩
  | .hbm, ⟨4, _⟩ => ⟨S6144, .f32⟩
  | .hbm, ⟨5, _⟩ => ⟨S4x8448x2816, .bf16⟩
  | .hbm, ⟨6, _⟩ => ⟨S2816x1024, .bf16⟩
  | .hbm, ⟨7, _⟩ => ⟨S4x1x6x1024, .f32⟩
  | .hbm, ⟨8, _⟩ => ⟨S1x1x6x1024, .f32⟩
  | .hbm, ⟨9, _⟩ => ⟨S4x1x6x1024, .f32⟩
  | .hbm, ⟨10, _⟩ => ⟨S4x2x6x1024, .f32⟩
  | .hbm, ⟨11, _⟩ => ⟨S4x8192x1024, .f32⟩
  | .local _ .vmem, ⟨0, _⟩ => ⟨S4x256x2816, .bf16⟩
  | .local _ .vmem, ⟨1, _⟩ => ⟨S4x256x2816, .bf16⟩
  | .local _ .vmem, ⟨2, _⟩ => ⟨S2816x1024, .bf16⟩
  | .local _ .vmem, ⟨3, _⟩ => ⟨S4x256x1024, .f32⟩
  | .local _ .vmem, ⟨4, _⟩ => ⟨S4x256x1024, .f32⟩
  | .local _ .vmem, ⟨5, _⟩ => ⟨S4x1x6x1024, .f32⟩
  | .local _ .vmem, ⟨6, _⟩ => ⟨S4x256x1024, .f32⟩
  | .local _ .vmem, ⟨7, _⟩ => ⟨S4x256x1024, .f32⟩
  | _, _ => ⟨S4x8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S4x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4x8448x2816 : Shape := ⟨3, ![4, 8448, 2816]⟩
abbrev S2816x1024 : Shape := ⟨2, ![2816, 1024]⟩
abbrev S4x8448x1024 : Shape := ⟨3, ![4, 8448, 1024]⟩
abbrev S4x6144 : Shape := ⟨2, ![4, 6144]⟩
abbrev S6144 : Shape := ⟨1, ![6144]⟩
abbrev S4x1x6144 : Shape := ⟨3, ![4, 1, 6144]⟩
abbrev S4x1x1024 : Shape := ⟨3, ![4, 1, 1024]⟩
abbrev S4x8192x1024 : Shape := ⟨3, ![4, 8192, 1024]⟩
abbrev S4x8192x2816 : Shape := ⟨3, ![4, 8192, 2816]⟩

abbrev nBuf : Space → Nat
  | .hbm => 18
  | .vmem => 0
  | .smem => 0
  | _ => 0

abbrev bufTy : (tb : Table) → Fin (tcTables nBuf tb) → BufTy
  | .hbm, ⟨0, _⟩ => ⟨S4x8448x2816, .f32⟩
  | .hbm, ⟨1, _⟩ => ⟨S2816x1024, .f32⟩
  | .hbm, ⟨2, _⟩ => ⟨S4x8448x1024, .f32⟩
  | .hbm, ⟨3, _⟩ => ⟨S4x6144, .f32⟩
  | .hbm, ⟨4, _⟩ => ⟨S6144, .f32⟩
  | .hbm, ⟨5, _⟩ => ⟨S4x1x6144, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x8192x1024, .f32⟩
  | .hbm, ⟨13, _⟩ => ⟨S4x8192x2816, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | _, _ => ⟨S4x8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel4.lean ====
abbrev S4x8448x2816 : Shape := ⟨3, ![4, 8448, 2816]⟩
abbrev S2816x1024 : Shape := ⟨2, ![2816, 1024]⟩
abbrev S4x8448x1024 : Shape := ⟨3, ![4, 8448, 1024]⟩
abbrev S4x6144 : Shape := ⟨2, ![4, 6144]⟩
abbrev S6144 : Shape := ⟨1, ![6144]⟩
abbrev S4x1x6x1024 : Shape := ⟨4, ![4, 1, 6, 1024]⟩
abbrev S1x1x6x1024 : Shape := ⟨4, ![1, 1, 6, 1024]⟩
abbrev S4x2x6x1024 : Shape := ⟨4, ![4, 2, 6, 1024]⟩
abbrev S4x256x2816 : Shape := ⟨3, ![4, 256, 2816]⟩
abbrev S4x256x1024 : Shape := ⟨3, ![4, 256, 1024]⟩
abbrev S1x256x2816 : Shape := ⟨3, ![1, 256, 2816]⟩
abbrev S256x2816 : Shape := ⟨2, ![256, 2816]⟩
abbrev S1024x2816 : Shape := ⟨2, ![1024, 2816]⟩
abbrev S1024x1024 : Shape := ⟨2, ![1024, 1024]⟩
abbrev S1x256x1024 : Shape := ⟨3, ![1, 256, 1024]⟩
abbrev S256x1024 : Shape := ⟨2, ![256, 1024]⟩
abbrev S1x1x1x1024 : Shape := ⟨4, ![1, 1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 19
  | .vmem => 13
  | .smem => 0
  | _ => 0

abbrev bufTy : (tb : Table) → Fin (tcTables nBuf tb) → BufTy
  | .hbm, ⟨0, _⟩ => ⟨S4x8448x2816, .f32⟩
  | .hbm, ⟨1, _⟩ => ⟨S2816x1024, .f32⟩
  | .hbm, ⟨2, _⟩ => ⟨S4x8448x1024, .f32⟩
  | .hbm, ⟨3, _⟩ => ⟨S4x6144, .f32⟩
  | .hbm, ⟨4, _⟩ => ⟨S6144, .f32⟩
  | .hbm, ⟨5, _⟩ => ⟨S4x6144, .f32⟩
  | .hbm, ⟨6, _⟩ => ⟨S6144, .f32⟩
  | .hbm, ⟨7, _⟩ => ⟨S4x8448x2816, .bf16⟩
  | .hbm, ⟨8, _⟩ => ⟨S2816x1024, .bf16⟩
  | .hbm, ⟨9, _⟩ => ⟨S4x1x6x1024, .f32⟩
  | .hbm, ⟨10, _⟩ => ⟨S1x1x6x1024, .f32⟩
  | .hbm, ⟨11, _⟩ => ⟨S4x1x6x1024, .f32⟩
  | .hbm, ⟨12, _⟩ => ⟨S4x2x6x1024, .f32⟩
  | .hbm, ⟨13, _⟩ => ⟨S4x1x6x1024, .f32⟩
  | .hbm, ⟨14, _⟩ => ⟨S1x1x6x1024, .f32⟩
  | .hbm, ⟨15, _⟩ => ⟨S4x1x6x1024, .f32⟩
  | .hbm, ⟨16, _⟩ => ⟨S4x2x6x1024, .f32⟩
  | .hbm, ⟨17, _⟩ => ⟨S4x8448x1024, .f32⟩
  | .hbm, ⟨18, _⟩ => ⟨S4x8448x1024, .bf16⟩
  | .local _ .vmem, ⟨0, _⟩ => ⟨S4x256x2816, .bf16⟩
  | .local _ .vmem, ⟨1, _⟩ => ⟨S4x256x2816, .bf16⟩
  | .local _ .vmem, ⟨2, _⟩ => ⟨S2816x1024, .bf16⟩
  | .local _ .vmem, ⟨3, _⟩ => ⟨S4x256x1024, .f32⟩
  | .local _ .vmem, ⟨4, _⟩ => ⟨S4x256x1024, .f32⟩
  | .local _ .vmem, ⟨5, _⟩ => ⟨S4x1x6x1024, .f32⟩
  | .local _ .vmem, ⟨6, _⟩ => ⟨S4x1x6x1024, .f32⟩
  | .local _ .vmem, ⟨7, _⟩ => ⟨S4x1x6x1024, .f32⟩
  | .local _ .vmem, ⟨8, _⟩ => ⟨S4x1x6x1024, .f32⟩
  | .local _ .vmem, ⟨9, _⟩ => ⟨S4x256x1024, .f32⟩
  | .local _ .vmem, ⟨10, _⟩ => ⟨S4x256x1024, .f32⟩
  | .local _ .vmem, ⟨11, _⟩ => ⟨S4x256x1024, .bf16⟩
  | .local _ .vmem, ⟨12, _⟩ => ⟨S4x256x1024, .bf16⟩
  | _, _ => ⟨S4x8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg1 c32_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg1 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg1 c32_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg1 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4x8448x2816 : Shape := ⟨3, ![4, 8448, 2816]⟩
abbrev S2816x1024 : Shape := ⟨2, ![2816, 1024]⟩
abbrev S4x8448x1024 : Shape := ⟨3, ![4, 8448, 1024]⟩
abbrev S4x6144 : Shape := ⟨2, ![4, 6144]⟩
abbrev S6144 : Shape := ⟨1, ![6144]⟩
abbrev S4x1024 : Shape := ⟨2, ![4, 1024]⟩
abbrev S1024 : Shape := ⟨1, ![1024]⟩
abbrev S4x1x1024 : Shape := ⟨3, ![4, 1, 1024]⟩
abbrev S4x8192x1024 : Shape := ⟨3, ![4, 8192, 1024]⟩
abbrev S4x256x1024 : Shape := ⟨3, ![4, 256, 1024]⟩
abbrev S_ : Shape := ⟨0, ![]⟩
abbrev S4x8448 : Shape := ⟨2, ![4, 8448]⟩
abbrev S4x8448x1 : Shape := ⟨3, ![4, 8448, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x8448x2816, .f32⟩
  | .hbm, ⟨1, _⟩ => ⟨S2816x1024, .f32⟩
  | .hbm, ⟨2, _⟩ => ⟨S4x8448x1024, .f32⟩
  | .hbm, ⟨3, _⟩ => ⟨S4x6144, .f32⟩
  | .hbm, ⟨4, _⟩ => ⟨S6144, .f32⟩
  | .hbm, ⟨5, _⟩ => ⟨S4x6144, .f32⟩
  | .hbm, ⟨6, _⟩ => ⟨S6144, .f32⟩
  | .hbm, ⟨7, _⟩ => ⟨S4x1024, .f32⟩
  | .hbm, ⟨8, _⟩ => ⟨S1024, .f32⟩
  | .hbm, ⟨9, _⟩ => ⟨S4x1x1024, .f32⟩
  | .hbm, ⟨10, _⟩ => ⟨S4x8192x1024, .f32⟩
  | .hbm, ⟨11, _⟩ => ⟨S4x256x1024, .f32⟩
  | .hbm, ⟨12, _⟩ => ⟨S4x8448x1024, .f32⟩
  | .hbm, ⟨13, _⟩ => ⟨S4x8448x1024, .f32⟩
  | .hbm, ⟨14, _⟩ => ⟨S4x8448x1024, .f32⟩
  | .hbm, ⟨15, _⟩ => ⟨S4x8448x1024, .f32⟩
  | .hbm, ⟨16, _⟩ => ⟨S4x1024, .f32⟩
  | .hbm, ⟨17, _⟩ => ⟨S1024, .f32⟩
  | .hbm, ⟨18, _⟩ => ⟨S4x1x1024, .f32⟩
  | .hbm, ⟨19, _⟩ => ⟨S4x8192x1024, .f32⟩
  | .hbm, ⟨20, _⟩ => ⟨S4x256x1024, .f32⟩
  | .hbm, ⟨21, _⟩ => ⟨S4x8448x1024, .f32⟩
  | .hbm, ⟨22, _⟩ => ⟨S4x1024, .f32⟩
  | .hbm, ⟨23, _⟩ => ⟨S1024, .f32⟩
  | .hbm, ⟨24, _⟩ => ⟨S4x1x1024, .f32⟩
  | .hbm, ⟨25, _⟩ => ⟨S4x8192x1024, .f32⟩
  | .hbm, ⟨26, _⟩ => ⟨S4x256x1024, .f32⟩
  | .hbm, ⟨27, _⟩ => ⟨S4x8448x1024, .f32⟩
  | .hbm, ⟨28, _⟩ => ⟨S4x8448x1024, .f32⟩
  | .hbm, ⟨29, _⟩ => ⟨S_, .f32⟩
  | .hbm, ⟨30, _⟩ => ⟨S4x8448, .f32⟩
  | .hbm, ⟨31, _⟩ => ⟨S4x8448x1, .f32⟩
  | .hbm, ⟨32, _⟩ => ⟨S_, .f32⟩
  | .hbm, ⟨33, _⟩ => ⟨S4x8448x1, .f32⟩
  | .hbm, ⟨34, _⟩ => ⟨S4x8448x1, .f32⟩
  | .hbm, ⟨35, _⟩ => ⟨S_, .f32⟩
  | .hbm, ⟨36, _⟩ => ⟨S4x8448x1, .f32⟩
  | .hbm, ⟨37, _⟩ => ⟨S4x8448x1, .f32⟩
  | .hbm, ⟨38, _⟩ => ⟨S4x8448x1, .f32⟩
  | .hbm, ⟨39, _⟩ => ⟨S4x8448x1024, .f32⟩
  | .hbm, ⟨40, _⟩ => ⟨S4x8448x1024, .f32⟩
  | .hbm, ⟨41, _⟩ => ⟨S_, .f32⟩
  | .hbm, ⟨42, _⟩ => ⟨S4x8448x1024, .f32⟩
  | .hbm, ⟨43, _⟩ => ⟨S4x8448x1024, .f32⟩
  | .hbm, ⟨44, _⟩ => ⟨S4x8448x1024, .f32⟩
  | .hbm, ⟨45, _⟩ => ⟨S4x8448x1024, .f32⟩
  | .hbm, ⟨46, _⟩ => ⟨S4x8448x1024, .bf16⟩
  | _, _ => ⟨S4x8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel5.lean ====
abbrev S4x8448x512 : Shape := ⟨3, ![4, 8448, 512]⟩
abbrev S4x8448x128 : Shape := ⟨3, ![4, 8448, 128]⟩
abbrev S_ : Shape := ⟨0, ![]⟩
abbrev S4x512x8448 : Shape := ⟨3, ![4, 512, 8448]⟩
abbrev S4x8448x2x1x64 : Shape := ⟨5, ![4, 8448, 2, 1, 64]⟩
abbrev S4x8448x2x2x64 : Shape := ⟨5, ![4, 8448, 2, 2, 64]⟩
abbrev S4x8448x256 : Shape := ⟨3, ![4, 8448, 256]⟩
abbrev S4x128x8448 : Shape := ⟨3, ![4, 128, 8448]⟩
abbrev S4x2x64x8448 : Shape := ⟨4, ![4, 2, 64, 8448]⟩
abbrev S4x2x16x8448 : Shape := ⟨4, ![4, 2, 16, 8448]⟩
abbrev S4x2x80x8448 : Shape := ⟨4, ![4, 2, 80, 8448]⟩
abbrev S1x256x256 : Shape := ⟨3, ![1, 256, 256]⟩
abbrev S1x8448x128 : Shape := ⟨3, ![1, 8448, 128]⟩
abbrev S1x1x80x8448 : Shape := ⟨4, ![1, 1, 80, 8448]⟩
abbrev S2x4x256x256 : Shape := ⟨4, ![2, 4, 256, 256]⟩
abbrev S4x256x256 : Shape := ⟨3, ![4, 256, 256]⟩
abbrev S4x80x256 : Shape := ⟨3, ![4, 80, 256]⟩
abbrev S4x1x256 : Shape := ⟨3, ![4, 1, 256]⟩
abbrev S3x4x1x256 : Shape := ⟨4, ![3, 4, 1, 256]⟩
abbrev S128x256 : Shape := ⟨2, ![128, 256]⟩
abbrev S1x128x256 : Shape := ⟨3, ![1, 128, 256]⟩
abbrev S1x256x128 : Shape := ⟨3, ![1, 256, 128]⟩
abbrev S256x128 : Shape := ⟨2, ![256, 128]⟩
abbrev S256x256 : Shape := ⟨2, ![256, 256]⟩
abbrev S1x1x256x256 : Shape := ⟨4, ![1, 1, 256, 256]⟩
abbrev S1x1x256 : Shape := ⟨3, ![1, 1, 256]⟩
abbrev S1x256 : Shape := ⟨2, ![1, 256]⟩
abbrev S256 : Shape := ⟨1, ![256]⟩
abbrev S1x1x1x256 : Shape := ⟨4, ![1, 1, 1, 256]⟩
abbrev S1x1x80x256 : Shape := ⟨4, ![1, 1, 80, 256]⟩
abbrev S80x256 : Shape := ⟨2, ![80, 256]⟩
abbrev S1x80x256 : Shape := ⟨3, ![1, 80, 256]⟩
abbrev S1x64x256 : Shape := ⟨3, ![1, 64, 256]⟩
abbrev S64x256 : Shape := ⟨2, ![64, 256]⟩

abbrev nBuf : Space → Nat
  | .hbm => 23
  | .vmem => 17
  | .smem => 0
  | _ => 0

abbrev bufTy : (tb : Table) → Fin (tcTables nBuf tb) → BufTy
  | .hbm, ⟨0, _⟩ => ⟨S4x8448x512, .f32⟩
  | .hbm, ⟨1, _⟩ => ⟨S4x8448x128, .f32⟩
  | .hbm, ⟨2, _⟩ => ⟨S4x8448x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x8448x512, .f32⟩
  | .hbm, ⟨9, _⟩ => ⟨S4x8448x512, .f32⟩
  | .hbm, ⟨10, _⟩ => ⟨S4x512x8448, .f32⟩
  | .hbm, ⟨11, _⟩ => ⟨S4x512x8448, .bf16⟩
  | .hbm, ⟨12, _⟩ => ⟨S4x8448x2x1x64, .f32⟩
  | .hbm, ⟨13, _⟩ => ⟨S4x8448x2x2x64, .f32⟩
  | .hbm, ⟨14, _⟩ => ⟨S4x8448x256, .f32⟩
  | .hbm, ⟨15, _⟩ => ⟨S4x8448x256, .bf16⟩
  | .hbm, ⟨16, _⟩ => ⟨S4x128x8448, .f32⟩
  | .hbm, ⟨17, _⟩ => ⟨S4x2x64x8448, .f32⟩
  | .hbm, ⟨18, _⟩ => ⟨S4x2x64x8448, .bf16⟩
  | .hbm, ⟨19, _⟩ => ⟨S_, .bf16⟩
  | .hbm, ⟨20, _⟩ => ⟨S4x2x16x8448, .bf16⟩
  | .hbm, ⟨21, _⟩ => ⟨S4x2x80x8448, .bf16⟩
  | .hbm, ⟨22, _⟩ => ⟨S4x8448x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x1x80x8448, .bf16⟩
  | .local _ .vmem, ⟨7, _⟩ => ⟨S1x1x80x8448, .bf16⟩
  | .local _ .vmem, ⟨8, _⟩ => ⟨S1x256x256, .bf16⟩
  | .local _ .vmem, ⟨9, _⟩ => ⟨S1x256x256, .bf16⟩
  | .local _ .vmem, ⟨10, _⟩ => ⟨S2x4x256x256, .f32⟩
  | .local _ .vmem, ⟨11, _⟩ => ⟨S2x4x256x256, .bf16⟩
  | .local _ .vmem, ⟨12, _⟩ => ⟨S4x256x256, .f32⟩
  | .local _ .vmem, ⟨13, _⟩ => ⟨S4x256x256, .bf16⟩
  | .local _ .vmem, ⟨14, _⟩ => ⟨S4x80x256, .f32⟩
  | .local _ .vmem, ⟨15, _⟩ => ⟨S4x1x256, .f32⟩
  | .local _ .vmem, ⟨16, _⟩ => ⟨S3x4x1x256, .f32⟩
  | _, _ => ⟨S4x8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 33], ![false, false, false]⟩

def k0_cond2 (i : grid0.Coords) : BitVec 1 :=
  let arg2 : BitVec 32 := BitVec.ofNat 32 (i 2).val
  let c32_i32 : BitVec 32 := 32#32
  let v0 : BitVec 1 := Scalar.cmpi .slt arg2 c32_i32
  let v5 : BitVec 32 := Scalar.extui v0
  let c0_i32_1 : BitVec 32 := 0#32
  let v6 : BitVec 1 := Scalar.cmpi .ne v5 c0_i32_1
  v6

def k0_cond3 (i : grid0.Coords) : BitVec 1 :=
  let arg2 : BitVec 32 := BitVec.ofNat 32 (i 2).val
  let c32_i32 : BitVec 32 := 32#32
  let v0 : BitVec 1 := Scalar.cmpi .slt arg2 c32_i32
  let v_true : BitVec 1 := 1#1
  let v7 : BitVec 1 := Scalar.xori v0 v_true
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.minsi v0 c32_i32
  let c0_i32 : BitVec 32 := 0#32
  ![arg0.toNat, arg1.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x80x8448 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference5Ideal.lean ====
abbrev S4x8448x512 : Shape := ⟨3, ![4, 8448, 512]⟩
abbrev S4x8448x128 : Shape := ⟨3, ![4, 8448, 128]⟩
abbrev S4x8448x8x64 : Shape := ⟨4, ![4, 8448, 8, 64]⟩
abbrev S4x8x8448x64 : Shape := ⟨4, ![4, 8, 8448, 64]⟩
abbrev S4x8448x2x64 : Shape := ⟨4, ![4, 8448, 2, 64]⟩
abbrev S4x2x8448x64 : Shape := ⟨4, ![4, 2, 8448, 64]⟩
abbrev S4x8x8192x64 : Shape := ⟨4, ![4, 8, 8192, 64]⟩
abbrev S4x2x4x8192x64 : Shape := ⟨5, ![4, 2, 4, 8192, 64]⟩
abbrev S4x2x4x8192x8448 : Shape := ⟨5, ![4, 2, 4, 8192, 8448]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x8x256x64 : Shape := ⟨4, ![4, 8, 256, 64]⟩
abbrev S4x2x256x64 : Shape := ⟨4, ![4, 2, 256, 64]⟩
abbrev S4x2x4x256x64 : Shape := ⟨5, ![4, 2, 4, 256, 64]⟩
abbrev S4x2x4x256x256 : Shape := ⟨5, ![4, 2, 4, 256, 256]⟩
abbrev S4x2x4x256 : Shape := ⟨4, ![4, 2, 4, 256]⟩
abbrev S4x2x4x256x1 : Shape := ⟨5, ![4, 2, 4, 256, 1]⟩
abbrev S4x8192x8x64 : Shape := ⟨4, ![4, 8192, 8, 64]⟩
abbrev S4x8192x512 : Shape := ⟨3, ![4, 8192, 512]⟩
abbrev S4x256x8x64 : Shape := ⟨4, ![4, 256, 8, 64]⟩
abbrev S4x256x512 : Shape := ⟨3, ![4, 256, 512]⟩

abbrev nBuf : Space → Nat
  | .hbm => 61
  | .vmem => 0
  | .smem => 0
  | _ => 0

abbrev bufTy : (tb : Table) → Fin (tcTables nBuf tb) → BufTy
  | .hbm, ⟨0, _⟩ => ⟨S4x8448x512, .f32⟩
  | .hbm, ⟨1, _⟩ => ⟨S4x8448x128, .f32⟩
  | .hbm, ⟨2, _⟩ => ⟨S4x8448x128, .f32⟩
  | .hbm, ⟨3, _⟩ => ⟨S4x8448x8x64, .f32⟩
  | .hbm, ⟨4, _⟩ => ⟨S4x8x8448x64, .f32⟩
  | .hbm, ⟨5, _⟩ => ⟨S4x8448x2x64, .f32⟩
  | .hbm, ⟨6, _⟩ => ⟨S4x2x8448x64, .f32⟩
  | .hbm, ⟨7, _⟩ => ⟨S4x8448x2x64, .f32⟩
  | .hbm, ⟨8, _⟩ => ⟨S4x2x8448x64, .f32⟩
  | .hbm, ⟨9, _⟩ => ⟨S4x8x8192x64, .f32⟩
  | .hbm, ⟨10, _⟩ => ⟨S4x2x4x8192x64, .f32⟩
  | .hbm, ⟨11, _⟩ => ⟨S4x2x4x8192x8448, .f32⟩
  | .hbm, ⟨12, _⟩ => ⟨S_, .f32⟩
  | .hbm, ⟨13, _⟩ => ⟨S4x2x4x8192x8448, .f32⟩
  | .hbm, ⟨14, _⟩ => ⟨S4x2x4x8192x8448, .f32⟩
  | .hbm, ⟨15, _⟩ => ⟨S_, .f32⟩
  | .hbm, ⟨16, _⟩ => ⟨S4x2x4x8192, .f32⟩
  | .hbm, ⟨17, _⟩ => ⟨S_, .f32⟩
  | .hbm, ⟨18, _⟩ => ⟨S4x2x4x8192, .f32⟩
  | .hbm, ⟨19, _⟩ => ⟨S4x2x4x8192, .f32⟩
  | .hbm, ⟨20, _⟩ => ⟨S4x2x4x8192x1, .f32⟩
  | .hbm, ⟨21, _⟩ => ⟨S4x2x4x8192x8448, .f32⟩
  | .hbm, ⟨22, _⟩ => ⟨S4x2x4x8192x8448, .f32⟩
  | .hbm, ⟨23, _⟩ => ⟨S4x2x4x8192x8448, .f32⟩
  | .hbm, ⟨24, _⟩ => ⟨S_, .f32⟩
  | .hbm, ⟨25, _⟩ => ⟨S4x2x4x8192, .f32⟩
  | .hbm, ⟨26, _⟩ => ⟨S4x2x4x8192x1, .f32⟩
  | .hbm, ⟨27, _⟩ => ⟨S4x2x4x8192x8448, .f32⟩
  | .hbm, ⟨28, _⟩ => ⟨S4x2x4x8192x8448, .f32⟩
  | .hbm, ⟨29, _⟩ => ⟨S4x2x4x8192x64, .f32⟩
  | .hbm, ⟨30, _⟩ => ⟨S4x8x8192x64, .f32⟩
  | .hbm, ⟨31, _⟩ => ⟨S4x8x256x64, .f32⟩
  | .hbm, ⟨32, _⟩ => ⟨S4x2x256x64, .f32⟩
  | .hbm, ⟨33, _⟩ => ⟨S4x2x256x64, .f32⟩
  | .hbm, ⟨34, _⟩ => ⟨S4x2x4x256x64, .f32⟩
  | .hbm, ⟨35, _⟩ => ⟨S4x2x4x256x256, .f32⟩
  | .hbm, ⟨36, _⟩ => ⟨S_, .f32⟩
  | .hbm, ⟨37, _⟩ => ⟨S4x2x4x256x256, .f32⟩
  | .hbm, ⟨38, _⟩ => ⟨S4x2x4x256x256, .f32⟩
  | .hbm, ⟨39, _⟩ => ⟨S_, .f32⟩
  | .hbm, ⟨40, _⟩ => ⟨S4x2x4x256, .f32⟩
  | .hbm, ⟨41, _⟩ => ⟨S_, .f32⟩
  | .hbm, ⟨42, _⟩ => ⟨S4x2x4x256, .f32⟩
  | .hbm, ⟨43, _⟩ => ⟨S4x2x4x256, .f32⟩
  | .hbm, ⟨44, _⟩ => ⟨S4x2x4x256x1, .f32⟩
  | .hbm, ⟨45, _⟩ => ⟨S4x2x4x256x256, .f32⟩
  | .hbm, ⟨46, _⟩ => ⟨S4x2x4x256x256, .f32⟩
  | .hbm, ⟨47, _⟩ => ⟨S4x2x4x256x256, .f32⟩
  | .hbm, ⟨48, _⟩ => ⟨S_, .f32⟩
  | .hbm, ⟨49, _⟩ => ⟨S4x2x4x256, .f32⟩
  | .hbm, ⟨50, _⟩ => ⟨S4x2x4x256x1, .f32⟩
  | .hbm, ⟨51, _⟩ => ⟨S4x2x4x256x256, .f32⟩
  | .hbm, ⟨52, _⟩ => ⟨S4x2x4x256x256, .f32⟩
  | .hbm, ⟨53, _⟩ => ⟨S4x2x4x256x64, .f32⟩
  | .hbm, ⟨54, _⟩ => ⟨S4x8x256x64, .f32⟩
  | .hbm, ⟨55, _⟩ => ⟨S4x8192x8x64, .f32⟩
  | .hbm, ⟨56, _⟩ => ⟨S4x8192x512, .f32⟩
  | .hbm, ⟨57, _⟩ => ⟨S4x256x8x64, .f32⟩
  | .hbm, ⟨58, _⟩ => ⟨S4x256x512, .f32⟩
  | .hbm, ⟨59, _⟩ => ⟨S4x8448x512, .f32⟩
  | .hbm, ⟨60, _⟩ => ⟨S4x8448x512, .bf16⟩
  | _, _ => ⟨S4x8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== Proof.ReadSub.lean ====
/- A load of a part of a stored rectangle. -/
module

public import Idealize.ShloMosaic.Lib.Pipeline.ValueKit
public import Idealize.ShloMosaic.Lib.Pipeline.ReadBack

@[expose] public section

noncomputable section

namespace DiffAttn

open Idealize.ShloMosaic

variable {sig : RefSig} {κ : Kind} {sp : Space} {s : Shape} {e : EltTy} {Val : EltTy → Type}

/-- The load of a rectangle that lies within the last stored one reads that part of the stored payload. -/
theorem readCov_within [∀ e, Nonempty (Val e)] (v : View sig κ sp s e) {off size off' size' : Fin s.rank → ℕ}
    (inb : ∀ a, off a + size a ≤ s.size a) (inb' : ∀ a, off' a + size' a ≤ s.size a)
    (w : (Rect.unit off size inb).shape.Idx → Val e) (L : List (View.Piece Val s e))
    (h : ∀ a, off a ≤ off' a ∧ off' a - off a + size' a ≤ size a) :
    v.readCov (⟨Rect.unit off size inb, w⟩ :: L) (Rect.unit off' size' inb').toLoadRect
      = View.ld w (Rect.unit (s := (Rect.unit off size inb).shape) (fun a => off' a - off a) size' fun a => (h a).2) := by
  rw [View.readCov_eq_canon']
  funext j
  have e : (Rect.unit off' size' inb').toLoadRect.idx j
      = (Rect.unit off size inb).emb ((Rect.unit (s := (Rect.unit off size inb).shape) (fun a => off' a - off a) size' fun a => (h a).2).emb j) := by
    funext a
    apply Fin.ext
    show off' a + 1 * (j a).val = off a + 1 * (off' a - off a + 1 * (j a).val)
    have := (h a).1
    omega
  rw [e]
  exact View.canon_cons_emb _ w L _

/-- A rectangle of a scratch that was filled by pieces is the load of that rectangle over the pieces. -/
theorem ld_canon [∀ e, Nonempty (Val e)] (v : View sig κ sp s e) (L : List (View.Piece Val s e)) (r : Rect s) :
    View.ld (View.canon L) r = v.readCov L r.toLoadRect := by
  rw [View.readCov_eq_canon']

end DiffAttn

end
-- ==== Proof.Words.lean ====
/- The tile program of the differential attention in steps: the masked queries of a stream, the scores against a block of keys, one
step of the running softmax, and the combination of the two streams of a head. -/
module

public import proofs.«01_k».proof.Proof.Gen.KernelIdeal.Value
public import proofs.«01_k».proof.Proof.ReadSub

@[expose] public section

noncomputable section

namespace DiffAttn

open Cert.KernelIdeal Cert.KernelIdeal.Gen Idealize.ShloMosaic Idealize.SL.Sem

variable {F : FTy → Type} [FloatOps F]

/-- The head of the pair that stream `s` belongs to. -/
def pair (s : Fin 4) : Fin 2 := ![0, 0, 1, 1] s

/-- The 128 query rows of a head of the pair, as loaded. -/
def qload (x : Vec F S1x256x256 .bf16) (b : Fin 2) : Vec F S1x128x256 .bf16 :=
  View.ld x (Rect.unit ![0, 128 * b.val, 0] S1x128x256.size (by intro a; fin_cases b <;> revert a <;> decide))

/-- The 128 query rows of a head of the pair. -/
def qrows (x : Vec F S1x256x256 .bf16) (b : Fin 2) : FVec F S128x256 .bf16 :=
  shapeCast S128x256 (qload x b) shapeCasts_S1x128x256_S128x256

/-- A block of 512 keys of a head of the pair. -/
def kload (x2 : Vec F S1x8448x256 .bf16) (b : Fin 2) (k : Fin 16) : Vec F S1x512x128 .bf16 :=
  View.ld x2 (Rect.unit ![0, 512 * k.val, 128 * b.val] S1x512x128.size (by
    intro a; have := k.isLt; have := b.isLt
    fin_cases a <;> simp only [S1x8448x256] <;> simp <;> omega))

/-- The context keys of a head of the pair. -/
def kctx (x2 : Vec F S1x8448x256 .bf16) (b : Fin 2) : Vec F S1x256x128 .bf16 :=
  View.ld x2 (Rect.unit ![0, 8192, 128 * b.val] S1x256x128.size (by
    intro a; have := b.isLt
    fin_cases a <;> simp only [S1x8448x256] <;> simp <;> omega))

/-- The queries of a stream: the rows of its half of the head, zero in the other half. -/
def queries (x : Vec F S1x256x256 .bf16) (s : Fin 4) : FVec F S128x256 .bf16 :=
  select (cmpi (![.slt, .sge, .slt, .sge] s) (iota .tc S128x256 32 [0] iota_S128x256_d0_w32) (broadcast S128x256 64#32))
    (qrows x (pair s)) (broadcast S128x256 (Scalar.ofBits .bf16 0x0000#16))

/-- The scores of a block of 512 keys. -/
def chunkScore (x2 : Vec F S1x8448x256 .bf16) (s : Fin 4) (k : Fin 16) (q : FVec F S128x256 .bf16) : FVec F S1x1x512x256 .f32 :=
  shapeCast S1x1x512x256 (matmul dot_S512x128_S128x256_S512x256_1_0_0_1_n_n none
    (shapeCast S512x128 (kload x2 (pair s) k) shapeCasts_S1x512x128_S512x128) q
    (constant S512x256 .f32 0x00000000#32)) shapeCasts_S512x256_S1x1x512x256

/-- The scores of the 256 context keys. -/
def ctxScore (x2 : Vec F S1x8448x256 .bf16) (s : Fin 4) (q : FVec F S128x256 .bf16) : FVec F S1x256x256 .f32 :=
  shapeCast S1x256x256 (matmul dot_S256x128_S128x256_S256x256_1_0_0_1_n_n none
    (shapeCast S256x128 (kctx x2 (pair s)) shapeCasts_S1x256x128_S256x128) q
    (constant S256x256 .f32 0x00000000#32)) shapeCasts_S256x256_S1x256x256

/-- A running maximum and a running weighted sum. -/
abbrev Carry (F : FTy → Type) := FVec F S1x1x256 .f32 × FVec F S1x144x256 .f32

/-- The running maximum after a block of 512 scores. -/
def chunkMax (st : Vec F S1x1x512x256 .f32) (m : FVec F S1x1x256 .f32) : FVec F S1x256 .f32 :=
  maximumf (shapeCast S1x256 m shapeCasts_S1x1x256_S1x256)
    (shapeCast S1x256 (multiReduction .maximumf [0] S256 (shapeCast S512x256 st shapeCasts_S1x1x512x256_S512x256) 0xFF800000#32
      reduces_S512x256_S256 (.inl rfl) rfl) shapeCasts_S256_S1x256)

/-- The running maximum after the context scores. -/
def ctxMax (st : Vec F S1x256x256 .f32) (m : FVec F S1x1x256 .f32) : FVec F S1x256 .f32 :=
  maximumf (shapeCast S1x256 m shapeCasts_S1x1x256_S1x256)
    (shapeCast S1x256 (multiReduction .maximumf [0] S256 (shapeCast S256x256 st shapeCasts_S1x256x256_S256x256) 0xFF800000#32
      reduces_S256x256_S256 (.inl rfl) rfl) shapeCasts_S256_S1x256)

/-- The weighted sum so far, rescaled to a new maximum. -/
def rescaled (m : FVec F S1x1x256 .f32) (m' : FVec F S1x256 .f32) (acc : FVec F S1x144x256 .f32) : FVec F S144x256 .f32 :=
  mulf (broadcastTo S144x256 (shapeCast S1x256 (shapeCast S1x1x1x256 (exp2 (subf (shapeCast S1x256 m shapeCasts_S1x1x256_S1x256) m'))
    shapeCasts_S1x256_S1x1x1x256) shapeCasts_S1x1x1x256_S1x256) broadcasts_S1x256_S144x256)
    (shapeCast S144x256 acc shapeCasts_S1x144x256_S144x256)

/-- The weighted sum of the values of a block of 512 keys. -/
def chunkSum (vc : Vec F S1x1x144x512 .bf16) (st : Vec F S1x1x512x256 .f32) (m' : FVec F S1x256 .f32) : FVec F S144x256 .f32 :=
  matmul dot_S144x512_S512x256_S144x256_1_0_0_1_n_n none (shapeCast S144x512 vc shapeCasts_S1x1x144x512_S144x512)
    (shapeCast S512x256 (shapeCast S1x1x512x256 (exp2 (truncf .bf16 (subf (shapeCast S512x256 st shapeCasts_S1x1x512x256_S512x256)
      (broadcastTo S512x256 m' broadcasts_S1x256_S512x256)) bitsLt_bf16_f32)) shapeCasts_S512x256_S1x1x512x256)
      shapeCasts_S1x1x512x256_S512x256) (constant S144x256 .f32 0x00000000#32)

/-- The weighted sum of the values of the context keys. -/
def ctxSum (vc : Vec F S1x1x144x256 .bf16) (st : Vec F S1x256x256 .f32) (m' : FVec F S1x256 .f32) : FVec F S144x256 .f32 :=
  matmul dot_S144x256_S256x256_S144x256_1_0_0_1_n_n none (shapeCast S144x256 vc shapeCasts_S1x1x144x256_S144x256)
    (shapeCast S256x256 (shapeCast S1x256x256 (exp2 (truncf .bf16 (subf (shapeCast S256x256 st shapeCasts_S1x256x256_S256x256)
      (broadcastTo S256x256 m' broadcasts_S1x256_S256x256)) bitsLt_bf16_f32)) shapeCasts_S256x256_S1x256x256)
      shapeCasts_S1x256x256_S256x256) (constant S144x256 .f32 0x00000000#32)

/-- The carry after a block of 512 keys. -/
def chunkStep (vc : Vec F S1x1x144x512 .bf16) (st : Vec F S1x1x512x256 .f32) (r : Carry F) : Carry F :=
  (shapeCast S1x1x256 (chunkMax st r.1) shapeCasts_S1x256_S1x1x256,
   shapeCast S1x144x256 (addf (rescaled r.1 (chunkMax st r.1) r.2) (chunkSum vc st (chunkMax st r.1))) shapeCasts_S144x256_S1x144x256)

/-- The carry after the context keys. -/
def ctxStep (vc : Vec F S1x1x144x256 .bf16) (st : Vec F S1x256x256 .f32) (r : Carry F) : Carry F :=
  (shapeCast S1x1x256 (ctxMax st r.1) shapeCasts_S1x256_S1x1x256,
   shapeCast S1x144x256 (addf (rescaled r.1 (ctxMax st r.1) r.2) (ctxSum vc st (ctxMax st r.1))) shapeCasts_S144x256_S1x144x256)

/-- The first carry of a stream. -/
def carry0 (s : Fin 4) : Carry F :=
  (View.ld (Val := Elt F) (e' := .f32) k0_pay720 (Rect.unit (s := S4x1x256) ![s.val, 0, 0] S1x1x256.size (by intro a; fin_cases s <;> revert a <;> decide)),
   View.ld (Val := Elt F) (e' := .f32) k0_pay719 (Rect.unit (s := S4x144x256) ![s.val, 0, 0] S1x144x256.size (by intro a; fin_cases s <;> revert a <;> decide)))

/-- The values of the context keys. -/
def ctxVals (x3 : Vec F S1x2x144x8448 .bf16) (b : Fin 2) : Vec F S1x1x144x256 .bf16 :=
  View.ld x3 (Rect.unit ![0, b.val, 0, 8192] ![1, 1, 144, 256] (by intro a; fin_cases b <;> revert a <;> decide))

/-- The values of a block of 512 keys. -/
def chunkVals (x3 : Vec F S1x2x144x8448 .bf16) (b : Fin 2) (k : Fin 16) : Vec F S1x1x144x512 .bf16 :=
  View.ld x3 (Rect.unit ![0, b.val, 0, 512 * k.val] ![1, 1, 144, 512] (by
    intro a; have := k.isLt; have := b.isLt
    fin_cases a <;> simp only [S1x2x144x8448] <;> simp <;> omega))

/-- The context scores the point before left for a stream. -/
def ctxSaved (xs2 : Vec F S4x256x256 .f32) (s : Fin 4) : Vec F S1x256x256 .f32 :=
  View.ld xs2 (Rect.unit ![s.val, 0, 0] S1x256x256.size (by intro a; fin_cases s <;> revert a <;> decide))

/-- The scores of the first block of keys that the point before left for a stream. -/
def chunkSaved (xs0 : Vec F S2x4x512x256 .f32) (s : Fin 4) : Vec F S1x1x512x256 .f32 :=
  View.ld xs0 (Rect.unit ![0, s.val, 0, 0] S1x1x512x256.size (by intro a; fin_cases s <;> revert a <;> decide))

/-- The carry of a stream over the context keys, from their scores. -/
def ctxCarry (x3 : Vec F S1x2x144x8448 .bf16) (sc : Vec F S1x256x256 .f32) (s : Fin 4) : Carry F :=
  ctxStep (ctxVals x3 (pair s)) sc (carry0 s)

/-- The scores a stream meets in the block `k` of keys; those of the first block are given. -/
def blockScore (x0 : Vec F S1x256x256 .bf16) (x2 : Vec F S1x8448x256 .bf16) (st : Vec F S1x1x512x256 .f32) (s : Fin 4) :
    Fin 16 → Vec F S1x1x512x256 .f32
  | 0 => st
  | k => chunkScore x2 s k (queries x0 s)

/-- The carry of a stream over the context keys and the first `n` blocks. -/
def carry (x0 : Vec F S1x256x256 .bf16) (x2 : Vec F S1x8448x256 .bf16) (x3 : Vec F S1x2x144x8448 .bf16)
    (sc : Vec F S1x256x256 .f32) (st : Vec F S1x1x512x256 .f32) (s : Fin 4) : (n : ℕ) → n ≤ 16 → Carry F
  | 0, _ => ctxCarry x3 sc s
  | n + 1, h => chunkStep (chunkVals x3 (pair s) ⟨n, h⟩) (blockScore x0 x2 st s ⟨n, h⟩)
      (carry x0 x2 x3 sc st s n (Nat.le_of_succ_le h))

/-- The mean of the values under the softmax: the weighted sum over the sum of the weights, which the row of ones holds. -/
def mean (r : Carry F) : FVec F S128x256 .f32 :=
  divf (shapeCast S128x256 (View.ld (Val := Elt F) (e' := .f32) r.2 (Rect.unit (s := S1x144x256) ![0, 0, 0] S1x128x256.size (by decide))) shapeCasts_S1x128x256_S128x256)
    (broadcastTo S128x256 (shapeCast S1x256 (View.ld (Val := Elt F) (e' := .f32) r.2 (Rect.unit (s := S1x144x256) ![0, 128, 0] S1x1x256.size (by decide))) shapeCasts_S1x1x256_S1x256)
      broadcasts_S1x256_S128x256)

/-- The difference of the two streams of a head, queries by rows. -/
def diff (o0 o1 : FVec F S128x256 .f32) (x4 : Vec F S4x64 .f32) : FVec F S256x128 .f32 :=
  transpose S256x128 [1, 0] (subf o0 (mulf (broadcastTo S128x256 (k0_pay759 x4) broadcasts_S1x1_S128x256) o1))
    transposes_S128x256_p1_0_S256x128

/-- The difference of the two streams, normalised and scaled. -/
def normed (o : FVec F S256x128 .f32) (x5 : Vec F S1x128 .f32) : FVec F S256x128 .bf16 :=
  truncf .bf16 (mulf (mulf (mulf o (broadcastTo S256x128 (rsqrt (addf (divf
    (shapeCast S256x1 (multiReduction .add [1] S256 (mulf o o) 0x00000000#32 reduces_S256x128_S256 (.inl rfl) rfl) shapeCasts_S256_S256x1)
    (broadcast S256x1 (Scalar.ofBits .f32 0x43000000#32))) (broadcast S256x1 (Scalar.ofBits .f32 0x358637BD#32))))
    broadcasts_S256x1_S256x128)) (broadcastTo S256x128 (shapeCast S1x128 x5 shapeCasts_S1x128_S1x128) broadcasts_S1x128_S256x128))
    (broadcast S256x128 (Scalar.ofBits .f32 0x3F4CCCCD#32))) bitsLt_bf16_f32

/-- The block of the result of a tile from the means of its four streams. -/
def tile (o : Fin 4 → FVec F S128x256 .f32) (x4 : Vec F S4x64 .f32) (x5 : Vec F S1x128 .f32) : Vec F S1x256x256 .bf16 :=
  shapeCast S1x256x256 (concatenate S256x256 1 [⟨S256x128, normed (diff (o 0) (o 1) x4) x5⟩,
    ⟨S256x128, normed (diff (o 2) (o 3) x4) x5⟩] concatenates_S256x128_S256x128_S256x256_d1) shapeCasts_S256x256_S1x256x256

end DiffAttn

end
-- ==== Proof.Softmax.lean ====
/- The mathematics of the attention, apart from any program: a softmax summed key block by key block under a running
   maximum, in powers of two, is the softmax of its real scores. -/
module

public import Idealize.ShloMosaic.PureOps.Ideal.Laws

@[expose] public section

noncomputable section

namespace DiffAttn

open Idealize.ShloMosaic

/-- The attention over the keys `D`: the values `v` weighted by the softmax of the scores `t`. -/
def attn (t v : ℕ → ℝ) (D : Finset ℕ) : ℝ := (∑ x ∈ D, v x * Real.exp (t x)) / ∑ x ∈ D, Real.exp (t x)

/-- Coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the `n` keys from `off` on is the sum over that interval. -/
theorem sum_keys (off n : ℕ) (g : ℕ → ℝ) : ∑ j : Fin n, g (off + j) = ∑ x ∈ Finset.Ico off (off + n), g x := by
  rw [Finset.sum_Ico_eq_sum_range, Nat.add_sub_cancel_left, Fin.sum_univ_eq_sum_range (fun j => g (off + j))]

/-- The maximum of a real and of finitely many reals is a real. -/
theorem max_fold_real {ι : Type*} (s : Finset ι) (f : ι → EReal) (hf : ∀ j, ∃ x : ℝ, f j = x) (μ : ℝ) :
    ∃ μ' : ℝ, max (μ : EReal) (s.fold max ⊥ f) = μ' := by
  classical
  induction s using Finset.induction_on with
  | empty => exact ⟨μ, by simp⟩
  | insert a s ha ih =>
    obtain ⟨x, hx⟩ := hf a
    obtain ⟨y, hy⟩ := ih
    refine ⟨max x y, ?_⟩
    rw [Finset.fold_insert ha, hx, max_left_comm, hy]
    exact (EReal.coe_strictMono.monotone.map_max).symm

/-- The maximum of finitely many reals, at least one, is a real. -/
theorem fold_real {ι : Type*} [Fintype ι] (i : ι) (f : ι → EReal) (hf : ∀ j, ∃ x : ℝ, f j = x) :
    ∃ μ' : ℝ, (Finset.univ : Finset ι).fold max ⊥ f = μ' := by
  classical
  obtain ⟨x, hx⟩ := hf i
  rw [← Finset.insert_erase (Finset.mem_univ i), Finset.fold_insert (Finset.notMem_erase i _), hx]
  exact max_fold_real _ f hf x

/-- The running state after the keys `D`: the maximum is some real `μ`, and each accumulated row holds the values of
    the row weighted by two to the power of the score less `μ`. -/
def State {ρ : Type*} (s : ℕ → ℝ) (v : ρ → ℕ → ℝ) (D : Finset ℕ) (m : EReal) (acc : ρ → EReal) : Prop :=
  ∃ μ : ℝ, m = μ ∧ ∀ r, acc r = ((∑ x ∈ D, v r x * Real.rpow 2 (s x - μ) : ℝ) : EReal)

/-- Before any key: any real maximum, rows of zeros. -/
theorem State.start {ρ : Type*} (s : ℕ → ℝ) (v : ρ → ℕ → ℝ) (μ : ℝ) : State s v ∅ μ fun _ => 0 :=
  ⟨μ, rfl, fun _ => by simp⟩

/-- One block of keys: the maximum is raised over the block's scores, the rows rescaled and the block's weighted
    values added. -/
theorem State.step {ρ : Type*} {s : ℕ → ℝ} {v : ρ → ℕ → ℝ} {D : Finset ℕ} {m : EReal} {acc : ρ → EReal}
    (h : State s v D m acc) (off n : ℕ) (hd : Disjoint D (Finset.Ico off (off + n)))
    (st : Fin n → EReal) (hst : ∀ j, st j = (s (off + j) : EReal))
    (w : ρ → Fin n → EReal) (hw : ∀ r j, w r j = (v r (off + j) : EReal))
    (m' : EReal) (hm : m' = max m ((Finset.univ : Finset (Fin n)).fold max ⊥ st)) :
    State s v (D ∪ Finset.Ico off (off + n)) m'
      fun r => Ideal.exp2 (m - m') * acc r + ∑ j : Fin n, w r j * Ideal.exp2 (st j - m') := by
  obtain ⟨μ, rfl, ha⟩ := h
  obtain ⟨μ', hμ⟩ := max_fold_real Finset.univ st (fun j => ⟨_, hst j⟩) μ
  rw [hμ] at hm
  subst hm
  refine ⟨μ', rfl, fun r => ?_⟩
  have e : ∀ j : Fin n, w r j * Ideal.exp2 (st j - μ') = ((v r (off + j) * Real.rpow 2 (s (off + j) - μ') : ℝ) : EReal) := by
    intro j
    rw [hw, hst, ← EReal.coe_sub, Ideal.exp2_coe, ← EReal.coe_mul]
  beta_reduce
  rw [ha r, Finset.sum_congr rfl fun j _ => e j, ← coe_sum, ← EReal.coe_sub, Ideal.exp2_coe, ← EReal.coe_mul, ← EReal.coe_add,
    sum_keys off n fun x => v r x * Real.rpow 2 (s x - μ'), Finset.sum_union hd]
  congr 2
  rw [Finset.mul_sum]
  refine Finset.sum_congr rfl fun x _ => ?_
  have : Real.rpow 2 (s x - μ') = Real.rpow 2 (μ - μ') * Real.rpow 2 (s x - μ) := by
    show (2 : ℝ) ^ (s x - μ') = (2 : ℝ) ^ (μ - μ') * (2 : ℝ) ^ (s x - μ)
    rw [← Real.rpow_add (by norm_num)]
    congr 1
    ring
  rw [this]
  ring

/-- Two to the power of a score scaled by the reciprocal of the logarithm of two is the exponential. -/
theorem rpow_two_scaled (t μ : ℝ) : Real.rpow 2 (t * (Real.log 2)⁻¹ - μ) = Real.exp (t) * Real.rpow 2 (-μ) := by
  have h : Real.log 2 ≠ 0 := (Real.log_pos (by norm_num)).ne'
  show (2 : ℝ) ^ (t * (Real.log 2)⁻¹ - μ) = Real.exp t * (2 : ℝ) ^ (-μ)
  rw [sub_eq_add_neg, Real.rpow_add (by norm_num), Real.rpow_def_of_pos (by norm_num)]
  congr 2
  field_simp

/-- A quotient of two reals, the divisor not zero. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- A sum of exponentials over a set that is not empty is positive. -/
theorem sum_exp_pos (t : ℕ → ℝ) {D : Finset ℕ} (hD : D.Nonempty) : 0 < ∑ x ∈ D, Real.exp (t x) :=
  Finset.sum_pos (fun _ _ => Real.exp_pos _) hD

/-- The last step: a row over the row of ones is the attention. -/
theorem State.finish {ρ : Type*} {t : ℕ → ℝ} {v : ρ → ℕ → ℝ} {D : Finset ℕ} {m : EReal} {acc : ρ → EReal}
    (h : State (fun x => t x * (Real.log 2)⁻¹) v D m acc) (hD : D.Nonempty) (r o : ρ) (ho : ∀ x, v o x = 1) :
    Ideal.div (acc r) (acc o) = (attn t (v r) D : EReal) := by
  obtain ⟨μ, -, ha⟩ := h
  have hp : 0 < Real.rpow 2 (-μ) := Real.rpow_pos_of_pos (by norm_num) _
  have hs := sum_exp_pos t hD
  have e : ∀ r, ∑ x ∈ D, v r x * Real.rpow 2 (t x * (Real.log 2)⁻¹ - μ)
      = (∑ x ∈ D, v r x * Real.exp (t x)) * Real.rpow 2 (-μ) := by
    intro r
    rw [Finset.sum_mul]
    exact Finset.sum_congr rfl fun x _ => by rw [rpow_two_scaled, mul_assoc]
  have e1 : ∑ x ∈ D, v o x * Real.exp (t x) = ∑ x ∈ D, Real.exp (t x) :=
    Finset.sum_congr rfl fun x _ => by rw [ho, one_mul]
  rw [ha r, ha o, e, e, e1, div_coe _ _ (mul_pos hs hp).ne', mul_div_mul_right _ _ hp.ne']
  rfl

/-- A softmax weight as the reference takes it, under any real shift. -/
theorem weight_coe (off n : ℕ) (hn : 0 < n) (t : ℕ → ℝ) (T : Fin n → EReal) (hT : ∀ j, T j = (t (off + j) : EReal)) (μ : ℝ) (j : Fin n) :
    Ideal.div (Ideal.exp (T j - μ)) (0 + ∑ k : Fin n, Ideal.exp (T k - μ))
      = ((Real.exp (t (off + j)) / ∑ x ∈ Finset.Ico off (off + n), Real.exp (t x) : ℝ) : EReal) := by
  have hs := sum_exp_pos t (D := Finset.Ico off (off + n)) (Finset.nonempty_Ico.mpr (by omega))
  have e : ∀ k : Fin n, Ideal.exp (T k - μ) = ((Real.exp (t (off + k)) * Real.exp (-μ) : ℝ) : EReal) := by
    intro k
    rw [hT, ← EReal.coe_sub, Ideal.exp_coe, sub_eq_add_neg, Real.exp_add]
  rw [zero_add, Finset.sum_congr rfl fun k _ => e k, e j, ← coe_sum, ← Finset.sum_mul, sum_keys off n fun x => Real.exp (t x),
    div_coe _ _ (mul_pos hs (Real.exp_pos _)).ne', mul_div_mul_right _ _ (Real.exp_pos _).ne']

/-- The reference's combination: the values weighted by the difference of two softmaxes. -/
theorem diff_coe (off n : ℕ) (t₀ t₁ v : ℕ → ℝ) (l : ℝ) :
    ∑ j : Fin n, (((Real.exp (t₀ (off + j)) / ∑ x ∈ Finset.Ico off (off + n), Real.exp (t₀ x) : ℝ) : EReal)
        - (l : EReal) * ((Real.exp (t₁ (off + j)) / ∑ x ∈ Finset.Ico off (off + n), Real.exp (t₁ x) : ℝ) : EReal)) * (v (off + j) : EReal)
      = ((attn t₀ v (Finset.Ico off (off + n)) - l * attn t₁ v (Finset.Ico off (off + n)) : ℝ) : EReal) := by
  let g : ℕ → ℝ := fun y => (Real.exp (t₀ y) / ∑ x ∈ Finset.Ico off (off + n), Real.exp (t₀ x)
    - l * (Real.exp (t₁ y) / ∑ x ∈ Finset.Ico off (off + n), Real.exp (t₁ x))) * v y
  have e : ∀ j : Fin n, (((Real.exp (t₀ (off + j)) / ∑ x ∈ Finset.Ico off (off + n), Real.exp (t₀ x) : ℝ) : EReal)
        - (l : EReal) * ((Real.exp (t₁ (off + j)) / ∑ x ∈ Finset.Ico off (off + n), Real.exp (t₁ x) : ℝ) : EReal)) * (v (off + j) : EReal)
      = ((g (off + j) : ℝ) : EReal) := by
    intro j
    simp only [← EReal.coe_mul, ← EReal.coe_sub, g]
  rw [Finset.sum_congr rfl fun j _ => e j, ← coe_sum, sum_keys off n g]
  congr 1
  unfold attn
  rw [Finset.sum_div, Finset.sum_div, Finset.mul_sum, ← Finset.sum_sub_distrib]
  exact Finset.sum_congr rfl fun x _ => by ring

end DiffAttn

end
-- ==== Proof.Reads.lean ====
/- The steps of the tile program read at an index of the extended reals. -/
module

public import proofs.«01_k».proof.Proof.Words
public import proofs.«01_k».proof.Proof.Softmax
public import Idealize.ShloMosaic.Lib.Pointwise

@[expose] public section

set_option maxRecDepth 16384

noncomputable section

namespace DiffAttn

open Cert.KernelIdeal Cert.KernelIdeal.Gen Idealize.ShloMosaic Idealize.SL.Sem

/-- The word of minus infinity. -/
theorem ofBits_neg_inf : Ideal.ofBits .f32 0xFF800000#32 = ⊥ := by simp [Ideal.ofBits, Ideal.ieee]

/-- The running maximum after a block of keys. -/
theorem chunkMax_apply (st : Vec Ideal S1x1x512x256 .f32) (m : FVec Ideal S1x1x256 .f32) (q : Fin 256) :
    chunkMax st m (ix2 0 q) = max (m (ix3 0 0 q)) ((Finset.univ : Finset (Fin 512)).fold max ⊥ fun j => st (ix4 0 0 j q)) := by
  pointwise [chunkMax]
  rw [ofBits_neg_inf]

/-- The running maximum after the context block of keys. -/
theorem ctxMax_apply (st : Vec Ideal S1x256x256 .f32) (m : FVec Ideal S1x1x256 .f32) (q : Fin 256) :
    ctxMax st m (ix2 0 q) = max (m (ix3 0 0 q)) ((Finset.univ : Finset (Fin 256)).fold max ⊥ fun j => st (ix3 0 j q)) := by
  pointwise [ctxMax]
  rw [ofBits_neg_inf]

/-- The running sums, rescaled from the old maximum to the new one. -/
theorem rescaled_apply (m : FVec Ideal S1x1x256 .f32) (m' : FVec Ideal S1x256 .f32) (acc : FVec Ideal S1x144x256 .f32) (r : Fin 144)
    (q : Fin 256) :
    rescaled m m' acc (ix2 r q) = Ideal.exp2 (m (ix3 0 0 q) - m' (ix2 0 q)) * acc (ix3 0 r q) := by
  pointwise [rescaled]
  rfl

/-- What a block of keys adds to the running sums: its values weighted by the exponentials of their scores. -/
theorem chunkSum_apply (vc : Vec Ideal S1x1x144x512 .bf16) (st : Vec Ideal S1x1x512x256 .f32) (m' : FVec Ideal S1x256 .f32) (r : Fin 144)
    (q : Fin 256) :
    chunkSum vc st m' (ix2 r q) = ∑ j : Fin 512, vc (ix4 0 0 r j) * Ideal.exp2 (st (ix4 0 0 j q) - m' (ix2 0 q)) := by
  pointwise [chunkSum]
  rfl

/-- What the context block of keys adds to the running sums. -/
theorem ctxSum_apply (vc : Vec Ideal S1x1x144x256 .bf16) (st : Vec Ideal S1x256x256 .f32) (m' : FVec Ideal S1x256 .f32) (r : Fin 144)
    (q : Fin 256) :
    ctxSum vc st m' (ix2 r q) = ∑ j : Fin 256, vc (ix4 0 0 r j) * Ideal.exp2 (st (ix3 0 j q) - m' (ix2 0 q)) := by
  pointwise [ctxSum]
  rfl

/-- The query rows of a pair of streams, as loaded. -/
theorem qload_apply (x : Vec Ideal S1x256x256 .bf16) (b : Fin 2) (r : Fin 128) (q : Fin 256) :
    qload x b (ix3 0 r q) = x (ix3 0 ⟨128 * b.val + r.val, by omega⟩ q) := by
  pointwise [qload]

/-- A block of keys of a pair of streams, as loaded. -/
theorem kload_apply (x2 : Vec Ideal S1x8448x256 .bf16) (b : Fin 2) (k : Fin 16) (j : Fin 512) (d : Fin 128) :
    kload x2 b k (ix3 0 j d) = x2 (ix3 0 ⟨512 * k.val + j.val, by omega⟩ ⟨128 * b.val + d.val, by omega⟩) := by
  pointwise [kload]

/-- The context block of keys of a pair of streams, as loaded. -/
theorem kctx_apply (x2 : Vec Ideal S1x8448x256 .bf16) (b : Fin 2) (j : Fin 256) (d : Fin 128) :
    kctx x2 b (ix3 0 j d) = x2 (ix3 0 ⟨8192 + j.val, by omega⟩ ⟨128 * b.val + d.val, by omega⟩) := by
  pointwise [kctx]

/-- The query rows of a pair of streams, without their unit axis. -/
theorem qrows_apply (x : Vec Ideal S1x256x256 .bf16) (b : Fin 2) (r : Fin 128) (q : Fin 256) :
    qrows x b (ix2 r q) = x (ix3 0 ⟨128 * b.val + r.val, by omega⟩ q) := by
  pointwise [qrows]
  exact qload_apply x b r q

/-- The row mask of a stream, as a bit. -/
theorem mask_bit : ∀ r : Fin 128, IntOp.cmpi .slt (BitVec.ofNat 32 r.val) 64#32 = (if r.val / 64 = 0 then 1#1 else 0#1)
    ∧ IntOp.cmpi .sge (BitVec.ofNat 32 r.val) 64#32 = if r.val / 64 = 1 then 1#1 else 0#1 := by decide

/-- A stream's queries: its own half of the rows of its pair, and zero in the other half. -/
theorem queries_apply (x : Vec Ideal S1x256x256 .bf16) (s : Fin 4) (r : Fin 128) (q : Fin 256) :
    queries x s (ix2 r q)
      = if r.val / 64 = s.val % 2 then x (ix3 0 ⟨128 * (pair s).val + r.val, by have := (pair s).isLt; omega⟩ q) else 0 := by
  rw [← qrows_apply x (pair s) r q]
  fin_cases s <;> pointwise [queries, pair] <;>
    simp only [(mask_bit r).1, (mask_bit r).2] <;> split <;> rfl

/-- The scores of a block of keys: the products with the queries, summed over the channels. -/
theorem chunkScore_apply (x2 : Vec Ideal S1x8448x256 .bf16) (s : Fin 4) (k : Fin 16) (w : FVec Ideal S128x256 .bf16) (j : Fin 512) (q : Fin 256) :
    chunkScore x2 s k w (ix4 0 0 j q) = ∑ d : Fin 128, x2 (ix3 0 ⟨512 * k.val + j.val, by omega⟩ ⟨128 * (pair s).val + d.val, by have := (pair s).isLt; omega⟩) * w (ix2 d q) := by
  pointwise [chunkScore]
  exact Finset.sum_congr rfl fun d _ => by rw [kload_apply]

/-- The scores of the context block of keys. -/
theorem ctxScore_apply (x2 : Vec Ideal S1x8448x256 .bf16) (s : Fin 4) (w : FVec Ideal S128x256 .bf16) (j : Fin 256) (q : Fin 256) :
    ctxScore x2 s w (ix3 0 j q) = ∑ d : Fin 128, x2 (ix3 0 ⟨8192 + j.val, by omega⟩ ⟨128 * (pair s).val + d.val, by have := (pair s).isLt; omega⟩) * w (ix2 d q) := by
  pointwise [ctxScore]
  exact Finset.sum_congr rfl fun d _ => by rw [kctx_apply]

/-- Each running maximum begins at a very negative number. -/
theorem carry0_fst (s : Fin 4) (q : Fin 256) : (carry0 (F := Ideal) s).1 (ix3 0 0 q) = Ideal.ofBits .f32 0xF149F2CA#32 := by
  pointwise [carry0, k0_pay720]

/-- Each running sum begins at zero. -/
theorem carry0_snd (s : Fin 4) (r : Fin 144) (q : Fin 256) : (carry0 (F := Ideal) s).2 (ix3 0 r q) = 0 := by
  pointwise [carry0, k0_pay719]

/-- The context block of values of a pair of streams. -/
theorem ctxVals_apply (x3 : Vec Ideal S1x2x144x8448 .bf16) (b : Fin 2) (r : Fin 144) (j : Fin 256) :
    ctxVals x3 b (ix4 0 0 r j) = x3 (ix4 0 b r ⟨8192 + j.val, by omega⟩) := by
  pointwise [ctxVals]

/-- A block of values of a pair of streams. -/
theorem chunkVals_apply (x3 : Vec Ideal S1x2x144x8448 .bf16) (b : Fin 2) (k : Fin 16) (r : Fin 144) (j : Fin 512) :
    chunkVals x3 b k (ix4 0 0 r j) = x3 (ix4 0 b r ⟨512 * k.val + j.val, by omega⟩) := by
  pointwise [chunkVals]

/-- A weighted mean: a running sum over the running sum of the weights, which is row 128. -/
theorem mean_apply (c : Carry Ideal) (r : Fin 128) (q : Fin 256) :
    mean c (ix2 r q) = Ideal.div (c.2 (ix3 0 ⟨r.val, by omega⟩ q)) (c.2 (ix3 0 128 q)) := by
  pointwise [mean]

/-- A head's difference: its first mean less its weighted second mean. -/
theorem diff_apply (o0 o1 : FVec Ideal S128x256 .f32) (x4 : Vec Ideal S4x64 .f32) (q : Fin 256) (d : Fin 128) :
    diff o0 o1 x4 (ix2 q d) = o0 (ix2 d q) - k0_pay759 x4 (ix2 0 0) * o1 (ix2 d q) := by
  pointwise [diff]

/-- The weight of the second mean, from the four vectors. -/
theorem lam_apply (x4 : Vec Ideal S4x64 .f32) :
    k0_pay759 x4 (ix2 0 0) = Ideal.exp (∑ d : Fin 64, x4 (ix2 0 d) * x4 (ix2 1 d)) - Ideal.exp (∑ d : Fin 64, x4 (ix2 2 d) * x4 (ix2 3 d))
      + Ideal.ofBits .f32 0x3E4CCCCD#32 := by
  pointwise [k0_pay759]
  simp only [Finset.univ_unique, Finset.sum_singleton]

/-- A head normalised by its mean square, times its gain and the closing scale. -/
theorem normed_apply (o : FVec Ideal S256x128 .f32) (x5 : Vec Ideal S1x128 .f32) (q : Fin 256) (d : Fin 128) :
    normed o x5 (ix2 q d) = o (ix2 q d) * Ideal.rsqrt (Ideal.div (∑ e : Fin 128, o (ix2 q e) * o (ix2 q e)) (Ideal.ofBits .f32 0x43000000#32)
      + Ideal.ofBits .f32 0x358637BD#32) * x5 (ix2 0 d) * Ideal.ofBits .f32 0x3F4CCCCD#32 := by
  pointwise [normed]

/-- The output block: each head normalised, side by side. -/
theorem tile_apply (o : Fin 4 → FVec Ideal S128x256 .f32) (x4 : Vec Ideal S4x64 .f32) (x5 : Vec Ideal S1x128 .f32) (q : Fin 256) (b : Fin 2) (d : Fin 128) :
    tile o x4 x5 (ix3 0 q ⟨128 * b.val + d.val, by omega⟩)
      = normed (diff (o ⟨2 * b.val, by omega⟩) (o ⟨2 * b.val + 1, by omega⟩) x4) x5 (ix2 q d) := by
  fin_cases b <;> pointwise [tile]

end DiffAttn

end
-- ==== Proof.Spec.lean ====
/- What a tile of the differential attention computes from real queries, keys and values. -/
module

public import proofs.«01_k».proof.Proof.Softmax
public import Idealize.ShloMosaic.Lib.Pointwise

@[expose] public section

noncomputable section

namespace DiffAttn

open Idealize.ShloMosaic Idealize.SL.Sem

/-- An entry of an array of rank three as a real, zero off its range. -/
def entry {l m n : ℕ} (X : (⟨3, ![l, m, n]⟩ : Shape).Idx → EReal) (a b c : ℕ) : ℝ :=
  if h : a < l ∧ b < m ∧ c < n then (X (ix3 ⟨a, h.1⟩ ⟨b, h.2.1⟩ ⟨c, h.2.2⟩)).toReal else 0

/-- A real entry is its real value. -/
theorem entry_eq {l m n : ℕ} (X : (⟨3, ![l, m, n]⟩ : Shape).Idx → EReal) (a : Fin l) (b : Fin m) (c : Fin n)
    (h : ∃ x : ℝ, X (ix3 a b c) = x) : X (ix3 a b c) = (entry X a b c : EReal) := by
  obtain ⟨x, hx⟩ := h
  rw [entry, dif_pos ⟨a.isLt, b.isLt, c.isLt⟩]
  simp only [Fin.eta]
  rw [hx, EReal.toReal_coe]

/-- The score of a query against a key, in the head `g` of the eight. -/
def score {l m n n' : ℕ} (Q : (⟨3, ![l, m, n]⟩ : Shape).Idx → EReal) (K : (⟨3, ![l, m, n']⟩ : Shape).Idx → EReal) (b g r x : ℕ) : ℝ :=
  1 / 8 * ∑ d : Fin 64, entry Q b r (64 * g + d) * entry K b x (1024 + 64 * g + d)

/-- The keys that a query sees: all of them from a latent, the context's from the context. -/
def seen (r : ℕ) : Finset ℕ := if r < 8192 then Finset.Ico 0 8448 else Finset.Ico 8192 8448

/-- The difference of the two softmaxes of the head `hd`, at a query and a channel. -/
def mix {l m n n' : ℕ} (Q V : (⟨3, ![l, m, n]⟩ : Shape).Idx → EReal) (K : (⟨3, ![l, m, n']⟩ : Shape).Idx → EReal) (w : ℝ) (b hd r d : ℕ) : ℝ :=
  attn (score Q K b (2 * hd) r) (fun x => entry V b x (128 * hd + d)) (seen r)
    - w * attn (score Q K b (2 * hd + 1) r) (fun x => entry V b x (128 * hd + d)) (seen r)

/-- A row of a head, normalised to mean square one and scaled. -/
def scaled (o : Fin 128 → ℝ) (g : EReal) (d : Fin 128) : EReal :=
  (o d : EReal) * Ideal.rsqrt (Ideal.div (∑ e : Fin 128, (o e : EReal) * (o e : EReal)) (Ideal.ofBits .f32 0x43000000#32)
    + Ideal.ofBits .f32 0x358637BD#32) * g * Ideal.ofBits .f32 0x3F4CCCCD#32

/-- The weight of the second softmax, from its four rows. -/
def lambda (a b c d : Fin 64 → EReal) : EReal :=
  Ideal.exp (∑ k, a k * b k) - Ideal.exp (∑ k, c k * d k) + Ideal.ofBits .f32 0x3E4CCCCD#32

/-- The word of an eighth. -/
theorem ofBits_eighth : Ideal.ofBits .f32 0x3E000000#32 = ((1 / 8 : ℝ) : EReal) := by
  simp [Ideal.ofBits, Ideal.ieee]
  rw [← EReal.coe_mul]
  norm_num

/-- The weight is real where its rows are. -/
theorem lambda_real (a b c d : Fin 64 → EReal) (ha : ∀ k, ∃ x : ℝ, a k = x) (hb : ∀ k, ∃ x : ℝ, b k = x)
    (hc : ∀ k, ∃ x : ℝ, c k = x) (hd : ∀ k, ∃ x : ℝ, d k = x) : ∃ w : ℝ, lambda a b c d = w := by
  choose a' ha using ha
  choose b' hb using hb
  choose c' hc using hc
  choose d' hd using hd
  obtain ⟨z, hz⟩ : ∃ z : ℝ, Ideal.ofBits .f32 0x3E4CCCCD#32 = z := ⟨_, by simp [Ideal.ofBits, Ideal.ieee]; rfl⟩
  refine ⟨Real.exp (∑ k, a' k * b' k) - Real.exp (∑ k, c' k * d' k) + z, ?_⟩
  unfold lambda
  simp only [ha, hb, hc, hd, ← EReal.coe_mul, ← coe_sum, Ideal.exp_coe, hz, ← EReal.coe_sub, ← EReal.coe_add]

/-- A product of rows of 128 of which the second is zero outside a half: the product of the halves. -/
theorem sum_half (e : ℕ) (he : e < 2) (f g : ℕ → ℝ) :
    ∑ d : Fin 128, f d * (if d.val / 64 = e then g d else 0) = ∑ d : Fin 64, f (64 * e + d) * g (64 * e + d) := by
  rw [show (∑ d : Fin 128, f d * (if d.val / 64 = e then g d else 0)) = ∑ d : Fin (64 + 64), f d * (if d.val / 64 = e then g d else 0) from rfl,
    Fin.sum_univ_add]
  have l1 : ∀ d : Fin 64, (Fin.castAdd 64 d).val / 64 = 0 := fun d => by simp
  have l2 : ∀ d : Fin 64, (Fin.natAdd 64 d).val / 64 = 1 := fun d => by simp
  simp only [l1, l2]
  interval_cases e <;> simp [add_comm]

end DiffAttn

end
-- ==== Proof.Steps.lean ====
/- The running softmax of a tile, stream by stream: after each block of keys the carry is the state over the keys met. -/
module

public import proofs.«01_k».proof.Proof.Reads
public import proofs.«01_k».proof.Proof.Spec

@[expose] public section

set_option maxRecDepth 16384

noncomputable section

namespace DiffAttn

open Cert.KernelIdeal Cert.KernelIdeal.Gen Idealize.ShloMosaic Idealize.SL.Sem

/-- The state of a stream at a query. -/
def Kept (s : ℕ → ℝ) (v : Fin 144 → ℕ → ℝ) (D : Finset ℕ) (c : Carry Ideal) (q : Fin 256) : Prop :=
  State s v D (c.1 (ix3 0 0 q)) fun r : Fin 144 => c.2 (ix3 0 r q)

/-- The first carry keeps the state of no key. -/
theorem kept_start (s : ℕ → ℝ) (v : Fin 144 → ℕ → ℝ) (st : Fin 4) (q : Fin 256) : Kept s v ∅ (carry0 st) q := by
  obtain ⟨μ, hμ⟩ : ∃ μ : ℝ, Ideal.ofBits .f32 0xF149F2CA#32 = μ := ⟨_, by simp [Ideal.ofBits, Ideal.ieee]; rfl⟩
  unfold Kept
  simp only [carry0_fst, carry0_snd, hμ]
  exact State.start s v μ

/-- A block of keys extends the state by its keys. -/
theorem kept_chunk {s : ℕ → ℝ} {v : Fin 144 → ℕ → ℝ} {D : Finset ℕ} {c : Carry Ideal} {q : Fin 256} (h : Kept s v D c q) (off : ℕ)
    (hd : Disjoint D (Finset.Ico off (off + 512))) (vc : Vec Ideal S1x1x144x512 .bf16) (st : Vec Ideal S1x1x512x256 .f32)
    (hv : ∀ r j, vc (ix4 0 0 r j) = (v r (off + j) : EReal)) (hs : ∀ j, st (ix4 0 0 j q) = (s (off + j) : EReal)) :
    Kept s v (D ∪ Finset.Ico off (off + 512)) (chunkStep vc st c) q := by
  have hm : (chunkStep vc st c).1 (ix3 0 0 q) = chunkMax st c.1 (ix2 0 q) := by pointwise [chunkStep]
  have ha : ∀ r, (chunkStep vc st c).2 (ix3 0 r q) = Ideal.exp2 (c.1 (ix3 0 0 q) - chunkMax st c.1 (ix2 0 q)) * c.2 (ix3 0 r q)
      + ∑ j : Fin 512, vc (ix4 0 0 r j) * Ideal.exp2 (st (ix4 0 0 j q) - chunkMax st c.1 (ix2 0 q)) := by
    intro r
    rw [← rescaled_apply, ← chunkSum_apply]
    pointwise [chunkStep]
  unfold Kept
  simp only [hm, ha]
  exact State.step h off 512 hd _ hs _ hv _ (chunkMax_apply st c.1 q)

/-- The context keys extend the state by theirs. -/
theorem kept_ctx {s : ℕ → ℝ} {v : Fin 144 → ℕ → ℝ} {D : Finset ℕ} {c : Carry Ideal} {q : Fin 256} (h : Kept s v D c q) (off : ℕ)
    (hd : Disjoint D (Finset.Ico off (off + 256))) (vc : Vec Ideal S1x1x144x256 .bf16) (st : Vec Ideal S1x256x256 .f32)
    (hv : ∀ r j, vc (ix4 0 0 r j) = (v r (off + j) : EReal)) (hs : ∀ j, st (ix3 0 j q) = (s (off + j) : EReal)) :
    Kept s v (D ∪ Finset.Ico off (off + 256)) (ctxStep vc st c) q := by
  have hm : (ctxStep vc st c).1 (ix3 0 0 q) = ctxMax st c.1 (ix2 0 q) := by pointwise [ctxStep]
  have ha : ∀ r, (ctxStep vc st c).2 (ix3 0 r q) = Ideal.exp2 (c.1 (ix3 0 0 q) - ctxMax st c.1 (ix2 0 q)) * c.2 (ix3 0 r q)
      + ∑ j : Fin 256, vc (ix4 0 0 r j) * Ideal.exp2 (st (ix3 0 j q) - ctxMax st c.1 (ix2 0 q)) := by
    intro r
    rw [← rescaled_apply, ← ctxSum_apply]
    pointwise [ctxStep]
  unfold Kept
  simp only [hm, ha]
  exact State.step h off 256 hd _ hs _ hv _ (ctxMax_apply st c.1 q)

section

variable {x0 : Vec Ideal S1x256x256 .bf16} {x2 : Vec Ideal S1x8448x256 .bf16} {x3 : Vec Ideal S1x2x144x8448 .bf16}
  {sc : Vec Ideal S1x256x256 .f32} {st : Vec Ideal S1x1x512x256 .f32} {s : Fin 4} {q : Fin 256} {t : ℕ → ℝ} {v : Fin 144 → ℕ → ℝ}

/-- The carry over the context keys. -/
theorem kept_ctxCarry (hv : ∀ r (x : Fin 8448), x3 (ix4 0 (pair s) r x) = (v r x : EReal))
    (hc : ∀ j : Fin 256, sc (ix3 0 j q) = (t (8192 + j) : EReal)) : Kept t v (Finset.Ico 8192 8448) (ctxCarry x3 sc s) q := by
  have := kept_ctx (kept_start t v s q) 8192 (Finset.disjoint_empty_left _) (ctxVals x3 (pair s)) sc
    (fun r j => by rw [ctxVals_apply, hv]) hc
  rwa [Finset.empty_union] at this

/-- The carry over the context keys and the first blocks. -/
theorem kept_carry (hv : ∀ r (x : Fin 8448), x3 (ix4 0 (pair s) r x) = (v r x : EReal))
    (hc : ∀ j : Fin 256, sc (ix3 0 j q) = (t (8192 + j) : EReal))
    (hs : ∀ (k : Fin 16) (j : Fin 512), blockScore x0 x2 st s k (ix4 0 0 j q) = (t (512 * k + j) : EReal)) (n : ℕ) (h : n ≤ 16) :
    Kept t v (Finset.Ico 8192 8448 ∪ Finset.Ico 0 (512 * n)) (carry x0 x2 x3 sc st s n h) q := by
  induction n with
  | zero => simpa [carry] using kept_ctxCarry hv hc
  | succ n ih =>
    have e : Finset.Ico 8192 8448 ∪ Finset.Ico 0 (512 * (n + 1))
        = Finset.Ico 8192 8448 ∪ Finset.Ico 0 (512 * n) ∪ Finset.Ico (512 * n) (512 * n + 512) := by
      ext x
      simp only [Finset.mem_union, Finset.mem_Ico]
      omega
    rw [e]
    refine kept_chunk (ih (Nat.le_of_succ_le h)) (512 * n) ?_ _ _ (fun r j => by rw [chunkVals_apply, hv]) (hs ⟨n, h⟩)
    rw [Finset.disjoint_left]
    intro x
    simp only [Finset.mem_union, Finset.mem_Ico]
    omega

/-- The mean of a stream over the keys met is the attention. -/
theorem mean_of_kept {D : Finset ℕ} {c : Carry Ideal} (h : Kept (fun x => t x * (Real.log 2)⁻¹) v D c q) (hD : D.Nonempty)
    (ho : ∀ x, v 128 x = 1) (r : Fin 128) : mean c (ix2 r q) = (attn t (v ⟨r.val, by omega⟩) D : EReal) := by
  rw [mean_apply]
  exact State.finish (acc := fun r : Fin 144 => c.2 (ix3 0 r q)) h hD ⟨r.val, by omega⟩ 128 ho

end

end DiffAttn

end
-- ==== Proof.Scores.lean ====
/- A tile of the kernel from real blocks: its scores, its streams and its channels. -/
module

public import proofs.«01_k».proof.Proof.Steps

@[expose] public section

set_option maxRecDepth 16384

noncomputable section

namespace DiffAttn

open Cert.KernelIdeal Cert.KernelIdeal.Gen Idealize.ShloMosaic Idealize.SL.Sem

variable {Q W : S4x8448x512.Idx → EReal} {K : S4x8448x1536.Idx → EReal} {b h i : ℕ}

/-- A block holds the scaled queries of the tile `i`, of the heads of the group `h`. -/
def QueryBlock (Q : S4x8448x512.Idx → EReal) (b h i : ℕ) (x : Vec Ideal S1x256x256 .bf16) : Prop :=
  ∀ r q : Fin 256, x (ix3 0 r q) = ((entry Q b (256 * i + q) (256 * h + r) * (1 / 8 * (Real.log 2)⁻¹) : ℝ) : EReal)

/-- A block holds the keys of the group `h`. -/
def KeyBlock (K : S4x8448x1536.Idx → EReal) (b h : ℕ) (x : Vec Ideal S1x8448x256 .bf16) : Prop :=
  ∀ (y : Fin 8448) (k : Fin 256), x (ix3 0 y k) = (entry K b y (1024 + 256 * h + k) : EReal)

/-- A row of the values of a head; the rows below the channels are ones. -/
def rowVal (W : S4x8448x512.Idx → EReal) (b hd : ℕ) (r : Fin 144) (x : ℕ) : ℝ := if r.val < 128 then entry W b x (128 * hd + r) else 1

/-- A block holds the values of the two heads of the group `h`. -/
def ValueBlock (W : S4x8448x512.Idx → EReal) (b h : ℕ) (x : Vec Ideal S1x2x144x8448 .bf16) : Prop :=
  ∀ (p : Fin 2) (r : Fin 144) (y : Fin 8448), x (ix4 0 p r y) = (rowVal W b (2 * h + p) r y : EReal)

/-- The head pair of a stream is its half. -/
theorem pair_val : ∀ s : Fin 4, (pair s).val = s.val / 2 := by decide

/-- The product of a row of keys with the queries of a stream: the score in base two. -/
theorem stream_score {x0 : Vec Ideal S1x256x256 .bf16} {x2 : Vec Ideal S1x8448x256 .bf16} (h0 : QueryBlock Q b h i x0) (h2 : KeyBlock K b h x2)
    (s : Fin 4) (y : Fin 8448) (q : Fin 256) :
    ∑ d : Fin 128, x2 (ix3 0 y ⟨128 * (pair s).val + d.val, by have := (pair s).isLt; omega⟩) * queries x0 s (ix2 d q)
      = ((score Q K b (4 * h + s) (256 * i + q) y * (Real.log 2)⁻¹ : ℝ) : EReal) := by
  have e : ∀ d : Fin 128, x2 (ix3 0 y ⟨128 * (pair s).val + d.val, by have := (pair s).isLt; omega⟩) * queries x0 s (ix2 d q)
      = (((fun n : ℕ => entry K b y (1024 + 256 * h + (128 * (pair s).val + n))) d
        * (if d.val / 64 = s.val % 2 then (fun n : ℕ => entry Q b (256 * i + q) (256 * h + (128 * (pair s).val + n)) * (1 / 8 * (Real.log 2)⁻¹)) d else 0) : ℝ) : EReal) := by
    intro d
    rw [queries_apply, h2, h0, EReal.coe_mul]
    congr 1
    split <;> simp
  rw [Finset.sum_congr rfl fun d _ => e d, ← coe_sum]
  refine congrArg _ ((sum_half (s.val % 2) (by omega) (fun n => entry K b y (1024 + 256 * h + (128 * (pair s).val + n)))
    fun n => entry Q b (256 * i + q) (256 * h + (128 * (pair s).val + n)) * (1 / 8 * (Real.log 2)⁻¹)).trans ?_)
  rw [score, mul_assoc, Finset.sum_mul, Finset.mul_sum]
  refine Finset.sum_congr rfl fun d _ => ?_
  have a : 256 * h + (128 * (pair s).val + (64 * (s.val % 2) + d.val)) = 64 * (4 * h + s.val) + d.val := by rw [pair_val]; omega
  have a' : 1024 + 256 * h + (128 * (pair s).val + (64 * (s.val % 2) + d.val)) = 1024 + 64 * (4 * h + s.val) + d.val := by rw [pair_val]; omega
  simp only [a, a']
  ring

section

variable {x0 x1 : Vec Ideal S1x256x256 .bf16} {x2 : Vec Ideal S1x8448x256 .bf16} {x3 : Vec Ideal S1x2x144x8448 .bf16}

/-- The scores of a block of keys. -/
theorem chunk_scores (h0 : QueryBlock Q b h i x0) (h2 : KeyBlock K b h x2) (s : Fin 4) (k : Fin 16) (j : Fin 512) (q : Fin 256) :
    chunkScore x2 s k (queries x0 s) (ix4 0 0 j q)
      = ((score Q K b (4 * h + s) (256 * i + q) (512 * k + j) * (Real.log 2)⁻¹ : ℝ) : EReal) := by
  rw [chunkScore_apply]
  exact stream_score h0 h2 s ⟨512 * k.val + j.val, by omega⟩ q

/-- The scores of the context keys. -/
theorem ctx_scores (h0 : QueryBlock Q b h i x0) (h2 : KeyBlock K b h x2) (s : Fin 4) (j : Fin 256) (q : Fin 256) :
    ctxScore x2 s (queries x0 s) (ix3 0 j q)
      = ((score Q K b (4 * h + s) (256 * i + q) (8192 + j) * (Real.log 2)⁻¹ : ℝ) : EReal) := by
  rw [ctxScore_apply]
  exact stream_score h0 h2 s ⟨8192 + j.val, by omega⟩ q

/-- The row of ones. -/
theorem rowVal_one (W : S4x8448x512.Idx → EReal) (b hd x : ℕ) : rowVal W b hd 128 x = 1 := if_neg (by decide)

/-- A channel's row. -/
theorem rowVal_channel (W : S4x8448x512.Idx → EReal) (b hd : ℕ) (r : Fin 128) :
    rowVal W b hd ⟨r.val, by omega⟩ = fun x => entry W b x (128 * hd + r) := by
  funext x
  exact if_pos r.isLt

/-- A stream of a tile of latents: the attention over all keys. -/
theorem stream_latent (h0 : QueryBlock Q b h i x0) (h2 : KeyBlock K b h x2) (h3 : ValueBlock W b h x3) (hi : i < 32) (s : Fin 4)
    (sc : Vec Ideal S1x256x256 .f32) (st : Vec Ideal S1x1x512x256 .f32) (r : Fin 128) (q : Fin 256)
    (hsc : ∀ j : Fin 256, sc (ix3 0 j q) = ((score Q K b (4 * h + s) (256 * i + q) (8192 + j) * (Real.log 2)⁻¹ : ℝ) : EReal))
    (hst : ∀ j : Fin 512, st (ix4 0 0 j q) = ((score Q K b (4 * h + s) (256 * i + q) (512 * (0 : Fin 16) + j) * (Real.log 2)⁻¹ : ℝ) : EReal)) :
    mean (carry x0 x2 x3 sc st s 16 le_rfl) (ix2 r q)
      = (attn (score Q K b (4 * h + s) (256 * i + q)) (fun x => entry W b x (128 * (2 * h + (pair s).val) + r)) (seen (256 * i + q)) : EReal) := by
  have e : Finset.Ico 8192 8448 ∪ Finset.Ico 0 (512 * 16) = Finset.Ico 0 8448 := by
    ext x
    simp only [Finset.mem_union, Finset.mem_Ico]
    omega
  have hk := kept_carry (t := fun x => score Q K b (4 * h + s) (256 * i + q) x * (Real.log 2)⁻¹) (v := rowVal W b (2 * h + (pair s).val)) (q := q)
    (x0 := x0) (x2 := x2) (sc := sc) (st := st) (h3 (pair s)) hsc
    (fun k j => by
      unfold blockScore
      split
      · exact hst j
      · exact chunk_scores h0 h2 s _ j q) 16 le_rfl
  rw [e] at hk
  rw [mean_of_kept hk (by simp) (rowVal_one W b _), seen, if_pos (by omega), rowVal_channel]

/-- A stream of the tile of the context: the attention over the context's keys. -/
theorem stream_context (h3 : ValueBlock W b h x3) (hi : i = 32) (s : Fin 4) (sc : Vec Ideal S1x256x256 .f32) (r : Fin 128) (q : Fin 256)
    (hsc : ∀ j : Fin 256, sc (ix3 0 j q) = ((score Q K b (4 * h + s) (256 * i + q) (8192 + j) * (Real.log 2)⁻¹ : ℝ) : EReal)) :
    mean (ctxCarry x3 sc s) (ix2 r q)
      = (attn (score Q K b (4 * h + s) (256 * i + q)) (fun x => entry W b x (128 * (2 * h + (pair s).val) + r)) (seen (256 * i + q)) : EReal) := by
  have hk := kept_ctxCarry (t := fun x => score Q K b (4 * h + s) (256 * i + q) x * (Real.log 2)⁻¹) (v := rowVal W b (2 * h + (pair s).val)) (q := q)
    (sc := sc) (h3 (pair s)) hsc
  rw [mean_of_kept hk (by simp) (rowVal_one W b _), seen, if_neg (by omega), rowVal_channel]

end

/-- A tile whose streams are the attentions: the differences of its heads, normalised and scaled. -/
theorem tile_scaled (o : Fin 4 → FVec Ideal S128x256 .f32) (x4 : Vec Ideal S4x64 .f32) (x5 : Vec Ideal S1x128 .f32) (w : ℝ)
    (hw : k0_pay759 x4 (ix2 0 0) = (w : EReal)) (q : Fin 256)
    (ho : ∀ (s : Fin 4) (r : Fin 128), o s (ix2 r q)
      = (attn (score Q K b (4 * h + s) (256 * i + q)) (fun x => entry W b x (128 * (2 * h + (pair s).val) + r)) (seen (256 * i + q)) : EReal))
    (p : Fin 2) (d : Fin 128) :
    tile o x4 x5 (ix3 0 q ⟨128 * p.val + d.val, by omega⟩)
      = scaled (fun e => mix Q W K w b (2 * h + p) (256 * i + q) e) (x5 (ix2 0 d)) d := by
  have e : ∀ d : Fin 128, diff (o ⟨2 * p.val, by omega⟩) (o ⟨2 * p.val + 1, by omega⟩) x4 (ix2 q d)
      = (mix Q W K w b (2 * h + p) (256 * i + q) d : EReal) := by
    intro d
    have a : 4 * h + 2 * p.val = 2 * (2 * h + p.val) := by omega
    have a' : 4 * h + (2 * p.val + 1) = 2 * (2 * h + p.val) + 1 := by omega
    have c : 2 * p.val / 2 = p.val := by omega
    have c' : (2 * p.val + 1) / 2 = p.val := by omega
    rw [diff_apply, hw, ho, ho, mix]
    simp only [pair_val, a, a', c, c']
    rw [EReal.coe_sub, EReal.coe_mul]
  rw [tile_apply, normed_apply]
  simp only [e]
  rfl

end DiffAttn

end
-- ==== Proof.Tiles.lean ====
/- What the tile program leaves in its output block and in its carried scratch, in the steps of `Words`. -/
module

public import proofs.«01_k».proof.Proof.Words

@[expose] public section

set_option maxRecDepth 16384
set_option maxHeartbeats 4000000

noncomputable section

namespace DiffAttn

open Cert.KernelIdeal Cert.KernelIdeal.Gen Idealize.ShloMosaic Idealize.SL.Sem

variable {F : FTy → Type} [FloatOps F]

/-- The output block of a context tile. -/
theorem out_C {c i arg3 harg3 arg4 harg4 arg5 harg5 arg6 harg6 arg7 harg7 arg8 harg8 arg9 harg9 arg10 harg10 arg11 harg11 arg12
    harg12 arg13 harg13 arg14 harg14 arg15 harg15 arg16 harg16 hc0 hc1 hc2 x0 x1 x2 x3 x4 x5 xs0 xs2} :
    out0_C_6 (F := F) c i arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 xs0
      xs2
      = tile (fun s => mean (ctxCarry x3 (ctxSaved xs2 s) s)) x4 x5 := by
  frame_open
  simp (disch := decide) only [↓ View.readCov_skip, ↓ View.readCov_cons_toLoadRect, ↓ View.readCov_fill, ↓ readCov_within]
  frame_out
  rfl

/-- The output block of a latent tile after the first. -/
theorem out_B {c i arg3 harg3 arg4 harg4 arg5 harg5 arg6 harg6 arg7 harg7 arg8 harg8 arg9 harg9 arg10 harg10 arg11 harg11 arg12
    harg12 arg13 harg13 arg14 harg14 arg15 harg15 arg16 harg16 hc0 hc1 hc2 x0 x1 x2 x3 x4 x5 xs0 xs2} :
    out0_B_6 (F := F) c i arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 xs0
      xs2
      = tile (fun s => mean (carry x0 x2 x3 (ctxSaved xs2 s) (chunkSaved xs0 s) s 16 le_rfl)) x4 x5 := by
  frame_open
  simp (disch := decide) only [↓ View.readCov_skip, ↓ View.readCov_cons_toLoadRect, ↓ View.readCov_fill, ↓ readCov_within]
  frame_out
  rfl

/-- The output block of the first tile. -/
theorem out_A {c i arg3 harg3 arg4 harg4 arg5 harg5 arg6 harg6 arg7 harg7 arg8 harg8 arg9 harg9 arg10 harg10 arg11 harg11 arg12
    harg12 arg13 harg13 arg14 harg14 arg15 harg15 arg16 harg16 hc0 hc1 hc2 x0 x1 x2 x3 x4 x5} :
    out0_A_6 (F := F) c i arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5
      = tile (fun s => mean (carry x0 x2 x3 (ctxScore x2 s (queries x0 s)) (chunkScore x2 s 0 (queries x0 s)) s 16 le_rfl)) x4 x5 := by
  frame_open
  simp (disch := decide) only [↓ View.readCov_skip, ↓ View.readCov_cons_toLoadRect, ↓ View.readCov_fill, ↓ readCov_within]
  frame_out
  rfl

/-- What a latent tile leaves of the first scores of the next tile. -/
theorem saved_A_0 {c i arg3 harg3 arg4 harg4 arg5 harg5 arg6 harg6 arg7 harg7 arg8 harg8 arg9 harg9 arg10 harg10 arg11 harg11
    arg12 harg12 arg13 harg13 arg14 harg14 arg15 harg15 arg16 harg16 hc0 hc1 hc2 x0 x1 x2 x3 x4 x5} (s : Fin 4) :
    chunkSaved (sout0_A_0 (F := F) c i arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5) s
      = chunkScore x2 s 0 (queries x1 s) := by
  unfold chunkSaved
  frame_open
  frame_out
  rw [ld_canon arg10.view]
  fin_cases s <;>
    simp (disch := decide) only [↓ View.readCov_skip, ↓ View.readCov_cons_toLoadRect] <;>
    rfl

/-- What a latent tile leaves of the context scores of the next tile. -/
theorem saved_A_2 {c i arg3 harg3 arg4 harg4 arg5 harg5 arg6 harg6 arg7 harg7 arg8 harg8 arg9 harg9 arg10 harg10 arg11 harg11
    arg12 harg12 arg13 harg13 arg14 harg14 arg15 harg15 arg16 harg16 hc0 hc1 hc2 x0 x1 x2 x3 x4 x5} (s : Fin 4) :
    ctxSaved (sout0_A_2 (F := F) c i arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5) s
      = ctxScore x2 s (queries x1 s) := by
  unfold ctxSaved
  frame_open
  frame_out
  rw [ld_canon arg12.view]
  fin_cases s <;>
    simp (disch := decide) only [↓ View.readCov_skip, ↓ View.readCov_cons_toLoadRect] <;>
    rfl

/-- What a latent tile leaves of the first scores of the next tile. -/
theorem saved_B_0 {c i arg3 harg3 arg4 harg4 arg5 harg5 arg6 harg6 arg7 harg7 arg8 harg8 arg9 harg9 arg10 harg10 arg11 harg11
    arg12 harg12 arg13 harg13 arg14 harg14 arg15 harg15 arg16 harg16 hc0 hc1 hc2 x0 x1 x2 x3 x4 x5 xs0 xs2} (s : Fin 4) :
    chunkSaved (sout0_B_0 (F := F) c i arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 xs0
      xs2) s
      = chunkScore x2 s 0 (queries x1 s) := by
  unfold chunkSaved
  frame_open
  frame_out
  rw [ld_canon arg10.view]
  fin_cases s <;>
    simp (disch := decide) only [↓ View.readCov_skip, ↓ View.readCov_cons_toLoadRect] <;>
    rfl

/-- What a latent tile leaves of the context scores of the next tile. -/
theorem saved_B_2 {c i arg3 harg3 arg4 harg4 arg5 harg5 arg6 harg6 arg7 harg7 arg8 harg8 arg9 harg9 arg10 harg10 arg11 harg11
    arg12 harg12 arg13 harg13 arg14 harg14 arg15 harg15 arg16 harg16 hc0 hc1 hc2 x0 x1 x2 x3 x4 x5 xs0 xs2} (s : Fin 4) :
    ctxSaved (sout0_B_2 (F := F) c i arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 xs0
      xs2) s
      = ctxScore x2 s (queries x1 s) := by
  unfold ctxSaved
  frame_open
  frame_out
  rw [ld_canon arg12.view]
  fin_cases s <;>
    simp (disch := decide) only [↓ View.readCov_skip, ↓ View.readCov_cons_toLoadRect] <;>
    rfl

end DiffAttn

end
-- ==== Proof.Blocks.lean ====
/- The blocks that a grid point reads, in terms of the arguments. -/
module

public import proofs.«01_k».proof.Proof.Spec
public import proofs.«01_k».proof.Proof.Gen.KernelIdeal.Frame
public import Idealize.ShloMosaic.Lib.Pipeline.ValueKit
public import Idealize.ShloMosaic.Lib.Claim
public import Idealize.ShloMosaic.Lib.StableHlo.RunRead

@[expose] public section

set_option maxRecDepth 16384

noncomputable section

namespace DiffAttn

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The array of queries. -/
abbrev argQ : S4x8448x512.Idx → EReal := m ((c : Thread nD τ).loc main_arg0)
/-- The array with the keys. -/
abbrev argK : S4x8448x1536.Idx → EReal := m ((c : Thread nD τ).loc main_arg1)
/-- The array of values. -/
abbrev argV : S4x8448x512.Idx → EReal := m ((c : Thread nD τ).loc main_arg2)
/-- The vector that weighs the first queries. -/
abbrev argA : S64.Idx → EReal := m ((c : Thread nD τ).loc main_arg3)
/-- The vector that weighs the first keys. -/
abbrev argB : S64.Idx → EReal := m ((c : Thread nD τ).loc main_arg4)
/-- The vector that weighs the second queries. -/
abbrev argC : S64.Idx → EReal := m ((c : Thread nD τ).loc main_arg5)
/-- The vector that weighs the second keys. -/
abbrev argD : S64.Idx → EReal := m ((c : Thread nD τ).loc main_arg6)
/-- The gains of the norm. -/
abbrev argG : S128.Idx → EReal := m ((c : Thread nD τ).loc main_arg7)

/-- The block that each window reads at a point. -/
theorem idx : ∀ t : Fin cfg0.N, win0_0.index t = ![t.val / 66, t.val / 33 % 2, t.val % 33]
    ∧ win0_1.index t = ![t.val / 66, t.val / 33 % 2, min (t.val % 33 + 1) 32]
    ∧ win0_2.index t = ![t.val / 66, 0, 4 + t.val / 33 % 2]
    ∧ win0_3.index t = ![t.val / 66, t.val / 33 % 2, 0, 0]
    ∧ win0_4.index t = ![0, 0] ∧ win0_5.index t = ![0, 0]
    ∧ win0_6.index t = ![t.val / 66, t.val % 33, t.val / 33 % 2] :=
  (by decide +kernel : ∀ t : Fin grid0.N, _)

/-- The points are 264. -/
theorem point_lt (t : Fin cfg0.N) : t.val < 264 := t.isLt

/-- The scale of the queries: an eighth over the logarithm of two. -/
def kap : EReal := Ideal.div (Ideal.ofBits .f32 0x3E000000#32) (Ideal.log (Ideal.ofBits .f32 0x40000000#32))

/-- The scaled queries, transposed. -/
theorem queriesIn_apply (b : Fin 4) (r : Fin 512) (q : Fin 8448) :
    (V m c main_v6 : FVec Ideal S4x512x8448 .bf16) (ix3 b r q)
      = argQ m c (ix3 b q r) * kap := by
  entry_read
  pointwise
  rfl

/-- The keys. -/
theorem keysIn_apply (b : Fin 4) (x : Fin 8448) (k : Fin 1536) :
    (V m c main_v17 : FVec Ideal S4x8448x1536 .bf16) (ix3 b x k)
      = argK m c (ix3 b x k) := by
  entry_read
  pointwise

/-- The values by head, transposed, with rows of ones below them. -/
theorem valuesIn_apply (b : Fin 4) (h : Fin 4) (r : Fin 144) (x : Fin 8448) :
    (V m c main_v11 : FVec Ideal S4x4x144x8448 .bf16) (ix4 b h r x)
      = if hr : r.val < 128 then argV m c (ix3 b x ⟨128 * h.val + r.val, by omega⟩)
        else 1 := by
  entry_read
  pointwise
  refine dite_congr rfl (fun _ => ?_) fun _ => ?_
  · blk_ext
  · rfl

/-- A vector as a row. -/
abbrev row (x : S64.Idx → EReal) : S1x64.Idx → EReal := broadcastInDim S1x64 ![1] bcast_S64_S1x64_1 x

/-- The four rows of the weight, one below the other. -/
theorem rowsIn_eq :
    V m c main_v16 = concatenate S4x64 0 [⟨S1x64, row (argA m c)⟩, ⟨S1x64, row (argB m c)⟩, ⟨S1x64, row (argC m c)⟩, ⟨S1x64, row (argD m c)⟩]
      concatenates_S1x64_S1x64_S1x64_S1x64_S4x64_d0 := by
  have hA : StableHlo.upto hostOps0 (fun b => m (c, b)) 19 (Proc.devRef .tc main_v12) = row (argA m c) := by
    rw [StableHlo.upto_last_write (i := 15) [main_v13, main_v14, main_v15] rfl rfl (by decide), StableHlo.unary_result,
      StableHlo.upto_unwritten [main_cst, main_v0, main_cst_0, main_v1, main_v2, main_v3, main_v4, main_v5, main_v6, main_v7, main_v8, main_v9, main_cst_1, main_v10, main_v11] rfl (by decide)]
  have hB : StableHlo.upto hostOps0 (fun b => m (c, b)) 19 (Proc.devRef .tc main_v13) = row (argB m c) := by
    rw [StableHlo.upto_last_write (i := 16) [main_v14, main_v15] rfl rfl (by decide), StableHlo.unary_result,
      StableHlo.upto_unwritten [main_cst, main_v0, main_cst_0, main_v1, main_v2, main_v3, main_v4, main_v5, main_v6, main_v7, main_v8, main_v9, main_cst_1, main_v10, main_v11, main_v12] rfl (by decide)]
  have hC : StableHlo.upto hostOps0 (fun b => m (c, b)) 19 (Proc.devRef .tc main_v14) = row (argC m c) := by
    rw [StableHlo.upto_last_write (i := 17) [main_v15] rfl rfl (by decide), StableHlo.unary_result,
      StableHlo.upto_unwritten [main_cst, main_v0, main_cst_0, main_v1, main_v2, main_v3, main_v4, main_v5, main_v6, main_v7, main_v8, main_v9, main_cst_1, main_v10, main_v11, main_v12, main_v13] rfl (by decide)]
  have hD : StableHlo.upto hostOps0 (fun b => m (c, b)) 19 (Proc.devRef .tc main_v15) = row (argD m c) := by
    rw [StableHlo.upto_last_write (i := 18) [] rfl rfl (by decide), StableHlo.unary_result,
      StableHlo.upto_unwritten [main_cst, main_v0, main_cst_0, main_v1, main_v2, main_v3, main_v4, main_v5, main_v6, main_v7, main_v8, main_v9, main_cst_1, main_v10, main_v11, main_v12, main_v13, main_v14] rfl (by decide)]
  rw [show V m c main_v16 = _ from StableHlo.after_last_write (i := 19) [main_v17, main_v18] rfl rfl (by decide) _, StableHlo.nary_result]
  have h : ∀ a b d e : S1x64.Idx → EReal, a = row (argA m c) → b = row (argB m c) → d = row (argC m c) → e = row (argD m c) →
      concatenate S4x64 0 [⟨S1x64, a⟩, ⟨S1x64, b⟩, ⟨S1x64, d⟩, ⟨S1x64, e⟩] concatenates_S1x64_S1x64_S1x64_S1x64_S4x64_d0
        = concatenate S4x64 0 [⟨S1x64, row (argA m c)⟩, ⟨S1x64, row (argB m c)⟩, ⟨S1x64, row (argC m c)⟩, ⟨S1x64, row (argD m c)⟩]
          concatenates_S1x64_S1x64_S1x64_S1x64_S4x64_d0 := by
    rintro _ _ _ _ rfl rfl rfl rfl
    rfl
  exact h _ _ _ _ hA hB hC hD

/-- The four rows of the weight. -/
theorem rowsIn_apply (k : Fin 64) :
    (V m c main_v16 : FVec Ideal S4x64 .f32) (ix2 0 k) = argA m c (ix1 k)
    ∧ (V m c main_v16 : FVec Ideal S4x64 .f32) (ix2 1 k) = argB m c (ix1 k)
    ∧ (V m c main_v16 : FVec Ideal S4x64 .f32) (ix2 2 k) = argC m c (ix1 k)
    ∧ (V m c main_v16 : FVec Ideal S4x64 .f32) (ix2 3 k) = argD m c (ix1 k) := by
  rw [rowsIn_eq]
  refine ⟨?_, ?_, ?_, ?_⟩ <;> pointwise

/-- The gains. -/
theorem gainsIn_apply (d : Fin 128) :
    (V m c main_v18 : FVec Ideal S1x128 .f32) (ix2 0 d) = argG m c (ix1 d) := by
  entry_read
  pointwise

/-- The block of queries at a point. -/
theorem block0_apply (r : Fin 256) (q : Fin 256) :
    (iblk m c 0 t : FVec Ideal S1x256x256 .bf16) (ix3 0 r q)
      = (V m c main_v6 : FVec Ideal S4x512x8448 .bf16) (ix3 ⟨t.val / 66, by have := point_lt t; omega⟩
          ⟨256 * (t.val / 33 % 2) + r.val, by omega⟩ ⟨256 * (t.val % 33) + q.val, by omega⟩) := by
  blk_ext [iblk, idx t]

/-- The block of the next queries at a point that is not the last of its row. -/
theorem block1_apply (h : t.val % 33 ≤ 31) (r : Fin 256) (q : Fin 256) :
    (iblk m c 1 t : FVec Ideal S1x256x256 .bf16) (ix3 0 r q)
      = (V m c main_v6 : FVec Ideal S4x512x8448 .bf16) (ix3 ⟨t.val / 66, by have := point_lt t; omega⟩
          ⟨256 * (t.val / 33 % 2) + r.val, by omega⟩ ⟨256 * (t.val % 33 + 1) + q.val, by omega⟩) := by
  blk_ext [iblk, idx t]

/-- The block of keys at a point. -/
theorem block2_apply (x : Fin 8448) (k : Fin 256) :
    (iblk m c 2 t : FVec Ideal S1x8448x256 .bf16) (ix3 0 x k)
      = (V m c main_v17 : FVec Ideal S4x8448x1536 .bf16) (ix3 ⟨t.val / 66, by have := point_lt t; omega⟩ x
          ⟨1024 + 256 * (t.val / 33 % 2) + k.val, by omega⟩) := by
  blk_ext [iblk, idx t]

/-- The block of values at a point. -/
theorem block3_apply (p : Fin 2) (r : Fin 144) (x : Fin 8448) :
    (iblk m c 3 t : FVec Ideal S1x2x144x8448 .bf16) (ix4 0 p r x)
      = (V m c main_v11 : FVec Ideal S4x4x144x8448 .bf16) (ix4 ⟨t.val / 66, by have := point_lt t; omega⟩
          ⟨2 * (t.val / 33 % 2) + p.val, by omega⟩ r x) := by
  blk_ext [iblk, idx t]

/-- The rows of the weight at a point. -/
theorem block4_apply (e : Fin 4) (k : Fin 64) :
    (iblk m c 4 t : FVec Ideal S4x64 .f32) (ix2 e k) = (V m c main_v16 : FVec Ideal S4x64 .f32) (ix2 e k) := by
  blk_ext [iblk, idx t]

/-- The gains at a point. -/
theorem block5_apply (d : Fin 128) :
    (iblk m c 5 t : FVec Ideal S1x128 .f32) (ix2 0 d) = (V m c main_v18 : FVec Ideal S1x128 .f32) (ix2 0 d) := by
  blk_ext [iblk, idx t]

end DiffAttn

end
-- ==== Proof.Result.lean ====
/- The array that the kernel returns, from real queries, keys and values. -/
module

public import proofs.«01_k».proof.Proof.Scores
public import proofs.«01_k».proof.Proof.Tiles
public import proofs.«01_k».proof.Proof.Blocks

@[expose] public section

set_option maxRecDepth 16384

noncomputable section

namespace DiffAttn

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The arguments are real where the claim needs it. -/
structure RealArgs : Prop where
  /-- The queries are real. -/
  q : ∀ i, ∃ x : ℝ, argQ m c i = x
  /-- The keys are real. -/
  k : ∀ b r (j : Fin 1536), 1024 ≤ j.val → ∃ x : ℝ, argK m c (ix3 b r j) = x
  /-- The values are real. -/
  v : ∀ i, ∃ x : ℝ, argV m c i = x
  /-- The vectors of the weight are real. -/
  w : (∀ i, ∃ x : ℝ, argA m c i = x) ∧ (∀ i, ∃ x : ℝ, argB m c i = x) ∧ (∀ i, ∃ x : ℝ, argC m c i = x) ∧ ∀ i, ∃ x : ℝ, argD m c i = x

/-- The scale of the queries is an eighth over the logarithm of two. -/
theorem kap_eq : kap = ((1 / 8 * (Real.log 2)⁻¹ : ℝ) : EReal) := by
  have h2 : Ideal.ofBits .f32 0x40000000#32 = ((2 : ℝ) : EReal) := by
    simp [Ideal.ofBits, Ideal.ieee]
    rw [← EReal.coe_mul]
    norm_num
  rw [kap, h2, ofBits_eighth, Ideal.log_coe, if_neg (by norm_num), div_coe _ _ (Real.log_pos (by norm_num)).ne', div_eq_mul_inv]

variable {m c}

/-- The first window holds the scaled queries of the point's tile. -/
theorem queryBlock0 (H : RealArgs m c) : QueryBlock (argQ m c) (t.val / 66) (t.val / 33 % 2) (t.val % 33) (iblk m c 0 t) := by
  intro r q
  rw [block0_apply, queriesIn_apply, entry_eq _ _ _ _ (H.q _), kap_eq, ← EReal.coe_mul]

/-- The second window holds the scaled queries of the tile after the point's. -/
theorem queryBlock1 (H : RealArgs m c) (h : t.val % 33 ≤ 31) :
    QueryBlock (argQ m c) (t.val / 66) (t.val / 33 % 2) (t.val % 33 + 1) (iblk m c 1 t) := by
  intro r q
  rw [block1_apply m c t h, queriesIn_apply, entry_eq _ _ _ _ (H.q _), kap_eq, ← EReal.coe_mul]

/-- The third window holds the keys of the point's heads. -/
theorem keyBlock (H : RealArgs m c) : KeyBlock (argK m c) (t.val / 66) (t.val / 33 % 2) (iblk m c 2 t) := by
  intro y k
  rw [block2_apply, keysIn_apply, entry_eq _ _ _ _ (H.k _ _ _ (by simp only; omega))]

/-- The fourth window holds the values of the point's heads. -/
theorem valueBlock (H : RealArgs m c) : ValueBlock (argV m c) (t.val / 66) (t.val / 33 % 2) (iblk m c 3 t) := by
  intro p r y
  rw [block3_apply, valuesIn_apply, rowVal]
  split
  · rw [entry_eq _ _ _ _ (H.v _)]
  · rfl

/-- The weight that a point computes. -/
theorem weight_at : k0_pay759 (iblk m c 4 t) (ix2 0 0)
    = lambda (fun k => argA m c (ix1 k)) (fun k => argB m c (ix1 k)) (fun k => argC m c (ix1 k)) (fun k => argD m c (ix1 k)) := by
  rw [lam_apply]
  simp only [block4_apply, (rowsIn_apply m c _).1, (rowsIn_apply m c _).2.1, (rowsIn_apply m c _).2.2.1, (rowsIn_apply m c _).2.2.2]
  rfl

/-- The scores that a point finds in the scratch, of the first block of keys and of the context, are those of its own queries. -/
theorem saved_scores (H : RealArgs m c) (h : ¬t.val % 33 = 0) (hl : t.val - 1 < cfg0.N) (s : Fin 4) (q : Fin 256) :
    (∀ j : Fin 512, chunkSaved (outsAt0 m c (t.val - 1) hl).2.1 s (ix4 0 0 j q)
      = ((score (argQ m c) (argK m c) (t.val / 66) (4 * (t.val / 33 % 2) + s) (256 * (t.val % 33) + q) (512 * (0 : Fin 16) + j)
          * (Real.log 2)⁻¹ : ℝ) : EReal))
    ∧ ∀ j : Fin 256, ctxSaved (outsAt0 m c (t.val - 1) hl).2.2 s (ix3 0 j q)
      = ((score (argQ m c) (argK m c) (t.val / 66) (4 * (t.val / 33 % 2) + s) (256 * (t.val % 33) + q) (8192 + j)
          * (Real.log 2)⁻¹ : ℝ) : EReal) := by
  obtain ⟨u, hu⟩ : ∃ u : Fin cfg0.N, u.val = t.val - 1 := ⟨⟨t.val - 1, hl⟩, rfl⟩
  have e1 : t.val / 66 = u.val / 66 := by omega
  have e2 : t.val / 33 % 2 = u.val / 33 % 2 := by omega
  have e3 : t.val % 33 = u.val % 33 + 1 := by omega
  have hb : u.val % 33 ≤ 31 := by omega
  have hq := queryBlock1 u H hb
  have hk := keyBlock u H
  have key : (∀ s, chunkSaved (outsAt0 m c u.val u.isLt).2.1 s = chunkScore (iblk m c 2 u) s 0 (queries (iblk m c 1 u) s))
      ∧ ∀ s, ctxSaved (outsAt0 m c u.val u.isLt).2.2 s = ctxScore (iblk m c 2 u) s (queries (iblk m c 1 u) s) := by
    by_cases hz : u.val % 33 = 0
    · rw [outsAt0_A m c u hz hb (by omega)]
      dsimp only
      refine ⟨fun s => ?_, fun s => ?_⟩
      · rw [saved_A_0]
      · rw [saved_A_2]
    · rw [outsAt0_B m c u hz hb (by omega)]
      dsimp only
      refine ⟨fun s => ?_, fun s => ?_⟩
      · rw [saved_B_0]
      · rw [saved_B_2]
  rw [e1, e2, e3]
  simp only [← hu]
  refine ⟨fun j => ?_, fun j => ?_⟩
  · rw [key.1 s]
    exact chunk_scores hq hk s 0 j q
  · rw [key.2 s]
    exact ctx_scores hq hk s j q

/-- What a point leaves in the output block. -/
theorem tile_at (H : RealArgs m c) (w : ℝ)
    (hw : lambda (fun k => argA m c (ix1 k)) (fun k => argB m c (ix1 k)) (fun k => argC m c (ix1 k)) (fun k => argD m c (ix1 k)) = w)
    (q : Fin 256) (p : Fin 2) (d : Fin 128) :
    (outsAt0 m c t.val t.isLt).1 (ix3 0 q ⟨128 * p.val + d.val, by omega⟩)
      = scaled (fun e => mix (argQ m c) (argV m c) (argK m c) w (t.val / 66) (2 * (t.val / 33 % 2) + p) (256 * (t.val % 33) + q) e)
          (argG m c (ix1 d)) d := by
  have h0 := queryBlock0 t H
  have h2 := keyBlock t H
  have h3 := valueBlock t H
  have h4 := (weight_at (m := m) (c := c) t).trans hw
  rw [← gainsIn_apply m c d, ← block5_apply m c t d]
  by_cases hz : t.val % 33 = 0
  · rw [outsAt0_A m c t hz (by omega) (by omega)]
    dsimp only
    rw [out_A]
    exact tile_scaled _ _ _ w h4 q (fun s r => stream_latent h0 h2 h3 (by omega) s _ _ r q
      (fun j => ctx_scores h0 h2 s j q) fun j => chunk_scores h0 h2 s 0 j q) p d
  · have hs := fun s => saved_scores t H hz (Nat.lt_of_le_of_lt (Nat.sub_le _ _) t.isLt) s q
    by_cases hb : t.val % 33 ≤ 31
    · rw [outsAt0_B m c t hz hb (by omega)]
      dsimp only
      rw [out_B]
      exact tile_scaled _ _ _ w h4 q (fun s r => stream_latent h0 h2 h3 (by omega) s _ _ r q (hs s).2 (hs s).1) p d
    · rw [outsAt0_C m c t hz hb (by omega)]
      dsimp only
      rw [out_C]
      exact tile_scaled _ _ _ w h4 q (fun s r => stream_context h3 (by omega) s _ r q (hs s).2) p d

/-- The array that the kernel returns, at an index. -/
def returned (m : (ℓ : Loc nD τ sig) → Buf (Elt Ideal) ℓ) (c : Dev nD) (w : ℝ) (j : S4x8448x512.Idx) : EReal :=
  scaled (fun e => mix (argQ m c) (argV m c) (argK m c) w (j 0).val ((j 2).val / 128) (j 1).val e)
    (argG m c (ix1 ⟨(j 2).val % 128, Nat.mod_lt _ (by decide)⟩)) ⟨(j 2).val % 128, Nat.mod_lt _ (by decide)⟩

/-- The kernel returns that array. -/
theorem final (H : RealArgs m c) (w : ℝ)
    (hw : lambda (fun k => argA m c (ix1 k)) (fun k => argB m c (ix1 k)) (fun k => argC m c (ix1 k)) (fun k => argD m c (ix1 k)) = w) :
    (dats m 0 c).arrAt 6 (cfgs 0).N = returned m c w := by
  refine (dats m 0 c).arrAt_eq_of_covers 6 _ (by decide +kernel) fun t _ y => ?_
  blk_simp
  rw [after0_6]
  have hy0 : (y 0).val < 1 := (y 0).isLt
  have hy1 : (y 1).val < 256 := (y 1).isLt
  have hy2 : (y 2).val < 256 := (y 2).isLt
  have ht := point_lt t
  have e : y = ix3 0 ⟨(y 1).val, hy1⟩ ⟨128 * ((y 2).val / 128) + (y 2).val % 128, by omega⟩ := by
    blk_ext
  have hg : (win0_6.blk t).view.emb y = ix3 ⟨t.val / 66, by omega⟩ ⟨256 * (t.val % 33) + (y 1).val, by omega⟩
      ⟨256 * (t.val / 33 % 2) + (y 2).val, by omega⟩ := by
    blk_ext [idx t]
  have a : (256 * (t.val / 33 % 2) + (y 2).val) / 128 = 2 * (t.val / 33 % 2) + (y 2).val / 128 := by omega
  have a' : (256 * (t.val / 33 % 2) + (y 2).val) % 128 = (y 2).val % 128 := by omega
  rw [hg]
  have h := tile_at t H w hw ⟨(y 1).val, hy1⟩ ⟨(y 2).val / 128, by omega⟩ ⟨(y 2).val % 128, by omega⟩
  refine (congrArg (outsAt0 m c t.val t.isLt).1 e).trans (h.trans ?_)
  unfold returned
  simp only [ix3_0, ix3_1, ix3_2, a, a']

end DiffAttn

end
-- ==== Proof.Finite.lean ====
/- What the precondition says of the arguments: the entries that the claim needs are real. -/
module

public import proofs.«01_k».proof.Proof.Result
public import proofs.«01_k».proof.Pre_finite
public import proofs.«01_k».proof.Proof.Gen.Pre_finite
public import Idealize.ShloMosaic.Lib.ReduceAll

@[expose] public section

set_option maxRecDepth 16384

noncomputable section

namespace DiffAttn

open Idealize.ShloMosaic Idealize.ShloMosaic.TcCoe Idealize.SL.Sem

/-- A value whose magnitude is less than infinity is real. -/
theorem real_of_abs_lt (x : EReal) (h : FloatOps.cmpf (F := Ideal) (φ := .f32) .olt (FloatOps.hostAbsf (F := Ideal) (φ := .f32) x) (Ideal.ofBits .f32 0x7F800000#32) = 1#1) : ∃ r : ℝ, x = r := by
  have ht : Ideal.ofBits .f32 0x7F800000#32 = ⊤ := by simp [Ideal.ofBits, Ideal.ieee]
  rw [ht] at h
  have hl : max x (-x) < ⊤ := by
    by_contra hn
    have : FloatOps.cmpf (F := Ideal) (φ := .f32) .olt (FloatOps.hostAbsf (F := Ideal) (φ := .f32) x) ⊤ = 0#1 :=
      (congrArg BitVec.ofBool (decide_eq_false hn)).trans rfl
    rw [this] at h
    exact absurd h (by decide)
  obtain ⟨h1, h2⟩ := max_lt_iff.mp hl
  induction x using EReal.rec with
  | bot => simp at h2
  | coe r => exact ⟨r, rfl⟩
  | top => simp at h1

/-- A scalar has one index. -/
instance : Subsingleton Cert.Pre_finite.S_.Idx := ⟨fun a b => by funext i; exact i.elim0⟩

/-- An array that is finite throughout is real at every index. -/
theorem real_of_all {s : Shape} {axes : List (Fin s.rank)} (x : FVec Ideal s .f32)
    (hb : Cert.Pre_finite.S_.BroadcastsInDim s (![] : Fin 0 → Fin s.rank)) (init : Cert.Pre_finite.S_.Idx → BitVec 1)
    (h : s.ReducesTo axes Cert.Pre_finite.S_) (hu : 0 < Cert.Pre_finite.S_.numel)
    (e : Host.reduce IntOp.andi (cmpf .olt (Host.absf x) (broadcastInDim s ![] hb (constant Cert.Pre_finite.S_ .f32 0x7F800000#32))) init h hu ix0 = 1#1)
    (i : s.Idx) : ∃ r : ℝ, x i = r := by
  have h1 := Host.reduce_andi_all _ init h hu ix0 e i
  exact real_of_abs_lt (x i) h1

section

open Cert.KernelIdeal

/-- The precondition gives the real arguments. -/
theorem real_args (m : (ℓ : Loc nD τ sig) → Buf (Elt Ideal) ℓ) (c : Dev nD)
    (h : Cert.Pre_finite.fn (F := Ideal) (argQ m c) (argK m c) (argV m c) (argA m c) (argB m c) (argC m c) (argD m c) (argG m c)
      = fun _ => 1#1) : RealArgs m c := by
  have e := congrFun h ix0
  dsimp only [Cert.Pre_finite.fn, Cert.Pre_finite.fn_part1, Cert.Pre_finite.fn_part2] at e
  obtain ⟨e, eD⟩ := IntOp.andi_eq_one.1 e
  obtain ⟨e, eC⟩ := IntOp.andi_eq_one.1 e
  obtain ⟨e, eB⟩ := IntOp.andi_eq_one.1 e
  obtain ⟨e, eA⟩ := IntOp.andi_eq_one.1 e
  obtain ⟨e, eV⟩ := IntOp.andi_eq_one.1 e
  obtain ⟨eQ, eK⟩ := IntOp.andi_eq_one.1 e
  refine ⟨real_of_all _ _ _ _ _ eQ, fun b r j hj => ?_, real_of_all _ _ _ _ _ eV, real_of_all _ _ _ _ _ eA, real_of_all _ _ _ _ _ eB,
    real_of_all _ _ _ _ _ eC, real_of_all _ _ _ _ _ eD⟩
  obtain ⟨x, hx⟩ := real_of_all _ _ _ _ _ eK (ix3 b r ⟨j.val - 1024, by omega⟩)
  have hj' : j = ⟨1024 + (j.val - 1024), by omega⟩ := Fin.ext (by simp only; omega)
  rw [hj']
  refine ⟨x, Eq.trans ?_ hx⟩
  clear e eQ eK eV eA eB eC eD hx h
  pointwise

end

end DiffAttn

end
-- ==== Proof.Ref.lean ====
/- The reference read at an index: the difference of two softmaxes over the keys seen, normalised and scaled. -/
module

public import proofs.«01_k».proof.Proof.Gen.ReferenceIdeal.Read
public import proofs.«01_k».proof.Proof.Spec

@[expose] public section

set_option maxRecDepth 16384

noncomputable section

namespace DiffAttn

open Cert.ReferenceIdeal Cert.ReferenceIdeal.Read Idealize.ShloMosaic Idealize.SL.Sem

/-- The maximum with minus infinity changes nothing. -/
theorem max_neg_inf (x : EReal) : max (Ideal.ofBits .f32 0xFF800000#32) x = x := by
  rw [show Ideal.ofBits .f32 0xFF800000#32 = ⊥ by simp [Ideal.ofBits, Ideal.ieee]]
  exact max_eq_right bot_le

/-- A row of softmax weights, taken under the maximum of its scores. -/
theorem soft_row (off n : ℕ) (hn : 0 < n) (t : ℕ → ℝ) (T E W : Fin n → EReal) (M : EReal)
    (hT : ∀ j, T j = (t (off + j) : EReal)) (hM : M = Finset.univ.fold max (Ideal.ofBits .f32 0xFF800000#32) T)
    (hE : ∀ j, E j = Ideal.exp (T j - M)) (hW : ∀ j, W j = Ideal.div (E j) (∑ k, E k)) (j : Fin n) :
    W j = ((Real.exp (t (off + j)) / ∑ x ∈ Finset.Ico off (off + n), Real.exp (t x) : ℝ) : EReal) := by
  rw [show Ideal.ofBits .f32 0xFF800000#32 = ⊥ by simp [Ideal.ofBits, Ideal.ieee]] at hM
  obtain ⟨μ, hμ⟩ := fold_real ⟨0, hn⟩ T fun j => ⟨_, hT j⟩
  rw [hμ] at hM
  subst hM
  rw [hW, ← weight_coe off n hn t T hT μ j, zero_add, hE, Finset.sum_congr rfl fun k _ => hE k]

/-- A dot product of a query and a key, times an eighth, is the score. -/
theorem score_coe {l m n n' : ℕ} (Q : (⟨3, ![l, m, n]⟩ : Shape).Idx → EReal) (K : (⟨3, ![l, m, n']⟩ : Shape).Idx → EReal) (b g r x : ℕ)
    (A B : Fin 64 → EReal) (hA : ∀ k, A k = (entry Q b r (64 * g + k) : EReal)) (hB : ∀ k, B k = (entry K b x (1024 + 64 * g + k) : EReal)) :
    (∑ k, A k * B k) * Ideal.ofBits .f32 0x3E000000#32 = (score Q K b g r x : EReal) := by
  rw [ofBits_eighth, Finset.sum_congr rfl fun k _ => by rw [hA, hB, ← EReal.coe_mul], ← coe_sum, ← EReal.coe_mul, mul_comm]
  rfl

section

variable (x0 : FVec Ideal S4x8448x512 .f32) (x1 : FVec Ideal S4x8448x1536 .f32) (x2 : FVec Ideal S4x8448x512 .f32)
  (x3 x4 x5 x6 : FVec Ideal S64 .f32) (x7 : FVec Ideal S128 .f32)

/-- The scores of the latents' first stream. -/
theorem ref_score0 (h0 : ∀ i, ∃ x : ℝ, x0 i = x) (h1 : ∀ b r (c : Fin 1536), 1024 ≤ c.val → ∃ x : ℝ, x1 (ix3 b r c) = x)
    (b h : Fin 4) (r : Fin 8192) (x : Fin 8448) :
    val_main_v23 (F := Ideal) x0 x1 (ix4 b h r x) = (score x0 x1 b (2 * h) r x : EReal) := by
  pointwise [val_main_v23, val_main_v21, val_main_v19, val_main_v15, val_main_v9, val_main_v8, val_main_v17, val_main_v12, val_main_v11,
    val_main_v10, val_main_v22, val_main_cst_2]
  refine score_coe x0 x1 b (2 * h) r x _ _ (fun k => (entry_eq _ _ _ _ (h0 _)).trans ?_)
    fun k => (entry_eq _ _ _ _ (h1 _ _ _ (Nat.le_add_right _ _))).trans ?_ <;> congr 2 <;> simp only <;> omega

/-- The scores of the latents' second stream. -/
theorem ref_score1 (h0 : ∀ i, ∃ x : ℝ, x0 i = x) (h1 : ∀ b r (c : Fin 1536), 1024 ≤ c.val → ∃ x : ℝ, x1 (ix3 b r c) = x)
    (b h : Fin 4) (r : Fin 8192) (x : Fin 8448) :
    val_main_v37 (F := Ideal) x0 x1 (ix4 b h r x) = (score x0 x1 b (2 * h + 1) r x : EReal) := by
  pointwise [val_main_v37, val_main_v35, val_main_v20, val_main_v16, val_main_v9, val_main_v8, val_main_v18, val_main_v12, val_main_v11,
    val_main_v10, val_main_v36, val_main_cst_6]
  refine score_coe x0 x1 b (2 * h + 1) r x _ _ (fun k => (entry_eq _ _ _ _ (h0 _)).trans ?_)
    fun k => (entry_eq _ _ _ _ (h1 _ _ _ (Nat.le_add_right _ _))).trans ?_ <;> congr 2 <;> simp only <;> omega

/-- The scores of the context's first stream. -/
theorem ref_score2 (h0 : ∀ i, ∃ x : ℝ, x0 i = x) (h1 : ∀ b r (c : Fin 1536), 1024 ≤ c.val → ∃ x : ℝ, x1 (ix3 b r c) = x)
    (b h : Fin 4) (r : Fin 256) (x : Fin 256) :
    val_main_v60 (F := Ideal) x0 x1 (ix4 b h r x) = (score x0 x1 b (2 * h) (8192 + r) (8192 + x) : EReal) := by
  pointwise [val_main_v60, val_main_v58, val_main_v53, val_main_v15, val_main_v9, val_main_v8, val_main_v55, val_main_v17, val_main_v12,
    val_main_v11, val_main_v10, val_main_v59, val_main_cst_10]
  refine score_coe x0 x1 b (2 * h) (8192 + r) (8192 + x) _ _ (fun k => (entry_eq _ _ _ _ (h0 _)).trans ?_)
    fun k => (entry_eq _ _ _ _ (h1 _ _ _ (Nat.le_add_right _ _))).trans ?_ <;> congr 2 <;> simp only <;> omega

/-- The scores of the context's second stream. -/
theorem ref_score3 (h0 : ∀ i, ∃ x : ℝ, x0 i = x) (h1 : ∀ b r (c : Fin 1536), 1024 ≤ c.val → ∃ x : ℝ, x1 (ix3 b r c) = x)
    (b h : Fin 4) (r : Fin 256) (x : Fin 256) :
    val_main_v74 (F := Ideal) x0 x1 (ix4 b h r x) = (score x0 x1 b (2 * h + 1) (8192 + r) (8192 + x) : EReal) := by
  pointwise [val_main_v74, val_main_v72, val_main_v54, val_main_v16, val_main_v9, val_main_v8, val_main_v56, val_main_v18, val_main_v12,
    val_main_v11, val_main_v10, val_main_v73, val_main_cst_14]
  refine score_coe x0 x1 b (2 * h + 1) (8192 + r) (8192 + x) _ _ (fun k => (entry_eq _ _ _ _ (h0 _)).trans ?_)
    fun k => (entry_eq _ _ _ _ (h1 _ _ _ (Nat.le_add_right _ _))).trans ?_ <;> congr 2 <;> simp only <;> omega

/-- The weights of the latents' first stream. -/
theorem ref_weight0 (b h : Fin 4) (r : Fin 8192) (t : ℕ → ℝ)
    (ht : ∀ x : Fin 8448, val_main_v23 (F := Ideal) x0 x1 (ix4 b h r x) = (t (0 + x) : EReal)) (j : Fin 8448) :
    val_main_v34 (F := Ideal) x0 x1 (ix4 b h r j) = ((Real.exp (t (0 + j)) / ∑ x ∈ Finset.Ico 0 (0 + 8448), Real.exp (t x) : ℝ) : EReal) := by
  refine soft_row 0 8448 (by norm_num) t (fun x => val_main_v23 (F := Ideal) x0 x1 (ix4 b h r x)) (fun x => val_main_v30 (F := Ideal) x0 x1 (ix4 b h r x))
    (fun x => val_main_v34 (F := Ideal) x0 x1 (ix4 b h r x)) (val_main_v24 (F := Ideal) x0 x1 (ix3 b h r)) ht ?_ (fun x => ?_) (fun x => ?_) j
  · pointwise [val_main_v24, val_main_cst_3]
  · have hm : val_main_v28 (F := Ideal) x0 x1 (ix4 b h r x) = val_main_v26 (F := Ideal) x0 x1 (ix3 b h r) := by
      pointwise [val_main_v28, val_main_v27]
    have hx : val_main_v26 (F := Ideal) x0 x1 (ix3 b h r) = val_main_v24 (F := Ideal) x0 x1 (ix3 b h r) := by
      rw [val_main_v26_apply, val_main_v25_apply]
      exact max_neg_inf _
    rw [val_main_v30_apply, val_main_v29_apply, hm, hx]
    rfl
  · pointwise [val_main_v34, val_main_v33, val_main_v32, val_main_v31, val_main_cst_5]

/-- The weights of the latents' second stream. -/
theorem ref_weight1 (b h : Fin 4) (r : Fin 8192) (t : ℕ → ℝ)
    (ht : ∀ x : Fin 8448, val_main_v37 (F := Ideal) x0 x1 (ix4 b h r x) = (t (0 + x) : EReal)) (j : Fin 8448) :
    val_main_v48 (F := Ideal) x0 x1 (ix4 b h r j) = ((Real.exp (t (0 + j)) / ∑ x ∈ Finset.Ico 0 (0 + 8448), Real.exp (t x) : ℝ) : EReal) := by
  refine soft_row 0 8448 (by norm_num) t (fun x => val_main_v37 (F := Ideal) x0 x1 (ix4 b h r x)) (fun x => val_main_v44 (F := Ideal) x0 x1 (ix4 b h r x))
    (fun x => val_main_v48 (F := Ideal) x0 x1 (ix4 b h r x)) (val_main_v38 (F := Ideal) x0 x1 (ix3 b h r)) ht ?_ (fun x => ?_) (fun x => ?_) j
  · pointwise [val_main_v38, val_main_cst_7]
  · have hm : val_main_v42 (F := Ideal) x0 x1 (ix4 b h r x) = val_main_v40 (F := Ideal) x0 x1 (ix3 b h r) := by
      pointwise [val_main_v42, val_main_v41]
    have hx : val_main_v40 (F := Ideal) x0 x1 (ix3 b h r) = val_main_v38 (F := Ideal) x0 x1 (ix3 b h r) := by
      rw [val_main_v40_apply, val_main_v39_apply]
      exact max_neg_inf _
    rw [val_main_v44_apply, val_main_v43_apply, hm, hx]
    rfl
  · pointwise [val_main_v48, val_main_v47, val_main_v46, val_main_v45, val_main_cst_9]

/-- The weights of the context's first stream. -/
theorem ref_weight2 (b h : Fin 4) (r : Fin 256) (t : ℕ → ℝ)
    (ht : ∀ x : Fin 256, val_main_v60 (F := Ideal) x0 x1 (ix4 b h r x) = (t (8192 + x) : EReal)) (j : Fin 256) :
    val_main_v71 (F := Ideal) x0 x1 (ix4 b h r j) = ((Real.exp (t (8192 + j)) / ∑ x ∈ Finset.Ico 8192 (8192 + 256), Real.exp (t x) : ℝ) : EReal) := by
  refine soft_row 8192 256 (by norm_num) t (fun x => val_main_v60 (F := Ideal) x0 x1 (ix4 b h r x)) (fun x => val_main_v67 (F := Ideal) x0 x1 (ix4 b h r x))
    (fun x => val_main_v71 (F := Ideal) x0 x1 (ix4 b h r x)) (val_main_v61 (F := Ideal) x0 x1 (ix3 b h r)) ht ?_ (fun x => ?_) (fun x => ?_) j
  · pointwise [val_main_v61, val_main_cst_11]
  · have hm : val_main_v65 (F := Ideal) x0 x1 (ix4 b h r x) = val_main_v63 (F := Ideal) x0 x1 (ix3 b h r) := by
      pointwise [val_main_v65, val_main_v64]
    have hx : val_main_v63 (F := Ideal) x0 x1 (ix3 b h r) = val_main_v61 (F := Ideal) x0 x1 (ix3 b h r) := by
      rw [val_main_v63_apply, val_main_v62_apply]
      exact max_neg_inf _
    rw [val_main_v67_apply, val_main_v66_apply, hm, hx]
    rfl
  · pointwise [val_main_v71, val_main_v70, val_main_v69, val_main_v68, val_main_cst_13]

/-- The weights of the context's second stream. -/
theorem ref_weight3 (b h : Fin 4) (r : Fin 256) (t : ℕ → ℝ)
    (ht : ∀ x : Fin 256, val_main_v74 (F := Ideal) x0 x1 (ix4 b h r x) = (t (8192 + x) : EReal)) (j : Fin 256) :
    val_main_v85 (F := Ideal) x0 x1 (ix4 b h r j) = ((Real.exp (t (8192 + j)) / ∑ x ∈ Finset.Ico 8192 (8192 + 256), Real.exp (t x) : ℝ) : EReal) := by
  refine soft_row 8192 256 (by norm_num) t (fun x => val_main_v74 (F := Ideal) x0 x1 (ix4 b h r x)) (fun x => val_main_v81 (F := Ideal) x0 x1 (ix4 b h r x))
    (fun x => val_main_v85 (F := Ideal) x0 x1 (ix4 b h r x)) (val_main_v75 (F := Ideal) x0 x1 (ix3 b h r)) ht ?_ (fun x => ?_) (fun x => ?_) j
  · pointwise [val_main_v75, val_main_cst_15]
  · have hm : val_main_v79 (F := Ideal) x0 x1 (ix4 b h r x) = val_main_v77 (F := Ideal) x0 x1 (ix3 b h r) := by
      pointwise [val_main_v79, val_main_v78]
    have hx : val_main_v77 (F := Ideal) x0 x1 (ix3 b h r) = val_main_v75 (F := Ideal) x0 x1 (ix3 b h r) := by
      rw [val_main_v77_apply, val_main_v76_apply]
      exact max_neg_inf _
    rw [val_main_v81_apply, val_main_v80_apply, hm, hx]
    rfl
  · pointwise [val_main_v85, val_main_v84, val_main_v83, val_main_v82, val_main_cst_17]

/-- The weight of the second softmax. -/
theorem ref_lambda : val_main_v7 (F := Ideal) x3 x4 x5 x6 ix0
    = lambda (fun k => x3 (ix1 k)) (fun k => x4 (ix1 k)) (fun k => x5 (ix1 k)) fun k => x6 (ix1 k) := by
  pointwise [val_main_v7, val_main_v6, val_main_v5, val_main_v4, val_main_v3, val_main_v2, val_main_v1, val_main_v0, val_main_cst,
    val_main_cst_0, val_main_cst_1, lambda]

/-- The difference of the softmaxes for a latent. -/
theorem ref_mix0 (h0 : ∀ i, ∃ x : ℝ, x0 i = x) (h1 : ∀ b r (c : Fin 1536), 1024 ≤ c.val → ∃ x : ℝ, x1 (ix3 b r c) = x)
    (h2 : ∀ i, ∃ x : ℝ, x2 i = x) (w : ℝ) (hw : val_main_v7 (F := Ideal) x3 x4 x5 x6 ix0 = w) (b h : Fin 4) (r : Fin 8192) (d : Fin 128) :
    val_main_v52 (F := Ideal) x0 x1 x2 x3 x4 x5 x6 (ix4 b h r d) = (mix x0 x2 x1 w b h r d : EReal) := by
  have e : val_main_v52 (F := Ideal) x0 x1 x2 x3 x4 x5 x6 (ix4 b h r d)
      = ∑ x : Fin 8448, (val_main_v34 (F := Ideal) x0 x1 (ix4 b h r x) - val_main_v7 (F := Ideal) x3 x4 x5 x6 ix0 * val_main_v48 (F := Ideal) x0 x1 (ix4 b h r x))
        * x2 (ix3 b x ⟨h.val * 128 + d.val, by omega⟩) := by
    pointwise [val_main_v52, val_main_v51, val_main_v50, val_main_v49, val_main_v14, val_main_v13]
  have v : ∀ x : Fin 8448, x2 (ix3 b x ⟨h.val * 128 + d.val, by omega⟩) = ((fun y => entry x2 b y (128 * h + d)) (0 + x) : EReal) := fun x =>
    (entry_eq _ _ _ _ (h2 _)).trans (by simp only [zero_add, mul_comm])
  simp only [e, hw, v, ref_weight0 x0 x1 b h r (score x0 x1 b (2 * h) r) (fun x => by rw [ref_score0 x0 x1 h0 h1, zero_add]),
    ref_weight1 x0 x1 b h r (score x0 x1 b (2 * h + 1) r) (fun x => by rw [ref_score1 x0 x1 h0 h1, zero_add])]
  refine (diff_coe 0 8448 _ _ (fun y => entry x2 b y (128 * h + d)) w).trans ?_
  rw [mix, seen, if_pos r.isLt]

/-- The difference of the softmaxes for a context query. -/
theorem ref_mix1 (h0 : ∀ i, ∃ x : ℝ, x0 i = x) (h1 : ∀ b r (c : Fin 1536), 1024 ≤ c.val → ∃ x : ℝ, x1 (ix3 b r c) = x)
    (h2 : ∀ i, ∃ x : ℝ, x2 i = x) (w : ℝ) (hw : val_main_v7 (F := Ideal) x3 x4 x5 x6 ix0 = w) (b h : Fin 4) (r : Fin 256) (d : Fin 128) :
    val_main_v89 (F := Ideal) x0 x1 x2 x3 x4 x5 x6 (ix4 b h r d) = (mix x0 x2 x1 w b h (8192 + r) d : EReal) := by
  have e : val_main_v89 (F := Ideal) x0 x1 x2 x3 x4 x5 x6 (ix4 b h r d)
      = ∑ x : Fin 256, (val_main_v71 (F := Ideal) x0 x1 (ix4 b h r x) - val_main_v7 (F := Ideal) x3 x4 x5 x6 ix0 * val_main_v85 (F := Ideal) x0 x1 (ix4 b h r x))
        * x2 (ix3 b ⟨8192 + x.val, by omega⟩ ⟨h.val * 128 + d.val, by omega⟩) := by
    pointwise [val_main_v89, val_main_v88, val_main_v87, val_main_v86, val_main_v57, val_main_v14, val_main_v13]
  have v : ∀ x : Fin 256, x2 (ix3 b ⟨8192 + x.val, by omega⟩ ⟨h.val * 128 + d.val, by omega⟩) = ((fun y => entry x2 b y (128 * h + d)) (8192 + x) : EReal) := fun x =>
    (entry_eq _ _ _ _ (h2 _)).trans (by simp only [mul_comm])
  simp only [e, hw, v, ref_weight2 x0 x1 b h r (score x0 x1 b (2 * h) (8192 + r)) (fun x => ref_score2 x0 x1 h0 h1 b h r x),
    ref_weight3 x0 x1 b h r (score x0 x1 b (2 * h + 1) (8192 + r)) (fun x => ref_score3 x0 x1 h0 h1 b h r x)]
  refine (diff_coe 8192 256 _ _ (fun y => entry x2 b y (128 * h + d)) w).trans ?_
  rw [mix, seen, if_neg (by omega)]

/-- The reference at an index: the difference of the softmaxes of its head, normalised and scaled. -/
theorem ref_apply (h0 : ∀ i, ∃ x : ℝ, x0 i = x) (h1 : ∀ b r (c : Fin 1536), 1024 ≤ c.val → ∃ x : ℝ, x1 (ix3 b r c) = x)
    (h2 : ∀ i, ∃ x : ℝ, x2 i = x) (w : ℝ) (hw : val_main_v7 (F := Ideal) x3 x4 x5 x6 ix0 = w) (b : Fin 4) (r : Fin 8448) (h : Fin 4) (d : Fin 128) :
    val_main_v125 (F := Ideal) x0 x1 x2 x3 x4 x5 x6 x7 (ix3 b r ⟨128 * h.val + d.val, by omega⟩)
      = scaled (fun e => mix x0 x2 x1 w b h r e) (x7 (ix1 d)) d := by
  have hh : (128 * h.val + d.val) / 128 = h.val := by omega
  have hd : (128 * h.val + d.val) % 128 = d.val := by omega
  have e : val_main_v125 (F := Ideal) x0 x1 x2 x3 x4 x5 x6 x7 (ix3 b r ⟨128 * h.val + d.val, by omega⟩)
      = if l : r.val < 8192 then val_main_v106 (F := Ideal) x0 x1 x2 x3 x4 x5 x6 x7 (ix3 b ⟨r.val, l⟩ ⟨128 * h.val + d.val, by omega⟩)
        else val_main_v123 (F := Ideal) x0 x1 x2 x3 x4 x5 x6 x7 (ix3 b ⟨r.val - 8192, by omega⟩ ⟨128 * h.val + d.val, by omega⟩) := by
    pointwise [val_main_v125, val_main_v124]
  rw [e]
  split
  · rename_i l
    pointwise [val_main_v106, val_main_v105, val_main_v104, val_main_v103, val_main_v102, val_main_v101, val_main_v100, val_main_v99, val_main_v98,
      val_main_v97, val_main_v96, val_main_v95, val_main_v94, val_main_v93, val_main_v92, val_main_v91, val_main_v90, val_main_cst_18,
      val_main_cst_19, val_main_cst_20, val_main_cst_21]
    simp only [hh, hd, Fin.eta, ref_mix0 x0 x1 x2 x3 x4 x5 x6 h0 h1 h2 w hw, scaled]
  · rename_i l
    pointwise [val_main_v123, val_main_v122, val_main_v121, val_main_v120, val_main_v119, val_main_v118, val_main_v117, val_main_v116, val_main_v115,
      val_main_v114, val_main_v113, val_main_v112, val_main_v111, val_main_v110, val_main_v109, val_main_v108, val_main_v107, val_main_cst_22,
      val_main_cst_23, val_main_cst_24, val_main_cst_25]
    simp only [hh, hd, Fin.eta, ref_mix1 x0 x1 x2 x3 x4 x5 x6 h0 h1 h2 w hw, scaled, Nat.add_sub_cancel' (Nat.le_of_not_lt l)]

end

end DiffAttn

end
-- ==== Proof.Agree.lean ====
/- The two programs agree: on real arguments the reference's result is the array the kernel returns. -/
module

public import proofs.«01_k».proof.Proof.Finite
public import proofs.«01_k».proof.Proof.Ref

@[expose] public section

set_option maxRecDepth 16384

noncomputable section

namespace DiffAttn

open Idealize.ShloMosaic Idealize.ShloMosaic.TcCoe Idealize.SL.Sem
open Cert.KernelIdeal Cert.KernelIdeal.Gen

/-- On real arguments the reference computes the kernel's output array. -/
theorem reference_is_kernel (m : (ℓ : Loc nD τ sig) → Buf (Elt Ideal) ℓ) (c : Dev nD) (H : RealArgs m c) :
    Cert.ReferenceIdeal.Read.val_main_v125 (F := Ideal) (argQ m c) (argK m c) (argV m c) (argA m c) (argB m c) (argC m c) (argD m c) (argG m c)
      = (dats m 0 c).arrAt 6 (cfgs 0).N := by
  obtain ⟨w, hw⟩ := lambda_real _ _ _ _ (fun k => H.w.1 (ix1 k)) (fun k => H.w.2.1 (ix1 k)) (fun k => H.w.2.2.1 (ix1 k)) (fun k => H.w.2.2.2 (ix1 k))
  rw [final H w hw]
  funext j
  have h0 : (j 0).val < 4 := (j 0).isLt
  have h1 : (j 1).val < 8448 := (j 1).isLt
  have h2 : (j 2).val < 512 := (j 2).isLt
  have e : j = ix3 ⟨(j 0).val, h0⟩ ⟨(j 1).val, h1⟩ ⟨128 * ((j 2).val / 128) + (j 2).val % 128, by omega⟩ := by
    blk_ext
  refine (congrArg _ e).trans ((ref_apply (argQ m c) (argK m c) (argV m c) (argA m c) (argB m c) (argC m c) (argD m c) (argG m c) H.q H.k H.v w
    ((ref_lambda _ _ _ _).trans hw) ⟨_, h0⟩ ⟨_, h1⟩ ⟨(j 2).val / 128, by omega⟩ ⟨(j 2).val % 128, by omega⟩).trans ?_)
  rfl

end DiffAttn

end
-- ==== Proof.GqaWords.lean ====
/- The tile program of the grouped-query attention in steps: the masked queries of a stream, the scores against a block of keys, one
step of the running softmax, and the four streams side by side. -/
module

public import proofs.«01_k».proof.Proof.Gen.Kernel5Ideal.Value
public import proofs.«01_k».proof.Proof.ReadSub

@[expose] public section

noncomputable section

namespace GqaAttn

open Cert.Kernel5Ideal Cert.Kernel5Ideal.Gen Idealize.ShloMosaic Idealize.SL.Sem

variable {F : FTy → Type} [FloatOps F]

/-- The half of the query rows that stream `s` belongs to. -/
def pair (s : Fin 4) : Fin 2 := ![0, 0, 1, 1] s

/-- The 128 query rows of a half, as loaded. -/
def qload (x : Vec F S1x256x256 .bf16) (b : Fin 2) : Vec F S1x128x256 .bf16 :=
  View.ld x (Rect.unit ![0, 128 * b.val, 0] S1x128x256.size (by intro a; fin_cases b <;> revert a <;> decide))

/-- The 128 query rows of a half. -/
def qrows (x : Vec F S1x256x256 .bf16) (b : Fin 2) : FVec F S128x256 .bf16 :=
  shapeCast S128x256 (qload x b) shapeCasts_S1x128x256_S128x256

/-- A block of 256 keys; the context's are the last block. -/
def kload (x2 : Vec F S1x8448x128 .bf16) (k : Fin 33) : Vec F S1x256x128 .bf16 :=
  View.ld x2 (Rect.unit ![0, 256 * k.val, 0] S1x256x128.size (by
    intro a; have := k.isLt
    fin_cases a <;> simp only [S1x8448x128] <;> simp <;> omega))

/-- The queries of a stream: the rows of its half of the 128, zero in the others. -/
def queries (x : Vec F S1x256x256 .bf16) (s : Fin 4) : FVec F S128x256 .bf16 :=
  select (cmpi (![.slt, .sge, .slt, .sge] s) (iota .tc S128x256 32 [0] iota_S128x256_d0_w32) (broadcast S128x256 64#32))
    (qrows x (pair s)) (broadcast S128x256 (Scalar.ofBits .bf16 0x0000#16))

/-- The scores of a block of keys. -/
def rawScore (x2 : Vec F S1x8448x128 .bf16) (k : Fin 33) (q : FVec F S128x256 .bf16) : FVec F S256x256 .f32 :=
  matmul dot_S256x128_S128x256_S256x256_1_0_0_1_n_n none
    (shapeCast S256x128 (kload x2 k) shapeCasts_S1x256x128_S256x128) q (constant S256x256 .f32 0x00000000#32)

/-- The scores of a block of latent keys, as stored. -/
def chunkScore (x2 : Vec F S1x8448x128 .bf16) (k : Fin 33) (q : FVec F S128x256 .bf16) : FVec F S1x1x256x256 .f32 :=
  shapeCast S1x1x256x256 (rawScore x2 k q) shapeCasts_S256x256_S1x1x256x256

/-- The scores of the context keys, as stored. -/
def ctxScore (x2 : Vec F S1x8448x128 .bf16) (q : FVec F S128x256 .bf16) : FVec F S1x256x256 .f32 :=
  shapeCast S1x256x256 (rawScore x2 32 q) shapeCasts_S256x256_S1x256x256

/-- A running maximum and a running weighted sum. -/
abbrev Carry (F : FTy → Type) := FVec F S1x1x256 .f32 × FVec F S1x80x256 .f32

/-- The running maximum after a block of scores. -/
def newMax (st : FVec F S256x256 .f32) (m : FVec F S1x1x256 .f32) : FVec F S1x256 .f32 :=
  maximumf (shapeCast S1x256 m shapeCasts_S1x1x256_S1x256)
    (shapeCast S1x256 (multiReduction .maximumf [0] S256 st 0xFF800000#32
      reduces_S256x256_S256 (.inl rfl) rfl) shapeCasts_S256_S1x256)

/-- The weighted sum so far, rescaled to a new maximum. -/
def rescaled (m : FVec F S1x1x256 .f32) (m' : FVec F S1x256 .f32) (acc : FVec F S1x80x256 .f32) : FVec F S80x256 .f32 :=
  mulf (broadcastTo S80x256 (shapeCast S1x256 (shapeCast S1x1x1x256 (exp2 (subf (shapeCast S1x256 m shapeCasts_S1x1x256_S1x256) m'))
    shapeCasts_S1x256_S1x1x1x256) shapeCasts_S1x1x1x256_S1x256) broadcasts_S1x256_S80x256)
    (shapeCast S80x256 acc shapeCasts_S1x80x256_S80x256)

/-- The weights of a block. -/
def weights (st : FVec F S256x256 .f32) (m' : FVec F S1x256 .f32) : FVec F S256x256 .bf16 :=
  exp2 (truncf .bf16 (subf st (broadcastTo S256x256 m' broadcasts_S1x256_S256x256)) bitsLt_bf16_f32)

/-- The values of a block under their weights. -/
def blockSum (vc : Vec F S1x1x80x256 .bf16) (p : FVec F S256x256 .bf16) : FVec F S80x256 .f32 :=
  matmul dot_S80x256_S256x256_S80x256_1_0_0_1_n_n none (shapeCast S80x256 vc shapeCasts_S1x1x80x256_S80x256) p
    (constant S80x256 .f32 0x00000000#32)

/-- The carry after a block of latent keys. -/
def chunkStep (vc : Vec F S1x1x80x256 .bf16) (st : Vec F S1x1x256x256 .f32) (r : Carry F) : Carry F :=
  (shapeCast S1x1x256 (newMax (shapeCast S256x256 st shapeCasts_S1x1x256x256_S256x256) r.1) shapeCasts_S1x256_S1x1x256,
   shapeCast S1x80x256 (addf (rescaled r.1 (newMax (shapeCast S256x256 st shapeCasts_S1x1x256x256_S256x256) r.1) r.2)
    (blockSum vc (shapeCast S256x256 (shapeCast S1x1x256x256 (weights (shapeCast S256x256 st shapeCasts_S1x1x256x256_S256x256)
      (newMax (shapeCast S256x256 st shapeCasts_S1x1x256x256_S256x256) r.1)) shapeCasts_S256x256_S1x1x256x256)
      shapeCasts_S1x1x256x256_S256x256))) shapeCasts_S80x256_S1x80x256)

/-- The carry after the context keys. -/
def ctxStep (vc : Vec F S1x1x80x256 .bf16) (st : Vec F S1x256x256 .f32) (r : Carry F) : Carry F :=
  (shapeCast S1x1x256 (newMax (shapeCast S256x256 st shapeCasts_S1x256x256_S256x256) r.1) shapeCasts_S1x256_S1x1x256,
   shapeCast S1x80x256 (addf (rescaled r.1 (newMax (shapeCast S256x256 st shapeCasts_S1x256x256_S256x256) r.1) r.2)
    (blockSum vc (shapeCast S256x256 (shapeCast S1x256x256 (weights (shapeCast S256x256 st shapeCasts_S1x256x256_S256x256)
      (newMax (shapeCast S256x256 st shapeCasts_S1x256x256_S256x256) r.1)) shapeCasts_S256x256_S1x256x256)
      shapeCasts_S1x256x256_S256x256))) shapeCasts_S80x256_S1x80x256)

/-- The first carry of a stream. -/
def carry0 (s : Fin 4) : Carry F :=
  (View.ld (Val := Elt F) (e' := .f32) k0_pay1277 (Rect.unit (s := S4x1x256) ![s.val, 0, 0] S1x1x256.size (by intro a; fin_cases s <;> revert a <;> decide)),
   View.ld (Val := Elt F) (e' := .f32) k0_pay1276 (Rect.unit (s := S4x80x256) ![s.val, 0, 0] S1x80x256.size (by intro a; fin_cases s <;> revert a <;> decide)))

/-- The values of a block of keys. -/
def vals (x3 : Vec F S1x1x80x8448 .bf16) (k : Fin 33) : Vec F S1x1x80x256 .bf16 :=
  View.ld x3 (Rect.unit ![0, 0, 0, 256 * k.val] ![1, 1, 80, 256] (by
    intro a; have := k.isLt
    fin_cases a <;> simp only [S1x1x80x8448] <;> simp <;> omega))

/-- The context scores the point before left for a stream. -/
def ctxSaved (xs2 : Vec F S4x256x256 .f32) (s : Fin 4) : Vec F S1x256x256 .f32 :=
  View.ld xs2 (Rect.unit ![s.val, 0, 0] S1x256x256.size (by intro a; fin_cases s <;> revert a <;> decide))

/-- The scores of the first block of keys that the point before left for a stream. -/
def chunkSaved (xs0 : Vec F S2x4x256x256 .f32) (s : Fin 4) : Vec F S1x1x256x256 .f32 :=
  View.ld xs0 (Rect.unit ![0, s.val, 0, 0] S1x1x256x256.size (by intro a; fin_cases s <;> revert a <;> decide))

/-- The carry of a stream over the context keys, from their scores. -/
def ctxCarry (x3 : Vec F S1x1x80x8448 .bf16) (sc : Vec F S1x256x256 .f32) (s : Fin 4) : Carry F :=
  ctxStep (vals x3 32) sc (carry0 s)

/-- The scores a stream meets in the block `k` of keys; those of the first block are given. -/
def blockScore (x0 : Vec F S1x256x256 .bf16) (x2 : Vec F S1x8448x128 .bf16) (st : Vec F S1x1x256x256 .f32) (s : Fin 4) :
    Fin 33 → Vec F S1x1x256x256 .f32
  | 0 => st
  | k => chunkScore x2 k (queries x0 s)

/-- The carry of a stream over the context keys and the first `n` blocks. -/
def carry (x0 : Vec F S1x256x256 .bf16) (x2 : Vec F S1x8448x128 .bf16) (x3 : Vec F S1x1x80x8448 .bf16)
    (sc : Vec F S1x256x256 .f32) (st : Vec F S1x1x256x256 .f32) (s : Fin 4) : (n : ℕ) → n ≤ 32 → Carry F
  | 0, _ => ctxCarry x3 sc s
  | n + 1, h => chunkStep (vals x3 ⟨n, Nat.lt_succ_of_lt h⟩) (blockScore x0 x2 st s ⟨n, Nat.lt_succ_of_lt h⟩)
      (carry x0 x2 x3 sc st s n (Nat.le_of_succ_le h))

/-- The mean of the values under the softmax: the weighted sum over the sum of the weights, which the row of ones holds. -/
def mean (r : Carry F) : FVec F S64x256 .f32 :=
  divf (shapeCast S64x256 (View.ld (Val := Elt F) (e' := .f32) r.2 (Rect.unit (s := S1x80x256) ![0, 0, 0] S1x64x256.size (by decide))) shapeCasts_S1x64x256_S64x256)
    (broadcastTo S64x256 (shapeCast S1x256 (View.ld (Val := Elt F) (e' := .f32) r.2 (Rect.unit (s := S1x80x256) ![0, 64, 0] S1x1x256.size (by decide))) shapeCasts_S1x1x256_S1x256)
      broadcasts_S1x256_S64x256)

/-- The block of the result of a tile from the means of its four streams, queries by rows. -/
def tile (o : Fin 4 → FVec F S64x256 .f32) : Vec F S1x256x256 .bf16 :=
  shapeCast S1x256x256 (truncf .bf16 (transpose S256x256 [1, 0] (concatenate S256x256 0 [⟨S64x256, o 0⟩, ⟨S64x256, o 1⟩, ⟨S64x256, o 2⟩, ⟨S64x256, o 3⟩]
    concatenates_S64x256_S64x256_S64x256_S64x256_S256x256_d0) transposes_S256x256_p1_0_S256x256) bitsLt_bf16_f32) shapeCasts_S256x256_S1x256x256

end GqaAttn

end
-- ==== Proof.GqaReads.lean ====
/- The steps of the tile program of the grouped-query attention read at an index of the extended reals. -/
module

public import proofs.«01_k».proof.Proof.GqaWords
public import proofs.«01_k».proof.Proof.Softmax
public import Idealize.ShloMosaic.Lib.Pointwise

@[expose] public section

set_option maxRecDepth 16384

noncomputable section

namespace GqaAttn

open DiffAttn Cert.Kernel5Ideal Cert.Kernel5Ideal.Gen Idealize.ShloMosaic Idealize.SL.Sem

/-- The word of minus infinity. -/
theorem ofBits_neg_inf : Ideal.ofBits .f32 0xFF800000#32 = ⊥ := by simp [Ideal.ofBits, Ideal.ieee]

/-- The running maximum after a block of keys. -/
theorem newMax_apply (st : FVec Ideal S256x256 .f32) (m : FVec Ideal S1x1x256 .f32) (q : Fin 256) :
    newMax st m (ix2 0 q) = max (m (ix3 0 0 q)) ((Finset.univ : Finset (Fin 256)).fold max ⊥ fun j => st (ix2 j q)) := by
  pointwise [newMax]
  rw [ofBits_neg_inf]

/-- The running sums, rescaled from the old maximum to the new one. -/
theorem rescaled_apply (m : FVec Ideal S1x1x256 .f32) (m' : FVec Ideal S1x256 .f32) (acc : FVec Ideal S1x80x256 .f32) (r : Fin 80)
    (q : Fin 256) :
    rescaled m m' acc (ix2 r q) = Ideal.exp2 (m (ix3 0 0 q) - m' (ix2 0 q)) * acc (ix3 0 r q) := by
  pointwise [rescaled]
  rfl

/-- A weight: the exponential of a score less the maximum. -/
theorem weights_apply (st : FVec Ideal S256x256 .f32) (m' : FVec Ideal S1x256 .f32) (j q : Fin 256) :
    weights st m' (ix2 j q) = Ideal.exp2 (st (ix2 j q) - m' (ix2 0 q)) := by
  pointwise [weights]
  rfl

/-- What a block of keys adds to the running sums: its values under their weights. -/
theorem blockSum_apply (vc : Vec Ideal S1x1x80x256 .bf16) (p : FVec Ideal S256x256 .bf16) (r : Fin 80) (q : Fin 256) :
    blockSum vc p (ix2 r q) = ∑ j : Fin 256, vc (ix4 0 0 r j) * p (ix2 j q) := by
  pointwise [blockSum]

/-- The query rows of a half, as loaded. -/
theorem qload_apply (x : Vec Ideal S1x256x256 .bf16) (b : Fin 2) (r : Fin 128) (q : Fin 256) :
    qload x b (ix3 0 r q) = x (ix3 0 ⟨128 * b.val + r.val, by omega⟩ q) := by
  pointwise [qload]

/-- A block of keys, as loaded. -/
theorem kload_apply (x2 : Vec Ideal S1x8448x128 .bf16) (k : Fin 33) (j : Fin 256) (d : Fin 128) :
    kload x2 k (ix3 0 j d) = x2 (ix3 0 ⟨256 * k.val + j.val, by omega⟩ d) := by
  pointwise [kload]

/-- The query rows of a half, without their unit axis. -/
theorem qrows_apply (x : Vec Ideal S1x256x256 .bf16) (b : Fin 2) (r : Fin 128) (q : Fin 256) :
    qrows x b (ix2 r q) = x (ix3 0 ⟨128 * b.val + r.val, by omega⟩ q) := by
  pointwise [qrows]
  exact qload_apply x b r q

/-- The row mask of a stream, as a bit. -/
theorem mask_bit : ∀ r : Fin 128, IntOp.cmpi .slt (BitVec.ofNat 32 r.val) 64#32 = (if r.val / 64 = 0 then 1#1 else 0#1)
    ∧ IntOp.cmpi .sge (BitVec.ofNat 32 r.val) 64#32 = if r.val / 64 = 1 then 1#1 else 0#1 := by decide

/-- A stream's queries: its own 64 of the rows of its half, and zero in the others. -/
theorem queries_apply (x : Vec Ideal S1x256x256 .bf16) (s : Fin 4) (r : Fin 128) (q : Fin 256) :
    queries x s (ix2 r q)
      = if r.val / 64 = s.val % 2 then x (ix3 0 ⟨128 * (pair s).val + r.val, by have := (pair s).isLt; omega⟩ q) else 0 := by
  rw [← qrows_apply x (pair s) r q]
  fin_cases s <;> pointwise [queries, pair] <;>
    simp only [(mask_bit r).1, (mask_bit r).2] <;> split <;> rfl

/-- The scores of a block of keys: the products with the queries, summed over the channels. -/
theorem rawScore_apply (x2 : Vec Ideal S1x8448x128 .bf16) (k : Fin 33) (w : FVec Ideal S128x256 .bf16) (j : Fin 256) (q : Fin 256) :
    rawScore x2 k w (ix2 j q) = ∑ d : Fin 128, x2 (ix3 0 ⟨256 * k.val + j.val, by omega⟩ d) * w (ix2 d q) := by
  pointwise [rawScore]
  exact Finset.sum_congr rfl fun d _ => by rw [kload_apply]

/-- The scores of a block of latent keys, as stored. -/
theorem chunkScore_apply (x2 : Vec Ideal S1x8448x128 .bf16) (k : Fin 33) (w : FVec Ideal S128x256 .bf16) (j : Fin 256) (q : Fin 256) :
    chunkScore x2 k w (ix4 0 0 j q) = rawScore x2 k w (ix2 j q) := by
  unfold chunkScore
  generalize rawScore x2 k w = y
  pointwise

/-- The scores of the context keys, as stored. -/
theorem ctxScore_apply (x2 : Vec Ideal S1x8448x128 .bf16) (w : FVec Ideal S128x256 .bf16) (j : Fin 256) (q : Fin 256) :
    ctxScore x2 w (ix3 0 j q) = rawScore x2 32 w (ix2 j q) := by
  unfold ctxScore
  generalize rawScore x2 32 w = y
  pointwise

/-- Each running maximum begins at a very negative number. -/
theorem carry0_fst (s : Fin 4) (q : Fin 256) : (carry0 (F := Ideal) s).1 (ix3 0 0 q) = Ideal.ofBits .f32 0xF149F2CA#32 := by
  pointwise [carry0, k0_pay1277]

/-- Each running sum begins at zero. -/
theorem carry0_snd (s : Fin 4) (r : Fin 80) (q : Fin 256) : (carry0 (F := Ideal) s).2 (ix3 0 r q) = 0 := by
  pointwise [carry0, k0_pay1276]

/-- A block of values. -/
theorem vals_apply (x3 : Vec Ideal S1x1x80x8448 .bf16) (k : Fin 33) (r : Fin 80) (j : Fin 256) :
    vals x3 k (ix4 0 0 r j) = x3 (ix4 0 0 r ⟨256 * k.val + j.val, by omega⟩) := by
  pointwise [vals]

/-- A weighted mean: a running sum over the running sum of the weights, which is row 64. -/
theorem mean_apply (c : Carry Ideal) (r : Fin 64) (q : Fin 256) :
    mean c (ix2 r q) = Ideal.div (c.2 (ix3 0 ⟨r.val, by omega⟩ q)) (c.2 (ix3 0 64 q)) := by
  pointwise [mean]

/-- The output block: the means of the four streams, side by side. -/
theorem tile_apply (o : Fin 4 → FVec Ideal S64x256 .f32) (q : Fin 256) (s : Fin 4) (d : Fin 64) :
    tile o (ix3 0 q ⟨64 * s.val + d.val, by omega⟩) = o s (ix2 d q) := by
  fin_cases s <;> pointwise [tile]
  · rw [dif_neg (by omega), dif_neg (by omega), dif_pos (by omega)]
    exact congrArg (fun e => o 2 (ix2 e q)) (Fin.ext (by simp only; omega))
  · rw [dif_neg (by omega), dif_neg (by omega), dif_neg (by omega)]
    exact congrArg (fun e => o 3 (ix2 e q)) (Fin.ext (by simp only; omega))

end GqaAttn

end
-- ==== Proof.GqaSteps.lean ====
/- The running softmax of a tile, stream by stream: after each block of keys the carry is the state over the keys met. -/
module

public import proofs.«01_k».proof.Proof.GqaReads
public import proofs.«01_k».proof.Proof.Spec

@[expose] public section

set_option maxRecDepth 16384

noncomputable section

namespace GqaAttn

open DiffAttn Cert.Kernel5Ideal Cert.Kernel5Ideal.Gen Idealize.ShloMosaic Idealize.SL.Sem

/-- The state of a stream at a query. -/
def Kept (s : ℕ → ℝ) (v : Fin 80 → ℕ → ℝ) (D : Finset ℕ) (c : Carry Ideal) (q : Fin 256) : Prop :=
  State s v D (c.1 (ix3 0 0 q)) fun r : Fin 80 => c.2 (ix3 0 r q)

/-- The first carry keeps the state of no key. -/
theorem kept_start (s : ℕ → ℝ) (v : Fin 80 → ℕ → ℝ) (st : Fin 4) (q : Fin 256) : Kept s v ∅ (carry0 st) q := by
  obtain ⟨μ, hμ⟩ : ∃ μ : ℝ, Ideal.ofBits .f32 0xF149F2CA#32 = μ := ⟨_, by simp [Ideal.ofBits, Ideal.ieee]; rfl⟩
  unfold Kept
  simp only [carry0_fst, carry0_snd, hμ]
  exact State.start s v μ

/-- A block of keys extends the state by its keys. -/
theorem kept_chunk {s : ℕ → ℝ} {v : Fin 80 → ℕ → ℝ} {D : Finset ℕ} {c : Carry Ideal} {q : Fin 256} (h : Kept s v D c q) (off : ℕ)
    (hd : Disjoint D (Finset.Ico off (off + 256))) (vc : Vec Ideal S1x1x80x256 .bf16) (st : Vec Ideal S1x1x256x256 .f32)
    (hv : ∀ r j, vc (ix4 0 0 r j) = (v r (off + j) : EReal)) (hs : ∀ j, st (ix4 0 0 j q) = (s (off + j) : EReal)) :
    Kept s v (D ∪ Finset.Ico off (off + 256)) (chunkStep vc st c) q := by
  obtain ⟨y, hy⟩ : ∃ y, y = shapeCast S256x256 st shapeCasts_S1x1x256x256_S256x256 := ⟨_, rfl⟩
  have hyj : ∀ j, y (ix2 j q) = (s (off + j) : EReal) := fun j => by
    rw [← hs j, hy]
    pointwise
  have hm : (chunkStep vc st c).1 (ix3 0 0 q) = newMax y c.1 (ix2 0 q) := by
    unfold chunkStep
    rw [← hy]
    pointwise
  have ha : ∀ r, (chunkStep vc st c).2 (ix3 0 r q) = Ideal.exp2 (c.1 (ix3 0 0 q) - newMax y c.1 (ix2 0 q)) * c.2 (ix3 0 r q)
      + ∑ j : Fin 256, vc (ix4 0 0 r j) * Ideal.exp2 (y (ix2 j q) - newMax y c.1 (ix2 0 q)) := by
    intro r
    simp only [← weights_apply]
    rw [← rescaled_apply, ← blockSum_apply]
    unfold chunkStep
    rw [← hy]
    pointwise
  unfold Kept
  simp only [hm, ha]
  exact State.step h off 256 hd _ hyj _ hv _ (newMax_apply y c.1 q)

/-- The context keys extend the state by theirs. -/
theorem kept_ctx {s : ℕ → ℝ} {v : Fin 80 → ℕ → ℝ} {D : Finset ℕ} {c : Carry Ideal} {q : Fin 256} (h : Kept s v D c q) (off : ℕ)
    (hd : Disjoint D (Finset.Ico off (off + 256))) (vc : Vec Ideal S1x1x80x256 .bf16) (st : Vec Ideal S1x256x256 .f32)
    (hv : ∀ r j, vc (ix4 0 0 r j) = (v r (off + j) : EReal)) (hs : ∀ j, st (ix3 0 j q) = (s (off + j) : EReal)) :
    Kept s v (D ∪ Finset.Ico off (off + 256)) (ctxStep vc st c) q := by
  obtain ⟨y, hy⟩ : ∃ y, y = shapeCast S256x256 st shapeCasts_S1x256x256_S256x256 := ⟨_, rfl⟩
  have hyj : ∀ j, y (ix2 j q) = (s (off + j) : EReal) := fun j => by
    rw [← hs j, hy]
    pointwise
  have hm : (ctxStep vc st c).1 (ix3 0 0 q) = newMax y c.1 (ix2 0 q) := by
    unfold ctxStep
    rw [← hy]
    pointwise
  have ha : ∀ r, (ctxStep vc st c).2 (ix3 0 r q) = Ideal.exp2 (c.1 (ix3 0 0 q) - newMax y c.1 (ix2 0 q)) * c.2 (ix3 0 r q)
      + ∑ j : Fin 256, vc (ix4 0 0 r j) * Ideal.exp2 (y (ix2 j q) - newMax y c.1 (ix2 0 q)) := by
    intro r
    simp only [← weights_apply]
    rw [← rescaled_apply, ← blockSum_apply]
    unfold ctxStep
    rw [← hy]
    pointwise
  unfold Kept
  simp only [hm, ha]
  exact State.step h off 256 hd _ hyj _ hv _ (newMax_apply y c.1 q)

section

variable {x0 : Vec Ideal S1x256x256 .bf16} {x2 : Vec Ideal S1x8448x128 .bf16} {x3 : Vec Ideal S1x1x80x8448 .bf16}
  {sc : Vec Ideal S1x256x256 .f32} {st : Vec Ideal S1x1x256x256 .f32} {s : Fin 4} {q : Fin 256} {t : ℕ → ℝ} {v : Fin 80 → ℕ → ℝ}

/-- The carry over the context keys. -/
theorem kept_ctxCarry (hv : ∀ r (x : Fin 8448), x3 (ix4 0 0 r x) = (v r x : EReal))
    (hc : ∀ j : Fin 256, sc (ix3 0 j q) = (t (8192 + j) : EReal)) : Kept t v (Finset.Ico 8192 8448) (ctxCarry x3 sc s) q := by
  have := kept_ctx (kept_start t v s q) 8192 (Finset.disjoint_empty_left _) (vals x3 32) sc
    (fun r j => by rw [vals_apply, hv]; rfl) hc
  rwa [Finset.empty_union] at this

/-- The carry over the context keys and the first blocks. -/
theorem kept_carry (hv : ∀ r (x : Fin 8448), x3 (ix4 0 0 r x) = (v r x : EReal))
    (hc : ∀ j : Fin 256, sc (ix3 0 j q) = (t (8192 + j) : EReal))
    (hs : ∀ (k : Fin 33) (j : Fin 256), blockScore x0 x2 st s k (ix4 0 0 j q) = (t (256 * k + j) : EReal)) (n : ℕ) (h : n ≤ 32) :
    Kept t v (Finset.Ico 8192 8448 ∪ Finset.Ico 0 (256 * n)) (carry x0 x2 x3 sc st s n h) q := by
  induction n with
  | zero => simpa [carry] using kept_ctxCarry hv hc
  | succ n ih =>
    have e : Finset.Ico 8192 8448 ∪ Finset.Ico 0 (256 * (n + 1))
        = Finset.Ico 8192 8448 ∪ Finset.Ico 0 (256 * n) ∪ Finset.Ico (256 * n) (256 * n + 256) := by
      ext x
      simp only [Finset.mem_union, Finset.mem_Ico]
      omega
    rw [e]
    refine kept_chunk (ih (Nat.le_of_succ_le h)) (256 * n) ?_ _ _ (fun r j => by rw [vals_apply, hv]) (hs ⟨n, Nat.lt_succ_of_lt h⟩)
    rw [Finset.disjoint_left]
    intro x
    simp only [Finset.mem_union, Finset.mem_Ico]
    omega

/-- The mean of a stream over the keys met is the attention. -/
theorem mean_of_kept {D : Finset ℕ} {c : Carry Ideal} (h : Kept (fun x => t x * (Real.log 2)⁻¹) v D c q) (hD : D.Nonempty)
    (ho : ∀ x, v 64 x = 1) (r : Fin 64) : mean c (ix2 r q) = (attn t (v ⟨r.val, by omega⟩) D : EReal) := by
  rw [mean_apply]
  exact State.finish (acc := fun r : Fin 80 => c.2 (ix3 0 r q)) h hD ⟨r.val, by omega⟩ 64 ho

end

end GqaAttn

end
-- ==== Proof.GqaSpec.lean ====
/- What a head of the grouped-query attention computes from real queries, keys and values. -/
module

public import proofs.«01_k».proof.Proof.Spec

@[expose] public section

noncomputable section

namespace GqaAttn

open DiffAttn Idealize.ShloMosaic Idealize.SL.Sem

/-- The score of a query of the head `g` against a key of the head that its group of four shares. -/
def score {l m n n' : ℕ} (Q : (⟨3, ![l, m, n]⟩ : Shape).Idx → EReal) (K : (⟨3, ![l, m, n']⟩ : Shape).Idx → EReal) (b g r x : ℕ) : ℝ :=
  1 / 8 * ∑ d : Fin 64, entry Q b r (64 * g + d) * entry K b x (64 * (g / 4) + d)

/-- The attention of the head `g` at a query and a channel. -/
def head {l m n n' : ℕ} (Q : (⟨3, ![l, m, n]⟩ : Shape).Idx → EReal) (K V : (⟨3, ![l, m, n']⟩ : Shape).Idx → EReal) (b g r d : ℕ) : ℝ :=
  attn (score Q K b g r) (fun x => entry V b x (64 * (g / 4) + d)) (seen r)

/-- The reference's combination: the values under the weights of a softmax. -/
theorem mean_coe (off n : ℕ) (t v : ℕ → ℝ) :
    ∑ j : Fin n, ((Real.exp (t (off + j)) / ∑ x ∈ Finset.Ico off (off + n), Real.exp (t x) : ℝ) : EReal) * (v (off + j) : EReal)
      = (attn t v (Finset.Ico off (off + n)) : EReal) := by
  let g : ℕ → ℝ := fun y => Real.exp (t y) / (∑ x ∈ Finset.Ico off (off + n), Real.exp (t x)) * v y
  have e : ∀ j : Fin n, ((Real.exp (t (off + j)) / ∑ x ∈ Finset.Ico off (off + n), Real.exp (t x) : ℝ) : EReal) * (v (off + j) : EReal)
      = ((g (off + j) : ℝ) : EReal) := by
    intro j
    simp only [← EReal.coe_mul, g]
  rw [Finset.sum_congr rfl fun j _ => e j, ← coe_sum, sum_keys off n g]
  congr 1
  unfold attn
  rw [Finset.sum_div]
  exact Finset.sum_congr rfl fun x _ => by simp only [g]; ring

end GqaAttn

end
-- ==== Proof.GqaScores.lean ====
/- A tile of the grouped-query attention from real blocks: its scores, its streams and its channels. -/
module

public import proofs.«01_k».proof.Proof.GqaSteps
public import proofs.«01_k».proof.Proof.GqaSpec

@[expose] public section

set_option maxRecDepth 16384

noncomputable section

namespace GqaAttn

open DiffAttn Cert.Kernel5Ideal Cert.Kernel5Ideal.Gen Idealize.ShloMosaic Idealize.SL.Sem

variable {Q : S4x8448x512.Idx → EReal} {K W : S4x8448x128.Idx → EReal} {b h i : ℕ}

/-- A block holds the scaled queries of the tile `i`, of the heads of the group `h`. -/
def QueryBlock (Q : S4x8448x512.Idx → EReal) (b h i : ℕ) (x : Vec Ideal S1x256x256 .bf16) : Prop :=
  ∀ r q : Fin 256, x (ix3 0 r q) = ((entry Q b (256 * i + q) (256 * h + r) * (1 / 8 * (Real.log 2)⁻¹) : ℝ) : EReal)

/-- A block holds the keys of the group `h`, twice side by side. -/
def KeyBlock (K : S4x8448x128.Idx → EReal) (b h : ℕ) (x : Vec Ideal S1x8448x128 .bf16) : Prop :=
  ∀ (y : Fin 8448) (k : Fin 128), x (ix3 0 y k) = (entry K b y (64 * h + k % 64) : EReal)

/-- A row of the values of a group; the rows below the channels are ones. -/
def rowVal (W : S4x8448x128.Idx → EReal) (b h : ℕ) (r : Fin 80) (x : ℕ) : ℝ := if r.val < 64 then entry W b x (64 * h + r) else 1

/-- A block holds the values of the group `h`. -/
def ValueBlock (W : S4x8448x128.Idx → EReal) (b h : ℕ) (x : Vec Ideal S1x1x80x8448 .bf16) : Prop :=
  ∀ (r : Fin 80) (y : Fin 8448), x (ix4 0 0 r y) = (rowVal W b h r y : EReal)

/-- The half of a stream. -/
theorem pair_val : ∀ s : Fin 4, (pair s).val = s.val / 2 := by decide

/-- The product of a row of keys with the queries of a stream: the score in base two. -/
theorem stream_score {x0 : Vec Ideal S1x256x256 .bf16} {x2 : Vec Ideal S1x8448x128 .bf16} (h0 : QueryBlock Q b h i x0) (h2 : KeyBlock K b h x2)
    (s : Fin 4) (y : Fin 8448) (q : Fin 256) :
    ∑ d : Fin 128, x2 (ix3 0 y d) * queries x0 s (ix2 d q)
      = ((score Q K b (4 * h + s) (256 * i + q) y * (Real.log 2)⁻¹ : ℝ) : EReal) := by
  have e : ∀ d : Fin 128, x2 (ix3 0 y d) * queries x0 s (ix2 d q)
      = (((fun n : ℕ => entry K b y (64 * h + n % 64)) d
        * (if d.val / 64 = s.val % 2 then (fun n : ℕ => entry Q b (256 * i + q) (256 * h + (128 * (pair s).val + n)) * (1 / 8 * (Real.log 2)⁻¹)) d else 0) : ℝ) : EReal) := by
    intro d
    rw [queries_apply, h2, h0, EReal.coe_mul]
    congr 1
    split <;> simp
  rw [Finset.sum_congr rfl fun d _ => e d, ← coe_sum]
  refine congrArg _ ((sum_half (s.val % 2) (by omega) (fun n => entry K b y (64 * h + n % 64))
    fun n => entry Q b (256 * i + q) (256 * h + (128 * (pair s).val + n)) * (1 / 8 * (Real.log 2)⁻¹)).trans ?_)
  rw [score, mul_assoc, Finset.sum_mul, Finset.mul_sum]
  refine Finset.sum_congr rfl fun d _ => ?_
  have a : 256 * h + (128 * (pair s).val + (64 * (s.val % 2) + d.val)) = 64 * (4 * h + s.val) + d.val := by rw [pair_val]; omega
  have a' : 64 * h + (64 * (s.val % 2) + d.val) % 64 = 64 * ((4 * h + s.val) / 4) + d.val := by omega
  simp only [a, a']
  ring

section

variable {x0 x1 : Vec Ideal S1x256x256 .bf16} {x2 : Vec Ideal S1x8448x128 .bf16} {x3 : Vec Ideal S1x1x80x8448 .bf16}

/-- The scores of a block of keys. -/
theorem chunk_scores (h0 : QueryBlock Q b h i x0) (h2 : KeyBlock K b h x2) (s : Fin 4) (k : Fin 33) (j : Fin 256) (q : Fin 256) :
    chunkScore x2 k (queries x0 s) (ix4 0 0 j q)
      = ((score Q K b (4 * h + s) (256 * i + q) (256 * k + j) * (Real.log 2)⁻¹ : ℝ) : EReal) := by
  rw [chunkScore_apply, rawScore_apply]
  exact stream_score h0 h2 s ⟨256 * k.val + j.val, by omega⟩ q

/-- The scores of the context keys. -/
theorem ctx_scores (h0 : QueryBlock Q b h i x0) (h2 : KeyBlock K b h x2) (s : Fin 4) (j : Fin 256) (q : Fin 256) :
    ctxScore x2 (queries x0 s) (ix3 0 j q)
      = ((score Q K b (4 * h + s) (256 * i + q) (8192 + j) * (Real.log 2)⁻¹ : ℝ) : EReal) := by
  rw [ctxScore_apply, rawScore_apply]
  exact stream_score h0 h2 s ⟨8192 + j.val, by omega⟩ q

/-- The row of ones. -/
theorem rowVal_one (W : S4x8448x128.Idx → EReal) (b h x : ℕ) : rowVal W b h 64 x = 1 := if_neg (by decide)

/-- A channel's row. -/
theorem rowVal_channel (W : S4x8448x128.Idx → EReal) (b h : ℕ) (s : Fin 4) (r : Fin 64) :
    rowVal W b h ⟨r.val, by omega⟩ = fun x => entry W b x (64 * ((4 * h + s.val) / 4) + r) := by
  funext x
  have a : (4 * h + s.val) / 4 = h := by omega
  rw [a]
  exact if_pos r.isLt

/-- A stream of a tile of latents: the attention over all keys. -/
theorem stream_latent (h0 : QueryBlock Q b h i x0) (h2 : KeyBlock K b h x2) (h3 : ValueBlock W b h x3) (hi : i < 32) (s : Fin 4)
    (sc : Vec Ideal S1x256x256 .f32) (st : Vec Ideal S1x1x256x256 .f32) (r : Fin 64) (q : Fin 256)
    (hsc : ∀ j : Fin 256, sc (ix3 0 j q) = ((score Q K b (4 * h + s) (256 * i + q) (8192 + j) * (Real.log 2)⁻¹ : ℝ) : EReal))
    (hst : ∀ j : Fin 256, st (ix4 0 0 j q) = ((score Q K b (4 * h + s) (256 * i + q) (256 * (0 : Fin 33) + j) * (Real.log 2)⁻¹ : ℝ) : EReal)) :
    mean (carry x0 x2 x3 sc st s 32 le_rfl) (ix2 r q) = (head Q K W b (4 * h + s) (256 * i + q) r : EReal) := by
  have e : Finset.Ico 8192 8448 ∪ Finset.Ico 0 (256 * 32) = Finset.Ico 0 8448 := by
    ext x
    simp only [Finset.mem_union, Finset.mem_Ico]
    omega
  have hk := kept_carry (t := fun x => score Q K b (4 * h + s) (256 * i + q) x * (Real.log 2)⁻¹) (v := rowVal W b h) (q := q) (s := s)
    (x0 := x0) (x2 := x2) (sc := sc) (st := st) h3 hsc
    (fun k j => by
      unfold blockScore
      split
      · exact hst j
      · exact chunk_scores h0 h2 s _ j q) 32 le_rfl
  rw [e] at hk
  rw [mean_of_kept hk (by simp) (rowVal_one W b _), head, seen, if_pos (by omega), rowVal_channel W b h s r]

/-- A stream of the tile of the context: the attention over the context's keys. -/
theorem stream_context (h3 : ValueBlock W b h x3) (hi : i = 32) (s : Fin 4) (sc : Vec Ideal S1x256x256 .f32) (r : Fin 64) (q : Fin 256)
    (hsc : ∀ j : Fin 256, sc (ix3 0 j q) = ((score Q K b (4 * h + s) (256 * i + q) (8192 + j) * (Real.log 2)⁻¹ : ℝ) : EReal)) :
    mean (ctxCarry x3 sc s) (ix2 r q) = (head Q K W b (4 * h + s) (256 * i + q) r : EReal) := by
  have hk := kept_ctxCarry (t := fun x => score Q K b (4 * h + s) (256 * i + q) x * (Real.log 2)⁻¹) (v := rowVal W b h) (q := q) (s := s)
    (sc := sc) h3 hsc
  rw [mean_of_kept hk (by simp) (rowVal_one W b _), head, seen, if_neg (by omega), rowVal_channel W b h s r]

end

end GqaAttn

end
-- ==== Proof.GqaTiles.lean ====
/- What the tile program leaves in its output block and in its carried scratch, in the steps of `GqaWords`. -/
module

public import proofs.«01_k».proof.Proof.GqaWords

@[expose] public section

set_option maxRecDepth 16384
set_option maxHeartbeats 4000000

noncomputable section

namespace GqaAttn

open DiffAttn Cert.Kernel5Ideal Cert.Kernel5Ideal.Gen Idealize.ShloMosaic Idealize.SL.Sem

variable {F : FTy → Type} [FloatOps F]

/-- The output block of a context tile. -/
theorem out_C {c i arg3 harg3 arg4 harg4 arg5 harg5 arg6 harg6 arg7 harg7 arg8 harg8 arg9 harg9 arg10 harg10 arg11 harg11 arg12
    harg12 arg13 harg13 arg14 harg14 hc0 hc1 hc2 x0 x1 x2 x3 xs0 xs2} :
    out0_C_4 (F := F) c i arg3 harg3 arg4 harg4 arg5 harg5 arg6 harg6 arg7 harg7 arg8 harg8 arg9 harg9 arg10 harg10
      arg11 harg11 arg12 harg12 arg13 harg13 arg14 harg14 hc0 hc1 hc2 x0 x1 x2 x3 xs0
      xs2
      = tile (fun s => mean (ctxCarry x3 (ctxSaved xs2 s) s)) := by
  frame_open
  simp (disch := decide) only [↓ View.readCov_skip, ↓ View.readCov_cons_toLoadRect, ↓ View.readCov_fill, ↓ readCov_within]
  frame_out
  rfl

/-- The output block of a latent tile after the first. -/
theorem out_B {c i arg3 harg3 arg4 harg4 arg5 harg5 arg6 harg6 arg7 harg7 arg8 harg8 arg9 harg9 arg10 harg10 arg11 harg11 arg12
    harg12 arg13 harg13 arg14 harg14 hc0 hc1 hc2 x0 x1 x2 x3 xs0 xs2} :
    out0_B_4 (F := F) c i arg3 harg3 arg4 harg4 arg5 harg5 arg6 harg6 arg7 harg7 arg8 harg8 arg9 harg9 arg10 harg10
      arg11 harg11 arg12 harg12 arg13 harg13 arg14 harg14 hc0 hc1 hc2 x0 x1 x2 x3 xs0
      xs2
      = tile (fun s => mean (carry x0 x2 x3 (ctxSaved xs2 s) (chunkSaved xs0 s) s 32 le_rfl)) := by
  frame_open
  simp (disch := decide) only [↓ View.readCov_skip, ↓ View.readCov_cons_toLoadRect, ↓ View.readCov_fill, ↓ readCov_within]
  frame_out
  rfl

/-- The output block of the first tile. -/
theorem out_A {c i arg3 harg3 arg4 harg4 arg5 harg5 arg6 harg6 arg7 harg7 arg8 harg8 arg9 harg9 arg10 harg10 arg11 harg11 arg12
    harg12 arg13 harg13 arg14 harg14 hc0 hc1 hc2 x0 x1 x2 x3} :
    out0_A_4 (F := F) c i arg3 harg3 arg4 harg4 arg5 harg5 arg6 harg6 arg7 harg7 arg8 harg8 arg9 harg9 arg10 harg10
      arg11 harg11 arg12 harg12 arg13 harg13 arg14 harg14 hc0 hc1 hc2 x0 x1 x2 x3
      = tile (fun s => mean (carry x0 x2 x3 (ctxScore x2 (queries x0 s)) (chunkScore x2 0 (queries x0 s)) s 32 le_rfl)) := by
  frame_open
  simp (disch := decide) only [↓ View.readCov_skip, ↓ View.readCov_cons_toLoadRect, ↓ View.readCov_fill, ↓ readCov_within]
  frame_out
  rfl

/-- What a latent tile leaves of the first scores of the next tile. -/
theorem saved_A_0 {c i arg3 harg3 arg4 harg4 arg5 harg5 arg6 harg6 arg7 harg7 arg8 harg8 arg9 harg9 arg10 harg10 arg11 harg11
    arg12 harg12 arg13 harg13 arg14 harg14 hc0 hc1 hc2 x0 x1 x2 x3} (s : Fin 4) :
    chunkSaved (sout0_A_0 (F := F) c i arg3 harg3 arg4 harg4 arg5 harg5 arg6 harg6 arg7 harg7 arg8 harg8 arg9 harg9 arg10 harg10
      arg11 harg11 arg12 harg12 arg13 harg13 arg14 harg14 hc0 hc1 hc2 x0 x1 x2 x3) s
      = chunkScore x2 0 (queries x1 s) := by
  unfold chunkSaved
  frame_open
  frame_out
  rw [ld_canon arg8.view]
  fin_cases s <;>
    simp (disch := decide) only [↓ View.readCov_skip, ↓ View.readCov_cons_toLoadRect] <;>
    rfl

/-- What a latent tile leaves of the context scores of the next tile. -/
theorem saved_A_2 {c i arg3 harg3 arg4 harg4 arg5 harg5 arg6 harg6 arg7 harg7 arg8 harg8 arg9 harg9 arg10 harg10 arg11 harg11
    arg12 harg12 arg13 harg13 arg14 harg14 hc0 hc1 hc2 x0 x1 x2 x3} (s : Fin 4) :
    ctxSaved (sout0_A_2 (F := F) c i arg3 harg3 arg4 harg4 arg5 harg5 arg6 harg6 arg7 harg7 arg8 harg8 arg9 harg9 arg10 harg10
      arg11 harg11 arg12 harg12 arg13 harg13 arg14 harg14 hc0 hc1 hc2 x0 x1 x2 x3) s
      = ctxScore x2 (queries x1 s) := by
  unfold ctxSaved
  frame_open
  frame_out
  rw [ld_canon arg10.view]
  fin_cases s <;>
    simp (disch := decide) only [↓ View.readCov_skip, ↓ View.readCov_cons_toLoadRect] <;>
    rfl

/-- What a latent tile leaves of the first scores of the next tile. -/
theorem saved_B_0 {c i arg3 harg3 arg4 harg4 arg5 harg5 arg6 harg6 arg7 harg7 arg8 harg8 arg9 harg9 arg10 harg10 arg11 harg11
    arg12 harg12 arg13 harg13 arg14 harg14 hc0 hc1 hc2 x0 x1 x2 x3 xs0 xs2} (s : Fin 4) :
    chunkSaved (sout0_B_0 (F := F) c i arg3 harg3 arg4 harg4 arg5 harg5 arg6 harg6 arg7 harg7 arg8 harg8 arg9 harg9 arg10 harg10
      arg11 harg11 arg12 harg12 arg13 harg13 arg14 harg14 hc0 hc1 hc2 x0 x1 x2 x3 xs0
      xs2) s
      = chunkScore x2 0 (queries x1 s) := by
  unfold chunkSaved
  frame_open
  frame_out
  rw [ld_canon arg8.view]
  fin_cases s <;>
    simp (disch := decide) only [↓ View.readCov_skip, ↓ View.readCov_cons_toLoadRect] <;>
    rfl

/-- What a latent tile leaves of the context scores of the next tile. -/
theorem saved_B_2 {c i arg3 harg3 arg4 harg4 arg5 harg5 arg6 harg6 arg7 harg7 arg8 harg8 arg9 harg9 arg10 harg10 arg11 harg11
    arg12 harg12 arg13 harg13 arg14 harg14 hc0 hc1 hc2 x0 x1 x2 x3 xs0 xs2} (s : Fin 4) :
    ctxSaved (sout0_B_2 (F := F) c i arg3 harg3 arg4 harg4 arg5 harg5 arg6 harg6 arg7 harg7 arg8 harg8 arg9 harg9 arg10 harg10
      arg11 harg11 arg12 harg12 arg13 harg13 arg14 harg14 hc0 hc1 hc2 x0 x1 x2 x3 xs0
      xs2) s
      = ctxScore x2 (queries x1 s) := by
  unfold ctxSaved
  frame_open
  frame_out
  rw [ld_canon arg10.view]
  fin_cases s <;>
    simp (disch := decide) only [↓ View.readCov_skip, ↓ View.readCov_cons_toLoadRect] <;>
    rfl

end GqaAttn

end
-- ==== Proof.GqaBlocks.lean ====
/- The blocks that a grid point of the grouped-query attention reads, in terms of the arguments. -/
module

public import proofs.«01_k».proof.Proof.GqaSpec
public import proofs.«01_k».proof.Proof.Gen.Kernel5Ideal.Frame
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace GqaAttn

open Cert.Kernel5Ideal Cert.Kernel5Ideal.Gen Idealize.ShloMosaic Idealize.ShloMosaic.TcCoe Idealize.SL.Sem

variable (m : (ℓ : Loc nD τ sig) → Buf (Elt Ideal) ℓ) (c : Dev nD) (t : Fin cfg0.N)

/-- The array of queries. -/
abbrev argQ : S4x8448x512.Idx → EReal := m ((c : Thread nD τ).loc main_arg0)
/-- The array of keys. -/
abbrev argK : S4x8448x128.Idx → EReal := m ((c : Thread nD τ).loc main_arg1)
/-- The array of values. -/
abbrev argV : S4x8448x128.Idx → EReal := m ((c : Thread nD τ).loc main_arg2)

/-- The block that each window reads at a point. -/
theorem idx : ∀ t : Fin cfg0.N, win0_0.index t = ![t.val / 66, t.val / 33 % 2, t.val % 33]
    ∧ win0_1.index t = ![t.val / 66, t.val / 33 % 2, min (t.val % 33 + 1) 32]
    ∧ win0_2.index t = ![t.val / 66, 0, t.val / 33 % 2]
    ∧ win0_3.index t = ![t.val / 66, t.val / 33 % 2, 0, 0]
    ∧ win0_4.index t = ![t.val / 66, t.val % 33, t.val / 33 % 2] :=
  (by decide +kernel : ∀ t : Fin grid0.N, _)

/-- The points are 264. -/
theorem point_lt (t : Fin cfg0.N) : t.val < 264 := t.isLt

/-- The scale of the queries: an eighth over the logarithm of two. -/
def kap : EReal := Ideal.div (Ideal.ofBits .f32 0x3E000000#32) (Ideal.log (Ideal.ofBits .f32 0x40000000#32))

/-- The scaled queries, transposed. -/
theorem queriesIn_apply (b : Fin 4) (r : Fin 512) (q : Fin 8448) :
    (V m c main_v6 : FVec Ideal S4x512x8448 .bf16) (ix3 b r q)
      = argQ m c (ix3 b q r) * kap := by
  entry_read
  pointwise
  rfl

/-- The keys of each head, twice side by side. -/
theorem keysIn_apply (b : Fin 4) (x : Fin 8448) (k : Fin 256) :
    (V m c main_v10 : FVec Ideal S4x8448x256 .bf16) (ix3 b x k)
      = argK m c (ix3 b x ⟨64 * (k.val / 128) + k.val % 64, by omega⟩) := by
  entry_read
  pointwise
  blk_ext

/-- The values by head, transposed, with rows of ones below them. -/
theorem valuesIn_apply (b : Fin 4) (h : Fin 2) (r : Fin 80) (x : Fin 8448) :
    (V m c main_v15 : FVec Ideal S4x2x80x8448 .bf16) (ix4 b h r x)
      = if hr : r.val < 64 then argV m c (ix3 b x ⟨64 * h.val + r.val, by omega⟩)
        else 1 := by
  entry_read
  pointwise
  refine dite_congr rfl (fun _ => ?_) fun _ => ?_
  · blk_ext
  · rfl

/-- The block of queries at a point. -/
theorem block0_apply (r : Fin 256) (q : Fin 256) :
    (iblk m c 0 t : FVec Ideal S1x256x256 .bf16) (ix3 0 r q)
      = (V m c main_v6 : FVec Ideal S4x512x8448 .bf16) (ix3 ⟨t.val / 66, by have := point_lt t; omega⟩
          ⟨256 * (t.val / 33 % 2) + r.val, by omega⟩ ⟨256 * (t.val % 33) + q.val, by omega⟩) := by
  blk_ext [iblk, idx t]

/-- The block of the next queries at a point that is not the last of its row. -/
theorem block1_apply (h : t.val % 33 ≤ 31) (r : Fin 256) (q : Fin 256) :
    (iblk m c 1 t : FVec Ideal S1x256x256 .bf16) (ix3 0 r q)
      = (V m c main_v6 : FVec Ideal S4x512x8448 .bf16) (ix3 ⟨t.val / 66, by have := point_lt t; omega⟩
          ⟨256 * (t.val / 33 % 2) + r.val, by omega⟩ ⟨256 * (t.val % 33 + 1) + q.val, by omega⟩) := by
  blk_ext [iblk, idx t]

/-- The block of keys at a point. -/
theorem block2_apply (x : Fin 8448) (k : Fin 128) :
    (iblk m c 2 t : FVec Ideal S1x8448x128 .bf16) (ix3 0 x k)
      = (V m c main_v10 : FVec Ideal S4x8448x256 .bf16) (ix3 ⟨t.val / 66, by have := point_lt t; omega⟩ x
          ⟨128 * (t.val / 33 % 2) + k.val, by omega⟩) := by
  blk_ext [iblk, idx t]

/-- The block of values at a point. -/
theorem block3_apply (r : Fin 80) (x : Fin 8448) :
    (iblk m c 3 t : FVec Ideal S1x1x80x8448 .bf16) (ix4 0 0 r x)
      = (V m c main_v15 : FVec Ideal S4x2x80x8448 .bf16) (ix4 ⟨t.val / 66, by have := point_lt t; omega⟩
          ⟨t.val / 33 % 2, by omega⟩ r x) := by
  blk_ext [iblk, idx t]

end GqaAttn

end
-- ==== Proof.GqaResult.lean ====
/- The array that the grouped-query attention returns, from real queries, keys and values. -/
module

public import proofs.«01_k».proof.Proof.GqaScores
public import proofs.«01_k».proof.Proof.GqaTiles
public import proofs.«01_k».proof.Proof.GqaBlocks

@[expose] public section

set_option maxRecDepth 16384

noncomputable section

namespace GqaAttn

open DiffAttn Cert.Kernel5Ideal Cert.Kernel5Ideal.Gen Idealize.ShloMosaic Idealize.ShloMosaic.TcCoe Idealize.SL.Sem

variable (m : (ℓ : Loc nD τ sig) → Buf (Elt Ideal) ℓ) (c : Dev nD) (t : Fin cfg0.N)

/-- The arguments are real. -/
structure RealArgs : Prop where
  /-- The queries are real. -/
  q : ∀ i, ∃ x : ℝ, argQ m c i = x
  /-- The keys are real. -/
  k : ∀ i, ∃ x : ℝ, argK m c i = x
  /-- The values are real. -/
  v : ∀ i, ∃ x : ℝ, argV m c i = x

/-- The scale of the queries is an eighth over the logarithm of two. -/
theorem kap_eq : kap = ((1 / 8 * (Real.log 2)⁻¹ : ℝ) : EReal) := by
  have h2 : Ideal.ofBits .f32 0x40000000#32 = ((2 : ℝ) : EReal) := by
    simp [Ideal.ofBits, Ideal.ieee]
    rw [← EReal.coe_mul]
    norm_num
  rw [kap, h2, ofBits_eighth, Ideal.log_coe, if_neg (by norm_num), div_coe _ _ (Real.log_pos (by norm_num)).ne', div_eq_mul_inv]

variable {m c}

/-- The first window holds the scaled queries of the point's tile. -/
theorem queryBlock0 (H : RealArgs m c) : QueryBlock (argQ m c) (t.val / 66) (t.val / 33 % 2) (t.val % 33) (iblk m c 0 t) := by
  intro r q
  rw [block0_apply, queriesIn_apply, entry_eq _ _ _ _ (H.q _), kap_eq, ← EReal.coe_mul]

/-- The second window holds the scaled queries of the tile after the point's. -/
theorem queryBlock1 (H : RealArgs m c) (h : t.val % 33 ≤ 31) :
    QueryBlock (argQ m c) (t.val / 66) (t.val / 33 % 2) (t.val % 33 + 1) (iblk m c 1 t) := by
  intro r q
  rw [block1_apply m c t h, queriesIn_apply, entry_eq _ _ _ _ (H.q _), kap_eq, ← EReal.coe_mul]

/-- The third window holds the keys of the point's group. -/
theorem keyBlock (H : RealArgs m c) : KeyBlock (argK m c) (t.val / 66) (t.val / 33 % 2) (iblk m c 2 t) := by
  intro y k
  have a : (128 * (t.val / 33 % 2) + k.val) / 128 = t.val / 33 % 2 := by omega
  have a' : (128 * (t.val / 33 % 2) + k.val) % 64 = k.val % 64 := by omega
  rw [block2_apply, keysIn_apply, entry_eq _ _ _ _ (H.k _)]
  simp only [a, a']

/-- The fourth window holds the values of the point's group. -/
theorem valueBlock (H : RealArgs m c) : ValueBlock (argV m c) (t.val / 66) (t.val / 33 % 2) (iblk m c 3 t) := by
  intro r y
  rw [block3_apply, valuesIn_apply, rowVal]
  split
  · rw [entry_eq _ _ _ _ (H.v _)]
  · rfl

/-- The scores that a point finds in the scratch, of the first block of keys and of the context, are those of its own queries. -/
theorem saved_scores (H : RealArgs m c) (h : ¬t.val % 33 = 0) (hl : t.val - 1 < cfg0.N) (s : Fin 4) (q : Fin 256) :
    (∀ j : Fin 256, chunkSaved (outsAt0 m c (t.val - 1) hl).2.1 s (ix4 0 0 j q)
      = ((score (argQ m c) (argK m c) (t.val / 66) (4 * (t.val / 33 % 2) + s) (256 * (t.val % 33) + q) (256 * (0 : Fin 33) + j)
          * (Real.log 2)⁻¹ : ℝ) : EReal))
    ∧ ∀ j : Fin 256, ctxSaved (outsAt0 m c (t.val - 1) hl).2.2 s (ix3 0 j q)
      = ((score (argQ m c) (argK m c) (t.val / 66) (4 * (t.val / 33 % 2) + s) (256 * (t.val % 33) + q) (8192 + j)
          * (Real.log 2)⁻¹ : ℝ) : EReal) := by
  obtain ⟨u, hu⟩ : ∃ u : Fin cfg0.N, u.val = t.val - 1 := ⟨⟨t.val - 1, hl⟩, rfl⟩
  have e1 : t.val / 66 = u.val / 66 := by omega
  have e2 : t.val / 33 % 2 = u.val / 33 % 2 := by omega
  have e3 : t.val % 33 = u.val % 33 + 1 := by omega
  have hb : u.val % 33 ≤ 31 := by omega
  have hq := queryBlock1 u H hb
  have hk := keyBlock u H
  have key : (∀ s, chunkSaved (outsAt0 m c u.val u.isLt).2.1 s = chunkScore (iblk m c 2 u) 0 (queries (iblk m c 1 u) s))
      ∧ ∀ s, ctxSaved (outsAt0 m c u.val u.isLt).2.2 s = ctxScore (iblk m c 2 u) (queries (iblk m c 1 u) s) := by
    by_cases hz : u.val % 33 = 0
    · rw [outsAt0_A m c u hz hb (by omega)]
      dsimp only
      refine ⟨fun s => ?_, fun s => ?_⟩
      · rw [saved_A_0]
      · rw [saved_A_2]
    · rw [outsAt0_B m c u hz hb (by omega)]
      dsimp only
      refine ⟨fun s => ?_, fun s => ?_⟩
      · rw [saved_B_0]
      · rw [saved_B_2]
  rw [e1, e2, e3]
  simp only [← hu]
  refine ⟨fun j => ?_, fun j => ?_⟩
  · rw [key.1 s]
    exact chunk_scores hq hk s 0 j q
  · rw [key.2 s]
    exact ctx_scores hq hk s j q

/-- What a point leaves in the output block. -/
theorem tile_at (H : RealArgs m c) (q : Fin 256) (s : Fin 4) (d : Fin 64) :
    (outsAt0 m c t.val t.isLt).1 (ix3 0 q ⟨64 * s.val + d.val, by omega⟩)
      = (head (argQ m c) (argK m c) (argV m c) (t.val / 66) (4 * (t.val / 33 % 2) + s) (256 * (t.val % 33) + q) d : EReal) := by
  have h0 := queryBlock0 t H
  have h2 := keyBlock t H
  have h3 := valueBlock t H
  by_cases hz : t.val % 33 = 0
  · rw [outsAt0_A m c t hz (by omega) (by omega)]
    dsimp only
    rw [out_A, tile_apply]
    exact stream_latent h0 h2 h3 (by omega) s _ _ d q (fun j => ctx_scores h0 h2 s j q) fun j => chunk_scores h0 h2 s 0 j q
  · have hs := saved_scores t H hz (Nat.lt_of_le_of_lt (Nat.sub_le _ _) t.isLt) s q
    by_cases hb : t.val % 33 ≤ 31
    · rw [outsAt0_B m c t hz hb (by omega)]
      dsimp only
      rw [out_B, tile_apply]
      exact stream_latent h0 h2 h3 (by omega) s _ _ d q hs.2 hs.1
    · rw [outsAt0_C m c t hz hb (by omega)]
      dsimp only
      rw [out_C, tile_apply]
      exact stream_context h3 (by omega) s _ d q hs.2

/-- The array that the kernel returns, at an index. -/
def returned (m : (ℓ : Loc nD τ sig) → Buf (Elt Ideal) ℓ) (c : Dev nD) (j : S4x8448x512.Idx) : EReal :=
  (head (argQ m c) (argK m c) (argV m c) (j 0).val ((j 2).val / 64) (j 1).val ((j 2).val % 64) : EReal)

/-- The kernel returns that array. -/
theorem final (H : RealArgs m c) : (dats m 0 c).arrAt 4 (cfgs 0).N = returned m c := by
  refine (dats m 0 c).arrAt_eq_of_covers 4 _ (by decide +kernel) fun t _ y => ?_
  blk_simp
  rw [after0_4]
  have hy0 : (y 0).val < 1 := (y 0).isLt
  have hy1 : (y 1).val < 256 := (y 1).isLt
  have hy2 : (y 2).val < 256 := (y 2).isLt
  have ht := point_lt t
  have e : y = ix3 0 ⟨(y 1).val, hy1⟩ ⟨64 * ((y 2).val / 64) + (y 2).val % 64, by omega⟩ := by
    blk_ext
  have hg : (win0_4.blk t).view.emb y = ix3 ⟨t.val / 66, by omega⟩ ⟨256 * (t.val % 33) + (y 1).val, by omega⟩
      ⟨256 * (t.val / 33 % 2) + (y 2).val, by omega⟩ := by
    blk_ext [idx t]
  have a : (256 * (t.val / 33 % 2) + (y 2).val) / 64 = 4 * (t.val / 33 % 2) + (y 2).val / 64 := by omega
  have a' : (256 * (t.val / 33 % 2) + (y 2).val) % 64 = (y 2).val % 64 := by omega
  rw [hg]
  have h := tile_at t H ⟨(y 1).val, hy1⟩ ⟨(y 2).val / 64, by omega⟩ ⟨(y 2).val % 64, by omega⟩
  refine (congrArg (outsAt0 m c t.val t.isLt).1 e).trans (h.trans ?_)
  unfold returned
  simp only [ix3_0, ix3_1, ix3_2, a, a']

end GqaAttn

end
-- ==== Proof.GqaFinite.lean ====
/- What the precondition of the grouped-query attention says of the arguments: their entries are real. -/
module

public import proofs.«01_k».proof.Proof.GqaResult
public import proofs.«01_k».proof.Proof.Finite
public import proofs.«01_k».proof.Pre_finite5
public import proofs.«01_k».proof.Proof.Gen.Pre_finite5
public import Idealize.ShloMosaic.Lib.ReduceAll

@[expose] public section

set_option maxRecDepth 16384

noncomputable section

namespace GqaAttn

open Idealize.ShloMosaic Idealize.ShloMosaic.TcCoe Idealize.SL.Sem Cert.Kernel5Ideal

/-- The precondition gives the real arguments. -/
theorem real_args (m : (ℓ : Loc nD τ sig) → Buf (Elt Ideal) ℓ) (c : Dev nD)
    (h : Cert.Pre_finite5.fn (F := Ideal) (argQ m c) (argK m c) (argV m c) = fun _ => 1#1) : RealArgs m c := by
  have e := congrFun h ix0
  dsimp only [Cert.Pre_finite5.fn] at e
  obtain ⟨e, eV⟩ := IntOp.andi_eq_one.1 e
  obtain ⟨eQ, eK⟩ := IntOp.andi_eq_one.1 e
  exact ⟨DiffAttn.real_of_all _ _ _ _ _ eQ, DiffAttn.real_of_all _ _ _ _ _ eK, DiffAttn.real_of_all _ _ _ _ _ eV⟩

end GqaAttn

end
-- ==== Proof.GqaRef.lean ====
/- The reference of the grouped-query attention read at an index: the softmax of its head over the keys seen. -/
module

public import proofs.«01_k».proof.Proof.Gen.Reference5Ideal.Read
public import proofs.«01_k».proof.Proof.GqaSpec
public import proofs.«01_k».proof.Proof.Ref

@[expose] public section

set_option maxRecDepth 16384

noncomputable section

namespace GqaAttn

open DiffAttn Cert.Reference5Ideal Cert.Reference5Ideal.Read Idealize.ShloMosaic Idealize.SL.Sem

/-- A dot product of a query and a key, times an eighth, is the score. -/
theorem score_coe {l m n n' : ℕ} (Q : (⟨3, ![l, m, n]⟩ : Shape).Idx → EReal) (K : (⟨3, ![l, m, n']⟩ : Shape).Idx → EReal) (b g r x : ℕ)
    (A B : Fin 64 → EReal) (hA : ∀ k, A k = (entry Q b r (64 * g + k) : EReal)) (hB : ∀ k, B k = (entry K b x (64 * (g / 4) + k) : EReal)) :
    (∑ k, A k * B k) * Ideal.ofBits .f32 0x3E000000#32 = (score Q K b g r x : EReal) := by
  rw [ofBits_eighth, Finset.sum_congr rfl fun k _ => by rw [hA, hB, ← EReal.coe_mul], ← coe_sum, ← EReal.coe_mul, mul_comm]
  rfl

section

variable (x0 : FVec Ideal S4x8448x512 .f32) (x1 x2 : FVec Ideal S4x8448x128 .f32)

/-- The scores of a latent. -/
theorem ref_score0 (h0 : ∀ i, ∃ x : ℝ, x0 i = x) (h1 : ∀ i, ∃ x : ℝ, x1 i = x) (b : Fin 4) (h : Fin 2) (s : Fin 4) (r : Fin 8192)
    (x : Fin 8448) : val_main_v10 (F := Ideal) x0 x1 (ix5 b h s r x) = (score x0 x1 b (4 * h + s) r x : EReal) := by
  pointwise [val_main_v10, val_main_v9, val_main_v8, val_main_v7, val_main_v6, val_main_v3, val_main_v2, val_main_v1, val_main_v0, val_main_cst]
  refine score_coe x0 x1 b (4 * h + s) r x _ _ (fun k => (entry_eq _ _ _ _ (h0 _)).trans ?_)
    fun k => (entry_eq _ _ _ _ (h1 _)).trans ?_ <;> congr 2 <;> simp only <;> omega

/-- The scores of a context query. -/
theorem ref_score1 (h0 : ∀ i, ∃ x : ℝ, x0 i = x) (h1 : ∀ i, ∃ x : ℝ, x1 i = x) (b : Fin 4) (h : Fin 2) (s : Fin 4) (r : Fin 256)
    (x : Fin 256) : val_main_v30 (F := Ideal) x0 x1 (ix5 b h s r x) = (score x0 x1 b (4 * h + s) (8192 + r) (8192 + x) : EReal) := by
  pointwise [val_main_v30, val_main_v29, val_main_v28, val_main_v27, val_main_v24, val_main_v25, val_main_v3, val_main_v2, val_main_v1,
    val_main_v0, val_main_cst_3]
  refine score_coe x0 x1 b (4 * h + s) (8192 + r) (8192 + x) _ _ (fun k => (entry_eq _ _ _ _ (h0 _)).trans ?_)
    fun k => (entry_eq _ _ _ _ (h1 _)).trans ?_ <;> congr 2 <;> simp only <;> omega

/-- The weights of a latent. -/
theorem ref_weight0 (b : Fin 4) (h : Fin 2) (s : Fin 4) (r : Fin 8192) (t : ℕ → ℝ)
    (ht : ∀ x : Fin 8448, val_main_v10 (F := Ideal) x0 x1 (ix5 b h s r x) = (t (0 + x) : EReal)) (j : Fin 8448) :
    val_main_v21 (F := Ideal) x0 x1 (ix5 b h s r j) = ((Real.exp (t (0 + j)) / ∑ x ∈ Finset.Ico 0 (0 + 8448), Real.exp (t x) : ℝ) : EReal) := by
  refine soft_row 0 8448 (by norm_num) t (fun x => val_main_v10 (F := Ideal) x0 x1 (ix5 b h s r x)) (fun x => val_main_v17 (F := Ideal) x0 x1 (ix5 b h s r x))
    (fun x => val_main_v21 (F := Ideal) x0 x1 (ix5 b h s r x)) (val_main_v11 (F := Ideal) x0 x1 (ix4 b h s r)) ht ?_ (fun x => ?_) (fun x => ?_) j
  · pointwise [val_main_v11, val_main_cst_0]
  · have hm : val_main_v15 (F := Ideal) x0 x1 (ix5 b h s r x) = val_main_v13 (F := Ideal) x0 x1 (ix4 b h s r) := by
      pointwise [val_main_v15, val_main_v14]
    have hx : val_main_v13 (F := Ideal) x0 x1 (ix4 b h s r) = val_main_v11 (F := Ideal) x0 x1 (ix4 b h s r) := by
      rw [val_main_v13_apply, val_main_v12_apply]
      exact max_neg_inf _
    rw [val_main_v17_apply, val_main_v16_apply, hm, hx]
    rfl
  · pointwise [val_main_v21, val_main_v20, val_main_v19, val_main_v18, val_main_cst_2]

/-- The weights of a context query. -/
theorem ref_weight1 (b : Fin 4) (h : Fin 2) (s : Fin 4) (r : Fin 256) (t : ℕ → ℝ)
    (ht : ∀ x : Fin 256, val_main_v30 (F := Ideal) x0 x1 (ix5 b h s r x) = (t (8192 + x) : EReal)) (j : Fin 256) :
    val_main_v41 (F := Ideal) x0 x1 (ix5 b h s r j) = ((Real.exp (t (8192 + j)) / ∑ x ∈ Finset.Ico 8192 (8192 + 256), Real.exp (t x) : ℝ) : EReal) := by
  refine soft_row 8192 256 (by norm_num) t (fun x => val_main_v30 (F := Ideal) x0 x1 (ix5 b h s r x)) (fun x => val_main_v37 (F := Ideal) x0 x1 (ix5 b h s r x))
    (fun x => val_main_v41 (F := Ideal) x0 x1 (ix5 b h s r x)) (val_main_v31 (F := Ideal) x0 x1 (ix4 b h s r)) ht ?_ (fun x => ?_) (fun x => ?_) j
  · pointwise [val_main_v31, val_main_cst_4]
  · have hm : val_main_v35 (F := Ideal) x0 x1 (ix5 b h s r x) = val_main_v33 (F := Ideal) x0 x1 (ix4 b h s r) := by
      pointwise [val_main_v35, val_main_v34]
    have hx : val_main_v33 (F := Ideal) x0 x1 (ix4 b h s r) = val_main_v31 (F := Ideal) x0 x1 (ix4 b h s r) := by
      rw [val_main_v33_apply, val_main_v32_apply]
      exact max_neg_inf _
    rw [val_main_v37_apply, val_main_v36_apply, hm, hx]
    rfl
  · pointwise [val_main_v41, val_main_v40, val_main_v39, val_main_v38, val_main_cst_6]

/-- The attention of a latent. -/
theorem ref_head0 (h0 : ∀ i, ∃ x : ℝ, x0 i = x) (h1 : ∀ i, ∃ x : ℝ, x1 i = x) (h2 : ∀ i, ∃ x : ℝ, x2 i = x)
    (b : Fin 4) (h : Fin 2) (s : Fin 4) (r : Fin 8192) (d : Fin 64) :
    val_main_v22 (F := Ideal) x0 x1 x2 (ix5 b h s r d) = (head x0 x1 x2 b (4 * h + s) r d : EReal) := by
  have e : val_main_v22 (F := Ideal) x0 x1 x2 (ix5 b h s r d)
      = ∑ x : Fin 8448, val_main_v21 (F := Ideal) x0 x1 (ix5 b h s r x) * x2 (ix3 b x ⟨h.val * 64 + d.val, by omega⟩) := by
    pointwise [val_main_v22, val_main_v5, val_main_v4]
  have a : 64 * ((4 * h.val + s.val) / 4) + d.val = h.val * 64 + d.val := by omega
  have v : ∀ x : Fin 8448, x2 (ix3 b x ⟨h.val * 64 + d.val, by omega⟩) = ((fun y => entry x2 b y (64 * ((4 * h.val + s.val) / 4) + d)) (0 + x) : EReal) :=
    fun x => (entry_eq _ _ _ _ (h2 _)).trans (by simp only [zero_add, a])
  simp only [e, v, ref_weight0 x0 x1 b h s r (score x0 x1 b (4 * h + s) r) (fun x => by rw [ref_score0 x0 x1 h0 h1, zero_add])]
  refine (mean_coe 0 8448 _ (fun y => entry x2 b y (64 * ((4 * h.val + s.val) / 4) + d))).trans ?_
  rw [head, seen, if_pos r.isLt]

/-- The attention of a context query. -/
theorem ref_head1 (h0 : ∀ i, ∃ x : ℝ, x0 i = x) (h1 : ∀ i, ∃ x : ℝ, x1 i = x) (h2 : ∀ i, ∃ x : ℝ, x2 i = x)
    (b : Fin 4) (h : Fin 2) (s : Fin 4) (r : Fin 256) (d : Fin 64) :
    val_main_v42 (F := Ideal) x0 x1 x2 (ix5 b h s r d) = (head x0 x1 x2 b (4 * h + s) (8192 + r) d : EReal) := by
  have e : val_main_v42 (F := Ideal) x0 x1 x2 (ix5 b h s r d)
      = ∑ x : Fin 256, val_main_v41 (F := Ideal) x0 x1 (ix5 b h s r x) * x2 (ix3 b ⟨8192 + x.val, by omega⟩ ⟨h.val * 64 + d.val, by omega⟩) := by
    pointwise [val_main_v42, val_main_v26, val_main_v5, val_main_v4]
  have a : 64 * ((4 * h.val + s.val) / 4) + d.val = h.val * 64 + d.val := by omega
  have v : ∀ x : Fin 256, x2 (ix3 b ⟨8192 + x.val, by omega⟩ ⟨h.val * 64 + d.val, by omega⟩)
      = ((fun y => entry x2 b y (64 * ((4 * h.val + s.val) / 4) + d)) (8192 + x) : EReal) :=
    fun x => (entry_eq _ _ _ _ (h2 _)).trans (by simp only [a])
  simp only [e, v, ref_weight1 x0 x1 b h s r (score x0 x1 b (4 * h + s) (8192 + r)) (fun x => ref_score1 x0 x1 h0 h1 b h s r x)]
  refine (mean_coe 8192 256 _ (fun y => entry x2 b y (64 * ((4 * h.val + s.val) / 4) + d))).trans ?_
  rw [head, seen, if_neg (by omega)]

/-- The reference at an index: the attention of its head. -/
theorem ref_apply (h0 : ∀ i, ∃ x : ℝ, x0 i = x) (h1 : ∀ i, ∃ x : ℝ, x1 i = x) (h2 : ∀ i, ∃ x : ℝ, x2 i = x)
    (b : Fin 4) (r : Fin 8448) (g : Fin 8) (d : Fin 64) :
    val_main_v49 (F := Ideal) x0 x1 x2 (ix3 b r ⟨64 * g.val + d.val, by omega⟩) = (head x0 x1 x2 b g r d : EReal) := by
  have e : val_main_v49 (F := Ideal) x0 x1 x2 (ix3 b r ⟨64 * g.val + d.val, by omega⟩)
      = if l : r.val < 8192 then val_main_v45 (F := Ideal) x0 x1 x2 (ix3 b ⟨r.val, l⟩ ⟨64 * g.val + d.val, by omega⟩)
        else val_main_v47 (F := Ideal) x0 x1 x2 (ix3 b ⟨r.val - 8192, by omega⟩ ⟨64 * g.val + d.val, by omega⟩) := by
    pointwise [val_main_v49, val_main_v48]
  have c : 4 * (g.val / 4) + g.val % 4 = g.val := by omega
  rw [e]
  split
  · rename_i l
    have e' : val_main_v45 (F := Ideal) x0 x1 x2 (ix3 b ⟨r.val, l⟩ ⟨64 * g.val + d.val, by omega⟩)
        = val_main_v22 (F := Ideal) x0 x1 x2 (ix5 b ⟨g.val / 4, by omega⟩ ⟨g.val % 4, by omega⟩ ⟨r.val, l⟩ d) := by
      pointwise [val_main_v45, val_main_v44, val_main_v23]
    rw [e', ref_head0 x0 x1 x2 h0 h1 h2]
    simp only [c]
  · rename_i l
    have e' : val_main_v47 (F := Ideal) x0 x1 x2 (ix3 b ⟨r.val - 8192, by omega⟩ ⟨64 * g.val + d.val, by omega⟩)
        = val_main_v42 (F := Ideal) x0 x1 x2 (ix5 b ⟨g.val / 4, by omega⟩ ⟨g.val % 4, by omega⟩ ⟨r.val - 8192, by omega⟩ d) := by
      pointwise [val_main_v47, val_main_v46, val_main_v43]
    rw [e', ref_head1 x0 x1 x2 h0 h1 h2]
    simp only [c, Nat.add_sub_cancel' (Nat.le_of_not_lt l)]

end

end GqaAttn

end
-- ==== Proof.GqaAgree.lean ====
/- The two programs of the grouped-query attention agree: on real arguments the reference's result is the array the kernel returns. -/
module

public import proofs.«01_k».proof.Proof.GqaFinite
public import proofs.«01_k».proof.Proof.GqaRef

@[expose] public section

set_option maxRecDepth 16384

noncomputable section

namespace GqaAttn

open Idealize.ShloMosaic Idealize.ShloMosaic.TcCoe Idealize.SL.Sem
open Cert.Kernel5Ideal Cert.Kernel5Ideal.Gen

/-- On real arguments the reference computes the kernel's output array. -/
theorem reference_is_kernel (m : (ℓ : Loc nD τ sig) → Buf (Elt Ideal) ℓ) (c : Dev nD) (H : RealArgs m c) :
    Cert.Reference5Ideal.Read.val_main_v49 (F := Ideal) (argQ m c) (argK m c) (argV m c) = (dats m 0 c).arrAt 4 (cfgs 0).N := by
  rw [final H]
  funext j
  have h0 : (j 0).val < 4 := (j 0).isLt
  have h1 : (j 1).val < 8448 := (j 1).isLt
  have h2 : (j 2).val < 512 := (j 2).isLt
  have e : j = ix3 ⟨(j 0).val, h0⟩ ⟨(j 1).val, h1⟩ ⟨64 * ((j 2).val / 64) + (j 2).val % 64, by omega⟩ := by
    blk_ext
  refine (congrArg _ e).trans ((ref_apply (argQ m c) (argK m c) (argV m c) H.q H.k H.v
    ⟨_, h0⟩ ⟨_, h1⟩ ⟨(j 2).val / 64, by omega⟩ ⟨(j 2).val % 64, by omega⟩).trans ?_)
  rfl

end GqaAttn

end
-- ==== Proof.Last.lean ====
/- The last layer's down projection: the array that the kernel returns. -/
module

public import proofs.«01_k».proof.Proof.Gen.Kernel3Ideal.Frame
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

namespace FfnLast

open Cert.Kernel3Ideal Cert.Kernel3Ideal.Gen Idealize.ShloMosaic Idealize.ShloMosaic.TcCoe Idealize.SL.Sem

variable (m : (ℓ : Loc nD τ sig) → Buf (Elt Ideal) ℓ) (c : Dev nD) (t : Fin cfg0.N)

/-- The gated hidden activations. -/
abbrev argH : S4x8448x2816.Idx → EReal := m ((c : Thread nD τ).loc main_arg0)
/-- The weights of the down projection. -/
abbrev argW : S2816x1024.Idx → EReal := m ((c : Thread nD τ).loc main_arg1)
/-- The residual stream. -/
abbrev argX : S4x8448x1024.Idx → EReal := m ((c : Thread nD τ).loc main_arg2)
/-- The six modulation vectors of each sample. -/
abbrev argM : S4x6144.Idx → EReal := m ((c : Thread nD τ).loc main_arg3)

/-- The block that each window reads at a point. -/
theorem idx : ∀ t : Fin cfg0.N, win0_0.index t = ![0, t.val, 0] ∧ win0_1.index t = ![0, 0] ∧ win0_2.index t = ![0, t.val, 0]
    ∧ win0_3.index t = ![0, 0, 0, 0] ∧ win0_4.index t = ![0, t.val, 0] :=
  (by decide +kernel : ∀ t : Fin grid0.N, _)

/-- The points are 32. -/
theorem point_lt (t : Fin cfg0.N) : t.val < 32 := t.isLt

/-- The activations at a point. -/
theorem block0_apply (g : Fin 4) (r : Fin 256) (k : Fin 2816) :
    (iblk m c 0 t : FVec Ideal S4x256x2816 .bf16) (ix3 g r k)
      = argH m c (ix3 g ⟨256 * t.val + r.val, by have := point_lt t; omega⟩ k) := by
  trans (V m c main_v0 : FVec Ideal S4x8448x2816 .bf16) (ix3 g ⟨256 * t.val + r.val, by have := point_lt t; omega⟩ k)
  · blk_ext [iblk, idx t]
  · entry_read
    pointwise

/-- The weights at a point. -/
theorem block1_apply (k : Fin 2816) (d : Fin 1024) :
    (iblk m c 1 t : FVec Ideal S2816x1024 .bf16) (ix2 k d) = argW m c (ix2 k d) := by
  trans (V m c main_v1 : FVec Ideal S2816x1024 .bf16) (ix2 k d)
  · blk_ext [iblk, idx t]
  · entry_read
    pointwise

/-- The residual stream at a point. -/
theorem block2_apply (g : Fin 4) (r : Fin 256) (d : Fin 1024) :
    (iblk m c 2 t : FVec Ideal S4x256x1024 .f32) (ix3 g r d)
      = argX m c (ix3 g ⟨256 * t.val + r.val, by have := point_lt t; omega⟩ d) := by
  trans (V m c main_arg2 : FVec Ideal S4x8448x1024 .f32) (ix3 g ⟨256 * t.val + r.val, by have := point_lt t; omega⟩ d)
  · blk_ext [iblk, idx t]
  · rw [V_main_arg2]

/-- The modulation at a point. -/
theorem block3_apply (g : Fin 4) (s : Fin 6) (d : Fin 1024) :
    (iblk m c 3 t : FVec Ideal S4x1x6x1024 .f32) (ix4 g 0 s d) = argM m c (ix2 g ⟨1024 * s.val + d.val, by omega⟩) := by
  trans (V m c main_v5 : FVec Ideal S4x2x6x1024 .f32) (ix4 g 0 s d)
  · blk_ext [iblk, idx t]
  · entry_read
    pointwise
    blk_ext

/-- The residual plus the gate times the down projection, of one block. -/
def blockOf (x0 : FVec Ideal S4x256x2816 .bf16) (x1 : FVec Ideal S2816x1024 .bf16) (x2 : FVec Ideal S4x256x1024 .f32)
    (x3 : FVec Ideal S4x1x6x1024 .f32) (y : S4x256x1024.Idx) : EReal :=
  x2 y + x3 (ix4 (y 0) 0 5 (y 2)) * ∑ k : Fin 2816, x0 (ix3 (y 0) (y 1) k) * x1 (ix2 k (y 2))

/-- The product of the four row blocks with the weights. -/
theorem product_apply (x0 : FVec Ideal S4x256x2816 .bf16) (x1 : FVec Ideal S2816x1024 .bf16) (g : Fin 4) (r : Fin 256) (d : Fin 1024) :
    k0_pay4 (F := Ideal) (View.ld x0 r0_0) (View.ld x0 r0_1) (View.ld x0 r0_2) (View.ld x0 r0_3) (View.ld x1 r0_4) (ix2 ⟨256 * g.val + r.val, by omega⟩ d)
      = ∑ k : Fin 2816, x0 (ix3 g r k) * x1 (ix2 k d) := by
  fin_cases g <;> pointwise [k0_pay4] <;> refine Finset.sum_congr rfl fun k _ => congrArg (· * _) ?_ <;>
    split_ifs <;> first | omega | blk_ext

/-- The body leaves that block. -/
theorem out_eq (x0 : FVec Ideal S4x256x2816 .bf16) (x1 : FVec Ideal S2816x1024 .bf16) (x2 : FVec Ideal S4x256x1024 .f32)
    (x3 : FVec Ideal S4x1x6x1024 .f32) (y : S4x256x1024.Idx) : out0_4 (F := Ideal) x0 x1 x2 x3 y = blockOf x0 x1 x2 x3 y := by
  unfold out0_4
  refine View.canon_apply_of_pieces (Val := Elt Ideal) (e := .f32) (blockOf x0 x1 x2 x3) _ (fun p hp z => ?_) y (cover0_4 _ _ _ _ y)
  simp only [List.mem_cons, List.not_mem_nil, or_false] at hp
  rcases hp with rfl | rfl | rfl | rfl
  all_goals
    obtain ⟨r, hr⟩ : ∃ r : Fin 256, r = z 1 := ⟨_, rfl⟩
    obtain ⟨d, hd⟩ : ∃ d : Fin 1024, d = z 2 := ⟨_, rfl⟩
    have hz : z = ix3 0 r d := by
      subst hr hd
      blk_ext
    subst hz
  · have h := product_apply x0 x1 3 r d
    have he : r0_11.emb (ix3 0 r d) = ix3 3 r d := by blk_ext
    rw [he]
    pointwise [k0_pay3, k0_pay7, blockOf]
    exact congrArg (fun v => x2 (ix3 3 r d) + x3 (ix4 3 0 5 d) * v) ((congrArg _ (by blk_ext)).trans h)
  · have h := product_apply x0 x1 2 r d
    have he : r0_9.emb (ix3 0 r d) = ix3 2 r d := by blk_ext
    rw [he]
    pointwise [k0_pay2, k0_pay7, blockOf]
    exact congrArg (fun v => x2 (ix3 2 r d) + x3 (ix4 2 0 5 d) * v) ((congrArg _ (by blk_ext)).trans h)
  · have h := product_apply x0 x1 1 r d
    have he : r0_7.emb (ix3 0 r d) = ix3 1 r d := by blk_ext
    rw [he]
    pointwise [k0_pay1, k0_pay6, k0_pay7, blockOf]
    exact congrArg (fun v => x2 (ix3 1 r d) + x3 (ix4 1 0 5 d) * v) ((congrArg _ (by blk_ext)).trans h)
  · have h := product_apply x0 x1 0 r d
    have he : r0_5.emb (ix3 0 r d) = ix3 0 r d := by blk_ext
    rw [he]
    pointwise [k0_pay5, blockOf]
    exact congrArg (fun v => x2 (ix3 0 r d) + x3 (ix4 0 0 5 d) * v) ((congrArg _ (by blk_ext)).trans h)

/-- The array that the kernel returns: on the latent tokens, the residual plus the gate times the down projection. -/
def returned (j : S4x8192x1024.Idx) : EReal :=
  argX m c (ix3 (j 0) ⟨(j 1).val, (j 1).isLt.trans (by decide)⟩ (j 2))
    + argM m c (ix2 (j 0) ⟨5120 + (j 2).val, by have h : (j 2).val < 1024 := (j 2).isLt; omega⟩)
      * ∑ k : Fin 2816, argH m c (ix3 (j 0) ⟨(j 1).val, (j 1).isLt.trans (by decide)⟩ k) * argW m c (ix2 k (j 2))

/-- The kernel returns that array. -/
theorem final : (dats m 0 c).arrAt 4 cfg0.N = returned m c := by
  refine (dats m 0 c).arrAt_eq_of_covers 4 _ (by decide +kernel) fun t _ y => ?_
  blk_simp
  rw [after0_4]
  have hy0 : (y 0).val < 4 := (y 0).isLt
  have hy1 : (y 1).val < 256 := (y 1).isLt
  have hy2 : (y 2).val < 1024 := (y 2).isLt
  have ht := point_lt t
  have e : y = ix3 ⟨(y 0).val, hy0⟩ ⟨(y 1).val, hy1⟩ ⟨(y 2).val, hy2⟩ := by
    blk_ext
  have hg : (win0_4.blk t).view.emb y = ix3 ⟨(y 0).val, hy0⟩ ⟨256 * t.val + (y 1).val, by omega⟩ ⟨(y 2).val, hy2⟩ := by
    blk_ext [idx t]
  rw [hg]
  refine (out_eq _ _ _ _ y).trans ((congrArg _ e).trans ?_)
  unfold blockOf returned
  simp only [ix3_0, ix3_1, ix3_2, block0_apply, block1_apply, block2_apply, block3_apply]
  rfl

/-- The reference computes that array. -/
theorem reference_is_kernel :
    Cert.Reference3Ideal.Read.val_main_v12 (F := Ideal) (argH m c) (argW m c) (argX m c) (argM m c) = (dats m 0 c).arrAt 4 cfg0.N := by
  rw [final]
  funext j
  obtain ⟨b, hb⟩ : ∃ b : Fin 4, b = j 0 := ⟨_, rfl⟩
  obtain ⟨r, hr⟩ : ∃ r : Fin 8192, r = j 1 := ⟨_, rfl⟩
  obtain ⟨d, hd⟩ : ∃ d : Fin 1024, d = j 2 := ⟨_, rfl⟩
  have hj : j = ix3 b r d := by
    subst hb hr hd
    blk_ext
  subst hj
  unfold returned
  pointwise [Cert.Reference3Ideal.Read.val_main_v12, Cert.Reference3Ideal.Read.val_main_v11, Cert.Reference3Ideal.Read.val_main_v10,
    Cert.Reference3Ideal.Read.val_main_v9, Cert.Reference3Ideal.Read.val_main_v8, Cert.Reference3Ideal.Read.val_main_v7,
    Cert.Reference3Ideal.Read.val_main_v6, Cert.Reference3Ideal.Read.val_main_v0]

end FfnLast

end
-- ==== Proof.Stream.lean ====
/- The modulation of the residual stream, on one token, in plain terms. -/
module

public import Idealize.ShloMosaic.Lib.Pointwise

@[expose] public section

noncomputable section

namespace Stream

open Idealize.ShloMosaic

/-- The modulation at a token: the `n`-th of six vectors, the sample's for a latent token and the common one for a context token. -/
def modAt (l : (⟨2, ![4, 6144]⟩ : Shape).Idx → EReal) (cx : (⟨1, ![6144]⟩ : Shape).Idx → EReal) (n : Fin 6) (b : Fin 4) (t : ℕ) (d : Fin 1024) : EReal :=
  if t < 8192 then l (ix2 b ⟨1024 * n.val + d.val, by omega⟩) else cx (ix1 ⟨1024 * n.val + d.val, by omega⟩)

/-- A token normalised to mean square one, scaled and shifted. -/
def modulated (v : Fin 1024 → EReal) (sh sc : EReal) (d : Fin 1024) : EReal :=
  v d * Ideal.rsqrt (Ideal.div (∑ e : Fin 1024, v e * v e) (Ideal.ofBits .f32 0x44800000#32) + Ideal.ofBits .f32 0x358637BD#32)
    * (Ideal.ofBits .f32 0x3F800000#32 + sc) + sh

end Stream

end
-- ==== Proof.Down.lean ====
/- The down projection of a layer but the last: the two arrays that the kernel returns. -/
module

public import proofs.«01_k».proof.Proof.Gen.Kernel4Ideal.Frame
public import proofs.«01_k».proof.Proof.Gen.Reference4Ideal.Read
public import proofs.«01_k».proof.Proof.Stream
public import Idealize.ShloMosaic.Lib.Pipeline.ValueKit
public import Idealize.ShloMosaic.Lib.Pointwise
public import Idealize.ShloMosaic.Lib.Claim

@[expose] public section

set_option maxRecDepth 16384

noncomputable section

namespace FfnDown

open Cert.Kernel4Ideal Cert.Kernel4Ideal.Gen Idealize.ShloMosaic Idealize.ShloMosaic.TcCoe Idealize.SL.Sem Stream

variable (m : (ℓ : Loc nD τ sig) → Buf (Elt Ideal) ℓ) (c : Dev nD) (t : Fin cfg0.N)

/-- The gated hidden activations. -/
abbrev argH : S4x8448x2816.Idx → EReal := m ((c : Thread nD τ).loc main_arg0)
/-- The weights of the down projection. -/
abbrev argW : S2816x1024.Idx → EReal := m ((c : Thread nD τ).loc main_arg1)
/-- The residual stream. -/
abbrev argX : S4x8448x1024.Idx → EReal := m ((c : Thread nD τ).loc main_arg2)
/-- The six modulation vectors of each sample. -/
abbrev argM : S4x6144.Idx → EReal := m ((c : Thread nD τ).loc main_arg3)
/-- The six modulation vectors of the context. -/
abbrev argC : S6144.Idx → EReal := m ((c : Thread nD τ).loc main_arg4)
/-- The next layer's modulation vectors of each sample. -/
abbrev argN : S4x6144.Idx → EReal := m ((c : Thread nD τ).loc main_arg5)
/-- The next layer's modulation vectors of the context. -/
abbrev argD : S6144.Idx → EReal := m ((c : Thread nD τ).loc main_arg6)

/-- The block that each window reads at a point. -/
theorem idx : ∀ t : Fin cfg0.N, win0_0.index t = ![0, t.val, 0] ∧ win0_1.index t = ![0, 0] ∧ win0_2.index t = ![0, t.val, 0]
    ∧ win0_3.index t = ![0, t.val / 32, 0, 0] ∧ win0_4.index t = ![0, t.val / 32, 0, 0] ∧ win0_5.index t = ![0, t.val, 0]
    ∧ win0_6.index t = ![0, t.val, 0] :=
  (by decide +kernel : ∀ t : Fin grid0.N, _)

/-- The points are 33. -/
theorem point_lt (t : Fin cfg0.N) : t.val < 33 := t.isLt

/-- The activations at a point. -/
theorem block0_apply (g : Fin 4) (r : Fin 256) (k : Fin 2816) :
    (iblk m c 0 t : FVec Ideal S4x256x2816 .bf16) (ix3 g r k)
      = argH m c (ix3 g ⟨256 * t.val + r.val, by have := point_lt t; omega⟩ k) := by
  trans (V m c main_v0 : FVec Ideal S4x8448x2816 .bf16) (ix3 g ⟨256 * t.val + r.val, by have := point_lt t; omega⟩ k)
  · blk_ext [iblk, idx t]
  · entry_read
    pointwise

/-- The weights at a point. -/
theorem block1_apply (k : Fin 2816) (d : Fin 1024) :
    (iblk m c 1 t : FVec Ideal S2816x1024 .bf16) (ix2 k d) = argW m c (ix2 k d) := by
  trans (V m c main_v1 : FVec Ideal S2816x1024 .bf16) (ix2 k d)
  · blk_ext [iblk, idx t]
  · entry_read
    pointwise

/-- The residual stream at a point. -/
theorem block2_apply (g : Fin 4) (r : Fin 256) (d : Fin 1024) :
    (iblk m c 2 t : FVec Ideal S4x256x1024 .f32) (ix3 g r d)
      = argX m c (ix3 g ⟨256 * t.val + r.val, by have := point_lt t; omega⟩ d) := by
  trans (V m c main_arg2 : FVec Ideal S4x8448x1024 .f32) (ix3 g ⟨256 * t.val + r.val, by have := point_lt t; omega⟩ d)
  · blk_ext [iblk, idx t]
  · rw [V_main_arg2]

/-- The modulation vectors side by side, read at a row. -/
theorem entry5_apply (g : Fin 4) (w : Fin 2) (s : Fin 6) (d : Fin 1024) :
    (V m c main_v5 : FVec Ideal S4x2x6x1024 .f32) (ix4 g w s d)
      = if w.val < 1 then argM m c (ix2 g ⟨1024 * s.val + d.val, by omega⟩) else argC m c (ix1 ⟨1024 * s.val + d.val, by omega⟩) := by
  entry_read
  fin_cases w <;> pointwise <;> blk_ext

/-- The next layer's modulation vectors side by side, read at a row. -/
theorem entry9_apply (g : Fin 4) (w : Fin 2) (s : Fin 6) (d : Fin 1024) :
    (V m c main_v9 : FVec Ideal S4x2x6x1024 .f32) (ix4 g w s d)
      = if w.val < 1 then argN m c (ix2 g ⟨1024 * s.val + d.val, by omega⟩) else argD m c (ix1 ⟨1024 * s.val + d.val, by omega⟩) := by
  entry_read
  fin_cases w <;> pointwise <;> blk_ext

/-- The modulation at a point, at any of its tokens. -/
theorem block3_apply (g : Fin 4) (s : Fin 6) (d : Fin 1024) (r : Fin 256) :
    (iblk m c 3 t : FVec Ideal S4x1x6x1024 .f32) (ix4 g 0 s d) = modAt (argM m c) (argC m c) s g (256 * t.val + r.val) d := by
  have ht := point_lt t
  trans (V m c main_v5 : FVec Ideal S4x2x6x1024 .f32) (ix4 g ⟨t.val / 32, by omega⟩ s d)
  · blk_ext [iblk, idx t]
  · rw [entry5_apply]
    exact if_congr (by show t.val / 32 < 1 ↔ _; omega) rfl rfl

/-- The next layer's modulation at a point, at any of its tokens. -/
theorem block4_apply (g : Fin 4) (s : Fin 6) (d : Fin 1024) (r : Fin 256) :
    (iblk m c 4 t : FVec Ideal S4x1x6x1024 .f32) (ix4 g 0 s d) = modAt (argN m c) (argD m c) s g (256 * t.val + r.val) d := by
  have ht := point_lt t
  trans (V m c main_v9 : FVec Ideal S4x2x6x1024 .f32) (ix4 g ⟨t.val / 32, by omega⟩ s d)
  · blk_ext [iblk, idx t]
  · rw [entry9_apply]
    exact if_congr (by show t.val / 32 < 1 ↔ _; omega) rfl rfl

/-- The residual plus the gate times the down projection, of one block. -/
def blockOf (x0 : FVec Ideal S4x256x2816 .bf16) (x1 : FVec Ideal S2816x1024 .bf16) (x2 : FVec Ideal S4x256x1024 .f32)
    (x3 : FVec Ideal S4x1x6x1024 .f32) (y : S4x256x1024.Idx) : EReal :=
  x2 y + x3 (ix4 (y 0) 0 5 (y 2)) * ∑ k : Fin 2816, x0 (ix3 (y 0) (y 1) k) * x1 (ix2 k (y 2))

/-- That block modulated. -/
def blockMod (x0 : FVec Ideal S4x256x2816 .bf16) (x1 : FVec Ideal S2816x1024 .bf16) (x2 : FVec Ideal S4x256x1024 .f32)
    (x3 x4 : FVec Ideal S4x1x6x1024 .f32) (y : S4x256x1024.Idx) : EReal :=
  modulated (fun e => blockOf x0 x1 x2 x3 (ix3 (y 0) (y 1) e)) (x4 (ix4 (y 0) 0 0 (y 2))) (x4 (ix4 (y 0) 0 1 (y 2))) (y 2)

section
variable (x0 : FVec Ideal S4x256x2816 .bf16) (x1 : FVec Ideal S2816x1024 .bf16) (x2 : FVec Ideal S4x256x1024 .f32)
  (x3 x4 : FVec Ideal S4x1x6x1024 .f32)

/-- The product of the four row blocks with the weights. -/
theorem product_apply (g : Fin 4) (r : Fin 256) (d : Fin 1024) :
    k0_pay16 (F := Ideal) x0 x1 x2 x3 x4 (ix2 ⟨256 * g.val + r.val, by omega⟩ d) = ∑ k : Fin 2816, x0 (ix3 g r k) * x1 (ix2 k d) := by
  fin_cases g <;> pointwise [k0_pay16, k0_pay2] <;> refine Finset.sum_congr rfl fun k _ => congrArg (· * _) ?_ <;>
    split_ifs <;> first | omega | blk_ext

/-- The first sample's rows. -/
theorem rows0 (r : Fin 256) (d : Fin 1024) :
    k0_pay3 (F := Ideal) (View.ld x0 r0_0) (View.ld x0 r0_1) (View.ld x0 r0_2) (View.ld x0 r0_3) (View.ld x1 r0_4) (View.ld x2 r0_5)
      (View.ld x3 r0_6) (ix2 r d) = blockOf x0 x1 x2 x3 (ix3 0 r d) := by
  have h := product_apply x0 x1 x2 x3 x3 0 r d
  pointwise [k0_pay3, blockOf]
  exact congrArg (fun v => x2 (ix3 0 r d) + x3 (ix4 0 0 5 d) * v) ((congrArg _ (by blk_ext)).trans h)

/-- The second sample's rows. -/
theorem rows1 (r : Fin 256) (d : Fin 1024) :
    k0_pay7 (F := Ideal) (k0_pay16 x0 x1 x2 x3 x4) (View.ld x2 r0_9) (View.ld x3 r0_10) (ix2 r d) = blockOf x0 x1 x2 x3 (ix3 1 r d) := by
  have h := product_apply x0 x1 x2 x3 x4 1 r d
  pointwise [k0_pay7, blockOf]
  exact congrArg (fun v => x2 (ix3 1 r d) + x3 (ix4 1 0 5 d) * v) ((congrArg _ (by blk_ext)).trans h)

/-- The third sample's rows. -/
theorem rows2 (r : Fin 256) (d : Fin 1024) :
    k0_pay11 (F := Ideal) (k0_pay16 x0 x1 x2 x3 x4) (View.ld x2 r0_13) (View.ld x3 r0_14) (ix2 r d) = blockOf x0 x1 x2 x3 (ix3 2 r d) := by
  have h := product_apply x0 x1 x2 x3 x4 2 r d
  pointwise [k0_pay11, blockOf]
  exact congrArg (fun v => x2 (ix3 2 r d) + x3 (ix4 2 0 5 d) * v) ((congrArg _ (by blk_ext)).trans h)

/-- The fourth sample's rows. -/
theorem rows3 (r : Fin 256) (d : Fin 1024) :
    k0_pay14 (F := Ideal) (k0_pay16 x0 x1 x2 x3 x4) (View.ld x2 r0_17) (View.ld x3 r0_18) (ix2 r d) = blockOf x0 x1 x2 x3 (ix3 3 r d) := by
  have h := product_apply x0 x1 x2 x3 x4 3 r d
  pointwise [k0_pay14, blockOf]
  exact congrArg (fun v => x2 (ix3 3 r d) + x3 (ix4 3 0 5 d) * v) ((congrArg _ (by blk_ext)).trans h)
end

/-- The first sample's modulation. -/
theorem mod0 (v : FVec Ideal S256x1024 .f32) (a s : FVec Ideal S1x1x1x1024 .f32) (r : Fin 256) (d : Fin 1024) :
    k0_pay6 (F := Ideal) v (k0_pay5 a) s (ix3 0 r d) = modulated (fun e => v (ix2 r e)) (a (ix4 0 0 0 d)) (s (ix4 0 0 0 d)) d := by
  pointwise [k0_pay6, k0_pay5, modulated]

/-- The second sample's modulation. -/
theorem mod1 (v : FVec Ideal S256x1024 .f32) (a s : FVec Ideal S1x1x1x1024 .f32) (r : Fin 256) (d : Fin 1024) :
    k0_pay10 (F := Ideal) v (k0_pay9 a) s (ix3 0 r d) = modulated (fun e => v (ix2 r e)) (a (ix4 0 0 0 d)) (s (ix4 0 0 0 d)) d := by
  pointwise [k0_pay10, k0_pay9, modulated]

/-- The third sample's modulation. -/
theorem mod2 (v : FVec Ideal S256x1024 .f32) (a s : FVec Ideal S1x1x1x1024 .f32) (r : Fin 256) (d : Fin 1024) :
    k0_pay13 (F := Ideal) v a s (ix3 0 r d) = modulated (fun e => v (ix2 r e)) (a (ix4 0 0 0 d)) (s (ix4 0 0 0 d)) d := by
  pointwise [k0_pay13, modulated]

/-- The fourth sample's modulation. -/
theorem mod3 (v : FVec Ideal S256x1024 .f32) (a s : FVec Ideal S1x1x1x1024 .f32) (r : Fin 256) (d : Fin 1024) :
    k0_pay1 (F := Ideal) v a s (ix3 0 r d) = modulated (fun e => v (ix2 r e)) (a (ix4 0 0 0 d)) (s (ix4 0 0 0 d)) d := by
  pointwise [k0_pay1, modulated]

section
variable (x0 : FVec Ideal S4x256x2816 .bf16) (x1 : FVec Ideal S2816x1024 .bf16) (x2 : FVec Ideal S4x256x1024 .f32)
  (x3 x4 : FVec Ideal S4x1x6x1024 .f32)

/-- The body leaves the block of the residual stream. -/
theorem out5_eq (y : S4x256x1024.Idx) : out0_5 (F := Ideal) x0 x1 x2 x3 x4 y = blockOf x0 x1 x2 x3 y := by
  unfold out0_5
  refine View.canon_apply_of_pieces (Val := Elt Ideal) (e := .f32) (blockOf x0 x1 x2 x3) _ (fun p hp z => ?_) y (cover0_5 _ _ _ _ y)
  simp only [List.mem_cons, List.not_mem_nil, or_false] at hp
  rcases hp with rfl | rfl | rfl | rfl
  all_goals
    obtain ⟨r, hr⟩ : ∃ r : Fin 256, r = z 1 := ⟨_, rfl⟩
    obtain ⟨d, hd⟩ : ∃ d : Fin 1024, d = z 2 := ⟨_, rfl⟩
    have hz : z = ix3 0 r d := by
      subst hr hd
      blk_ext
    subst hz
  · have he : r0_17.emb (ix3 0 r d) = ix3 3 r d := by blk_ext
    rw [he, ← rows3 x0 x1 x2 x3 x4]
    pointwise [k0_pay15]
  · have he : r0_13.emb (ix3 0 r d) = ix3 2 r d := by blk_ext
    rw [he, ← rows2 x0 x1 x2 x3 x4]
    pointwise [k0_pay12]
  · have he : r0_9.emb (ix3 0 r d) = ix3 1 r d := by blk_ext
    rw [he, ← rows1 x0 x1 x2 x3 x4]
    pointwise [k0_pay8]
  · have he : r0_5.emb (ix3 0 r d) = ix3 0 r d := by blk_ext
    rw [he, ← rows0 x0 x1 x2 x3]
    pointwise [k0_pay4]

/-- The body leaves the modulated block. -/
theorem out6_eq (y : S4x256x1024.Idx) : out0_6 (F := Ideal) x0 x1 x2 x3 x4 y = blockMod x0 x1 x2 x3 x4 y := by
  unfold out0_6
  refine View.canon_apply_of_pieces (Val := Elt Ideal) (e := .bf16) (blockMod x0 x1 x2 x3 x4) _ (fun p hp z => ?_) y (cover0_6 _ _ _ _ y)
  simp only [List.mem_cons, List.not_mem_nil, or_false] at hp
  rcases hp with rfl | rfl | rfl | rfl
  all_goals
    obtain ⟨r, hr⟩ : ∃ r : Fin 256, r = z 1 := ⟨_, rfl⟩
    obtain ⟨d, hd⟩ : ∃ d : Fin 1024, d = z 2 := ⟨_, rfl⟩
    have hz : z = ix3 0 r d := by
      subst hr hd
      blk_ext
    subst hz
  · have he : r0_17.emb (ix3 0 r d) = ix3 3 r d := by blk_ext
    rw [he]
    refine (mod3 _ _ _ r d).trans ?_
    simp only [rows3]
    pointwise [blockMod]
  · have he : r0_13.emb (ix3 0 r d) = ix3 2 r d := by blk_ext
    rw [he]
    refine (mod2 _ _ _ r d).trans ?_
    simp only [rows2]
    pointwise [blockMod]
  · have he : r0_9.emb (ix3 0 r d) = ix3 1 r d := by blk_ext
    rw [he]
    refine (mod1 _ _ _ r d).trans ?_
    simp only [rows1]
    pointwise [blockMod]
  · have he : r0_5.emb (ix3 0 r d) = ix3 0 r d := by blk_ext
    rw [he]
    refine (mod0 _ _ _ r d).trans ?_
    simp only [rows0 x0 x1 x2 x3]
    pointwise [blockMod]
end

/-- The residual stream that the kernel returns. -/
def returned (j : S4x8448x1024.Idx) : EReal :=
  argX m c j + modAt (argM m c) (argC m c) 5 (j 0) (j 1).val (j 2) * ∑ k : Fin 2816, argH m c (ix3 (j 0) (j 1) k) * argW m c (ix2 k (j 2))

/-- The modulated stream that the kernel returns. -/
def returnedMod (j : S4x8448x1024.Idx) : EReal :=
  modulated (fun e => returned m c (ix3 (j 0) (j 1) e)) (modAt (argN m c) (argD m c) 0 (j 0) (j 1).val (j 2))
    (modAt (argN m c) (argD m c) 1 (j 0) (j 1).val (j 2)) (j 2)

/-- A block of the residual stream, of the blocks at a point. -/
theorem blockOf_eq (g : Fin 4) (r : Fin 256) (d : Fin 1024) :
    blockOf (iblk m c 0 t) (iblk m c 1 t) (iblk m c 2 t) (iblk m c 3 t) (ix3 g r d)
      = returned m c (ix3 g ⟨256 * t.val + r.val, by have := point_lt t; omega⟩ d) := by
  unfold blockOf returned
  simp only [ix3_0, ix3_1, ix3_2, block0_apply, block1_apply, block2_apply, block3_apply m c t g 5 d r]

/-- A modulated block, of the blocks at a point. -/
theorem blockMod_eq (g : Fin 4) (r : Fin 256) (d : Fin 1024) :
    blockMod (iblk m c 0 t) (iblk m c 1 t) (iblk m c 2 t) (iblk m c 3 t) (iblk m c 4 t) (ix3 g r d)
      = returnedMod m c (ix3 g ⟨256 * t.val + r.val, by have := point_lt t; omega⟩ d) := by
  unfold blockMod returnedMod
  simp only [ix3_0, ix3_1, ix3_2, blockOf_eq, block4_apply m c t g _ d r]

/-- The kernel returns that residual stream. -/
theorem final5 : (dats m 0 c).arrAt 5 cfg0.N = returned m c := by
  refine (dats m 0 c).arrAt_eq_of_covers 5 _ (by decide +kernel) fun t _ y => ?_
  blk_simp
  rw [after0_5]
  have hy0 : (y 0).val < 4 := (y 0).isLt
  have hy1 : (y 1).val < 256 := (y 1).isLt
  have hy2 : (y 2).val < 1024 := (y 2).isLt
  have ht := point_lt t
  have e : y = ix3 ⟨(y 0).val, hy0⟩ ⟨(y 1).val, hy1⟩ ⟨(y 2).val, hy2⟩ := by
    blk_ext
  have hg : (win0_5.blk t).view.emb y = ix3 ⟨(y 0).val, hy0⟩ ⟨256 * t.val + (y 1).val, by omega⟩ ⟨(y 2).val, hy2⟩ := by
    blk_ext [idx t]
  rw [hg]
  exact (out5_eq _ _ _ _ _ y).trans ((congrArg _ e).trans (blockOf_eq m c t _ _ _))

/-- The kernel returns that modulated stream. -/
theorem final6 : (dats m 0 c).arrAt 6 cfg0.N = returnedMod m c := by
  refine (dats m 0 c).arrAt_eq_of_covers 6 _ (by decide +kernel) fun t _ y => ?_
  blk_simp
  rw [after0_6]
  have hy0 : (y 0).val < 4 := (y 0).isLt
  have hy1 : (y 1).val < 256 := (y 1).isLt
  have hy2 : (y 2).val < 1024 := (y 2).isLt
  have ht := point_lt t
  have e : y = ix3 ⟨(y 0).val, hy0⟩ ⟨(y 1).val, hy1⟩ ⟨(y 2).val, hy2⟩ := by
    blk_ext
  have hg : (win0_6.blk t).view.emb y = ix3 ⟨(y 0).val, hy0⟩ ⟨256 * t.val + (y 1).val, by omega⟩ ⟨(y 2).val, hy2⟩ := by
    blk_ext [idx t]
  rw [hg]
  exact (out6_eq _ _ _ _ _ y).trans ((congrArg _ e).trans (blockMod_eq m c t _ _ _))

end FfnDown

end
-- ==== Proof.DownRef.lean ====
/- The down projection of a layer but the last: the reference computes the two arrays that the kernel returns. -/
module

public import proofs.«01_k».proof.Proof.Down

@[expose] public section

set_option maxRecDepth 16384

noncomputable section

namespace FfnDown

open Cert.Kernel4Ideal Cert.Kernel4Ideal.Gen Idealize.ShloMosaic Idealize.ShloMosaic.TcCoe Idealize.SL.Sem Stream
open Cert.Reference4Ideal.Read

variable (m : (ℓ : Loc nD τ sig) → Buf (Elt Ideal) ℓ) (c : Dev nD)

/-- The gate laid out along the tokens. -/
theorem gate_apply (l : S4x6144.Idx → EReal) (cx : S6144.Idx → EReal) (b : Fin 4) (r : Fin 8448) (d : Fin 1024) :
    val_main_v5 (F := Ideal) l cx (ix3 b r d) = modAt l cx 5 b r.val d := by
  pointwise [val_main_v5, val_main_v4, val_main_v3, val_main_v2, val_main_v1, val_main_v0, modAt]
  split_ifs <;> blk_ext

/-- The shift laid out along the tokens. -/
theorem shift_apply (l : S4x6144.Idx → EReal) (cx : S6144.Idx → EReal) (b : Fin 4) (r : Fin 8448) (d : Fin 1024) :
    val_main_v14 (F := Ideal) l cx (ix3 b r d) = modAt l cx 0 b r.val d := by
  pointwise [val_main_v14, val_main_v13, val_main_v12, val_main_v11, val_main_v10, val_main_v9, modAt]
  split_ifs <;> blk_ext

/-- The scale laid out along the tokens. -/
theorem scale_apply (l : S4x6144.Idx → EReal) (cx : S6144.Idx → EReal) (b : Fin 4) (r : Fin 8448) (d : Fin 1024) :
    val_main_v20 (F := Ideal) l cx (ix3 b r d) = modAt l cx 1 b r.val d := by
  pointwise [val_main_v20, val_main_v19, val_main_v18, val_main_v17, val_main_v16, val_main_v15, modAt]
  split_ifs <;> blk_ext

/-- The reference's residual stream. -/
theorem stream_apply (b : Fin 4) (r : Fin 8448) (d : Fin 1024) :
    val_main_v8 (F := Ideal) (argH m c) (argW m c) (argX m c) (argM m c) (argC m c) (ix3 b r d) = returned m c (ix3 b r d) := by
  have h := gate_apply (argM m c) (argC m c) b r d
  unfold returned
  pointwise [val_main_v8, val_main_v7, val_main_v6]
  rw [h]

/-- The reference's modulated stream, of its residual stream. -/
theorem modulated_apply (x0 : S4x8448x2816.Idx → EReal) (x1 : S2816x1024.Idx → EReal) (x2 : S4x8448x1024.Idx → EReal)
    (x3 : S4x6144.Idx → EReal) (x4 : S6144.Idx → EReal) (x5 : S4x6144.Idx → EReal) (x6 : S6144.Idx → EReal)
    (b : Fin 4) (r : Fin 8448) (d : Fin 1024) :
    val_main_v35 (F := Ideal) x0 x1 x2 x3 x4 x5 x6 (ix3 b r d)
      = modulated (fun e => val_main_v8 (F := Ideal) x0 x1 x2 x3 x4 (ix3 b r e)) (val_main_v14 (F := Ideal) x5 x6 (ix3 b r d))
        (val_main_v20 (F := Ideal) x5 x6 (ix3 b r d)) d := by
  pointwise [val_main_v35, val_main_v34, val_main_v33, val_main_v32, val_main_v31, val_main_v30, val_main_v29, val_main_v28, val_main_v27,
    val_main_v26, val_main_v25, val_main_v24, val_main_v23, val_main_v22, val_main_v21, val_main_cst, val_main_cst_0, val_main_cst_1,
    val_main_cst_2, modulated]

/-- The reference computes the residual stream that the kernel returns. -/
theorem reference_is_kernel : val_main_v8 (F := Ideal) (argH m c) (argW m c) (argX m c) (argM m c) (argC m c) = (dats m 0 c).arrAt 5 cfg0.N := by
  rw [final5]
  funext j
  obtain ⟨b, hb⟩ : ∃ b : Fin 4, b = j 0 := ⟨_, rfl⟩
  obtain ⟨r, hr⟩ : ∃ r : Fin 8448, r = j 1 := ⟨_, rfl⟩
  obtain ⟨d, hd⟩ : ∃ d : Fin 1024, d = j 2 := ⟨_, rfl⟩
  have hj : j = ix3 b r d := by
    subst hb hr hd
    blk_ext
  subst hj
  exact stream_apply m c b r d

/-- The reference computes the modulated stream that the kernel returns. -/
theorem reference_is_kernel_mod : val_main_v35 (F := Ideal) (argH m c) (argW m c) (argX m c) (argM m c) (argC m c) (argN m c) (argD m c)
    = (dats m 0 c).arrAt 6 cfg0.N := by
  rw [final6]
  funext j
  obtain ⟨b, hb⟩ : ∃ b : Fin 4, b = j 0 := ⟨_, rfl⟩
  obtain ⟨r, hr⟩ : ∃ r : Fin 8448, r = j 1 := ⟨_, rfl⟩
  obtain ⟨d, hd⟩ : ∃ d : Fin 1024, d = j 2 := ⟨_, rfl⟩
  have hj : j = ix3 b r d := by
    subst hb hr hd
    blk_ext
  subst hj
  rw [modulated_apply, shift_apply, scale_apply]
  simp only [stream_apply]
  rfl

end FfnDown

end
-- ==== Proof.Up.lean ====
/- The gated up projection: what one grid point computes of its blocks. -/
module

public import proofs.«01_k».proof.Proof.Gen.Kernel2Ideal.Frame
public import proofs.«01_k».proof.Proof.Stream
public import Idealize.ShloMosaic.Lib.Pipeline.ValueKit
public import Idealize.ShloMosaic.Lib.Pointwise

@[expose] public section

set_option maxRecDepth 16384

noncomputable section

namespace FfnUp

open Cert.Kernel2Ideal Cert.Kernel2Ideal.Gen Idealize.ShloMosaic Idealize.ShloMosaic.TcCoe Idealize.SL.Sem Stream

/-- The gated unit: `u` times its logistic, times `v`. -/
def act (u v : EReal) : EReal := Ideal.div u (Ideal.ofBits .f32 0x3F800000#32 + Ideal.exp (0 - u)) * v

/-- The rows of three blocks one above the other: sixteen rows, 256 rows, sixteen rows. -/
def cat {n : ℕ} (p : (⟨3, ![1, 16, n]⟩ : Shape).Idx → EReal) (x : (⟨3, ![1, 256, n]⟩ : Shape).Idx → EReal)
    (q : (⟨3, ![1, 16, n]⟩ : Shape).Idx → EReal) (r : Fin 288) (k : Fin n) : EReal :=
  if h : r.val < 16 then p (ix3 0 ⟨r.val, h⟩ k) else if h' : r.val - 16 < 256 then x (ix3 0 ⟨r.val - 16, h'⟩ k)
    else q (ix3 0 ⟨r.val - 16 - 256, by omega⟩ k)

/-- A row of the gated unit: the convolution of three rows of one product, and a row of the other product. -/
def tileOf (a : FVec Ideal S256x1024 .bf16) (e : FVec Ideal S288x1024 .bf16) (wg : Fin 1024 → EReal) (c0 c1 c2 cb : EReal)
    (wv : Fin 1024 → EReal) (r : Fin 256) : EReal :=
  act ((∑ k : Fin 1024, e (ix2 ⟨15 + r.val, by omega⟩ k) * wg k) * c0 + (∑ k : Fin 1024, e (ix2 ⟨16 + r.val, by omega⟩ k) * wg k) * c1
    + (∑ k : Fin 1024, e (ix2 ⟨17 + r.val, by omega⟩ k) * wg k) * c2 + cb) (∑ k : Fin 1024, a (ix2 r k) * wv k)

/-- One chunk of 256 hidden channels. -/
theorem tile_apply (a : FVec Ideal S256x1024 .bf16) (e : FVec Ideal S288x1024 .bf16) (wg : FVec Ideal S1024x256 .bf16)
    (c0 c1 c2 cb : FVec Ideal S1x256 .f32) (wv : FVec Ideal S1024x256 .bf16) (r f : Fin 256) :
    k0_pay13 (F := Ideal) a e wg c0 c1 c2 cb wv (ix3 0 r f)
      = tileOf a e (fun k => wg (ix2 k f)) (c0 (ix2 0 f)) (c1 (ix2 0 f)) (c2 (ix2 0 f)) (cb (ix2 0 f)) (fun k => wv (ix2 k f)) r := by
  pointwise [k0_pay13, tileOf, act]

/-- The body's stated choice of the rows before: none at the first block of either segment. -/
theorem before_choice : ∀ j : Fin 33, Scalar.ori (Scalar.cmpi .eq (BitVec.ofNat 32 j.val) 0#32) (Scalar.cmpi .eq (BitVec.ofNat 32 j.val) 32#32)
    = if j.val = 0 ∨ j.val = 32 then 1#1 else 0#1 := by decide

/-- The body's stated choice of the rows after: none at the last block of either segment. -/
theorem after_choice : ∀ j : Fin 33, Scalar.ori (Scalar.cmpi .eq (BitVec.ofNat 32 j.val) 31#32) (Scalar.cmpi .eq (BitVec.ofNat 32 j.val) 32#32)
    = if j.val = 31 ∨ j.val = 32 then 1#1 else 0#1 := by decide

/-- A choice made. -/
theorem choice_true {α : Type} (a b : α) : Scalar.select 1#1 a b = a := rfl

/-- A choice not made. -/
theorem choice_false {α : Type} (a b : α) : Scalar.select 0#1 a b = b := rfl

/-- Three blocks of rows stacked. -/
theorem stack_apply (a b : FVec Ideal S16x1024 .bf16) (u : FVec Ideal S256x1024 .bf16) (r : Fin 288) (d : Fin 1024) :
    concatenate S288x1024 0 [⟨S16x1024, a⟩, ⟨S256x1024, u⟩, ⟨S16x1024, b⟩] concatenates_S16x1024_S256x1024_S16x1024_S288x1024_d0 (ix2 r d)
      = if h : r.val < 16 then a (ix2 ⟨r.val, h⟩ d) else if h' : r.val - 16 < 256 then u (ix2 ⟨r.val - 16, h'⟩ d)
        else b (ix2 ⟨r.val - 16 - 256, by omega⟩ d) := by
  pointwise

/-- The rows about a block, with those outside the segment zeroed. -/
theorem choose_apply (j : Fin 33) (v : FVec Ideal S288x1024 .bf16) (z : FVec Ideal S16x1024 .bf16) (u : FVec Ideal S256x1024 .bf16)
    (hz : z = k0_pay8 (F := Ideal)) (hu : ∀ (r : Fin 256) (d : Fin 1024), u (ix2 r d) = v (ix2 ⟨16 + r.val, by omega⟩ d)) (r : Fin 288) (d : Fin 1024) :
    k0_pay10 (F := Ideal) (BitVec.ofNat 32 j.val) v z u (Scalar.cmpi .eq (BitVec.ofNat 32 j.val) 0#32) (Scalar.cmpi .eq (BitVec.ofNat 32 j.val) 32#32) (ix2 r d)
      = if r.val < 16 ∧ (j.val = 0 ∨ j.val = 32) ∨ 272 ≤ r.val ∧ (j.val = 31 ∨ j.val = 32) then 0 else v (ix2 r d) := by
  refine (stack_apply _ _ _ r d).trans ?_
  subst hz
  rw [before_choice, after_choice]
  by_cases h1 : r.val < 16
  · rw [dif_pos h1]
    by_cases hb : j.val = 0 ∨ j.val = 32
    · rw [if_pos hb, if_pos (Or.inl ⟨h1, hb⟩)]
      pointwise [choice_true, k0_pay8]
    · rw [if_neg hb, if_neg (by omega)]
      pointwise [choice_false]
  · rw [dif_neg h1]
    by_cases h2 : r.val - 16 < 256
    · rw [dif_pos h2, hu, if_neg (by omega)]
      refine congrArg v ?_
      blk_ext
    · rw [dif_neg h2]
      by_cases ha : j.val = 31 ∨ j.val = 32
      · rw [if_pos ha, if_pos (Or.inr ⟨by omega, ha⟩)]
        pointwise [choice_true, k0_pay8]
      · rw [if_neg ha, if_neg (by omega)]
        pointwise [choice_false]
        refine congrArg v ?_
        blk_ext

section
variable (i : grid0.Coords) (x0 : FVec Ideal S1x256x512 .bf16) (x1 : FVec Ideal S1x16x512 .bf16) (x2 : FVec Ideal S1x16x512 .bf16)
  (x3 : FVec Ideal S1x256x512 .bf16) (x4 : FVec Ideal S1x16x512 .bf16) (x5 : FVec Ideal S1x16x512 .bf16) (x6 : FVec Ideal S1x256x1024 .f32)
  (x7 : FVec Ideal S1x16x1024 .f32) (x8 : FVec Ideal S1x16x1024 .f32) (x9 : FVec Ideal S512x1024 .bf16) (x10 : FVec Ideal S512x1024 .bf16)
  (x11 : FVec Ideal S1x1x6x1024 .f32) (x12 : FVec Ideal S1024x2816 .bf16) (x13 : FVec Ideal S1024x2816 .bf16) (x14 : FVec Ideal S3x2816 .f32)
  (x15 : FVec Ideal S1x2816 .f32)

/-- The hidden block, chunk by chunk. -/
theorem out17_pieces : out0_17 (F := Ideal) i x0 x1 x2 x3 x4 x5 x6 x7 x8 x9 x10 x11 x12 x13 x14 x15 = View.canon (Val := Elt Ideal) (e := .bf16) [⟨r0_73, k0_pay13 (F := Ideal) (k0_pay43 i x0 x1 x2 x3 x4 x5 x6 x7 x8 x9 x10 x11 x12 x13 x14 x15) (k0_pay44 i x0 x1 x2 x3 x4 x5 x6 x7 x8 x9 x10 x11 x12 x13 x14 x15) (View.ld x12 r0_68) (View.ld x14 r0_69) (View.ld x14 r0_70) (View.ld x14 r0_71) (View.ld x15 r0_72) (View.ld x13 r0_68)⟩,
    ⟨r0_67, k0_pay13 (F := Ideal) (k0_pay43 i x0 x1 x2 x3 x4 x5 x6 x7 x8 x9 x10 x11 x12 x13 x14 x15) (k0_pay44 i x0 x1 x2 x3 x4 x5 x6 x7 x8 x9 x10 x11 x12 x13 x14 x15) (View.ld x12 r0_62) (View.ld x14 r0_63) (View.ld x14 r0_64) (View.ld x14 r0_65) (View.ld x15 r0_66) (View.ld x13 r0_62)⟩,
    ⟨r0_61, k0_pay13 (F := Ideal) (k0_pay43 i x0 x1 x2 x3 x4 x5 x6 x7 x8 x9 x10 x11 x12 x13 x14 x15) (k0_pay44 i x0 x1 x2 x3 x4 x5 x6 x7 x8 x9 x10 x11 x12 x13 x14 x15) (View.ld x12 r0_56) (View.ld x14 r0_57) (View.ld x14 r0_58) (View.ld x14 r0_59) (View.ld x15 r0_60) (View.ld x13 r0_56)⟩,
    ⟨r0_55, k0_pay13 (F := Ideal) (k0_pay43 i x0 x1 x2 x3 x4 x5 x6 x7 x8 x9 x10 x11 x12 x13 x14 x15) (k0_pay44 i x0 x1 x2 x3 x4 x5 x6 x7 x8 x9 x10 x11 x12 x13 x14 x15) (View.ld x12 r0_50) (View.ld x14 r0_51) (View.ld x14 r0_52) (View.ld x14 r0_53) (View.ld x15 r0_54) (View.ld x13 r0_50)⟩,
    ⟨r0_49, k0_pay13 (F := Ideal) (k0_pay43 i x0 x1 x2 x3 x4 x5 x6 x7 x8 x9 x10 x11 x12 x13 x14 x15) (k0_pay44 i x0 x1 x2 x3 x4 x5 x6 x7 x8 x9 x10 x11 x12 x13 x14 x15) (View.ld x12 r0_44) (View.ld x14 r0_45) (View.ld x14 r0_46) (View.ld x14 r0_47) (View.ld x15 r0_48) (View.ld x13 r0_44)⟩,
    ⟨r0_43, k0_pay13 (F := Ideal) (k0_pay43 i x0 x1 x2 x3 x4 x5 x6 x7 x8 x9 x10 x11 x12 x13 x14 x15) (k0_pay44 i x0 x1 x2 x3 x4 x5 x6 x7 x8 x9 x10 x11 x12 x13 x14 x15) (View.ld x12 r0_38) (View.ld x14 r0_39) (View.ld x14 r0_40) (View.ld x14 r0_41) (View.ld x15 r0_42) (View.ld x13 r0_38)⟩,
    ⟨r0_37, k0_pay13 (F := Ideal) (k0_pay43 i x0 x1 x2 x3 x4 x5 x6 x7 x8 x9 x10 x11 x12 x13 x14 x15) (k0_pay44 i x0 x1 x2 x3 x4 x5 x6 x7 x8 x9 x10 x11 x12 x13 x14 x15) (View.ld x12 r0_32) (View.ld x14 r0_33) (View.ld x14 r0_34) (View.ld x14 r0_35) (View.ld x15 r0_36) (View.ld x13 r0_32)⟩,
    ⟨r0_31, k0_pay13 (F := Ideal) (k0_pay43 i x0 x1 x2 x3 x4 x5 x6 x7 x8 x9 x10 x11 x12 x13 x14 x15) (k0_pay44 i x0 x1 x2 x3 x4 x5 x6 x7 x8 x9 x10 x11 x12 x13 x14 x15) (View.ld x12 r0_26) (View.ld x14 r0_27) (View.ld x14 r0_28) (View.ld x14 r0_29) (View.ld x15 r0_30) (View.ld x13 r0_26)⟩,
    ⟨r0_25, k0_pay13 (F := Ideal) (k0_pay43 i x0 x1 x2 x3 x4 x5 x6 x7 x8 x9 x10 x11 x12 x13 x14 x15) (k0_pay44 i x0 x1 x2 x3 x4 x5 x6 x7 x8 x9 x10 x11 x12 x13 x14 x15) (View.ld x12 r0_20) (View.ld x14 r0_21) (View.ld x14 r0_22) (View.ld x14 r0_23) (View.ld x15 r0_24) (View.ld x13 r0_20)⟩,
    ⟨r0_19, k0_pay13 (F := Ideal) (k0_pay43 i x0 x1 x2 x3 x4 x5 x6 x7 x8 x9 x10 x11 x12 x13 x14 x15) (k0_pay44 i x0 x1 x2 x3 x4 x5 x6 x7 x8 x9 x10 x11 x12 x13 x14 x15) (View.ld x12 r0_14) (View.ld x14 r0_15) (View.ld x14 r0_16) (View.ld x14 r0_17) (View.ld x15 r0_18) (View.ld x13 r0_14)⟩,
    ⟨r0_13, k0_pay13 (F := Ideal) (k0_pay43 i x0 x1 x2 x3 x4 x5 x6 x7 x8 x9 x10 x11 x12 x13 x14 x15) (k0_pay44 i x0 x1 x2 x3 x4 x5 x6 x7 x8 x9 x10 x11 x12 x13 x14 x15) (View.ld x12 r0_8) (View.ld x14 r0_9) (View.ld x14 r0_10) (View.ld x14 r0_11) (View.ld x15 r0_12) (View.ld x13 r0_8)⟩] := rfl

/-- The two products of the mixers' outputs, added. -/
theorem mixed_apply (r : Fin 288) (d : Fin 1024) :
    k0_pay38 (F := Ideal) i x0 x1 x2 x3 x4 x5 x6 x7 x8 x9 x10 x11 x12 x13 x14 x15 (ix2 r d)
      = ∑ k : Fin 512, cat x1 x0 x2 r k * x9 (ix2 k d) + ∑ k : Fin 512, cat x4 x3 x5 r k * x10 (ix2 k d) := by
  pointwise [k0_pay38, k0_pay2, cat]

/-- The rows of the residual stream at a point. -/
def rowsOf (r : Fin 288) (d : Fin 1024) : EReal :=
  cat x7 x6 x8 r d + x11 (ix4 0 0 2 d) * (∑ k : Fin 512, cat x1 x0 x2 r k * x9 (ix2 k d) + ∑ k : Fin 512, cat x4 x3 x5 r k * x10 (ix2 k d))

/-- The residual stream at a point, with the rows about it. -/
theorem rows_apply (r : Fin 288) (d : Fin 1024) :
    k0_pay5 (F := Ideal) (k0_pay38 i x0 x1 x2 x3 x4 x5 x6 x7 x8 x9 x10 x11 x12 x13 x14 x15) (k0_pay39 i x0 x1 x2 x3 x4 x5 x6 x7 x8 x9 x10 x11 x12 x13 x14 x15) (k0_pay40 i x0 x1 x2 x3 x4 x5 x6 x7 x8 x9 x10 x11 x12 x13 x14 x15) (View.ld x8 r0_3) (View.ld x11 r0_5) (ix2 r d)
      = rowsOf x0 x1 x2 x3 x4 x5 x6 x7 x8 x9 x10 x11 r d := by
  have h := mixed_apply i x0 x1 x2 x3 x4 x5 x6 x7 x8 x9 x10 x11 x12 x13 x14 x15 r d
  unfold rowsOf
  rw [← h]
  pointwise [k0_pay5, k0_pay39, k0_pay40, k0_pay3, k0_pay4, cat]

/-- The modulation of the rows. -/
theorem mod_apply (u : FVec Ideal S288x1024 .f32) (p : FVec Ideal S16x1024 .f32) (x : FVec Ideal S256x1024 .f32) (q : FVec Ideal S1x16x1024 .f32)
    (g a s : FVec Ideal S1x1x1x1024 .f32) (r : Fin 288) (d : Fin 1024) :
    k0_pay7 (F := Ideal) u p x q g a s (ix2 r d)
      = modulated (fun e => k0_pay5 (F := Ideal) u p x q g (ix2 r e)) (a (ix4 0 0 0 d)) (s (ix4 0 0 0 d)) d := by
  pointwise [k0_pay7, modulated]

/-- The modulated rows at a point. -/
def modOf (r : Fin 288) (d : Fin 1024) : EReal :=
  modulated (fun e => rowsOf x0 x1 x2 x3 x4 x5 x6 x7 x8 x9 x10 x11 r e) (x11 (ix4 0 0 3 d)) (x11 (ix4 0 0 4 d)) d

/-- The modulated stream at a point, with the rows about it. -/
theorem hidden_apply (r : Fin 288) (d : Fin 1024) :
    k0_pay41 (F := Ideal) i x0 x1 x2 x3 x4 x5 x6 x7 x8 x9 x10 x11 x12 x13 x14 x15 (ix2 r d) = modOf x0 x1 x2 x3 x4 x5 x6 x7 x8 x9 x10 x11 r d := by
  unfold k0_pay41 modOf
  rw [mod_apply]
  simp only [rows_apply]
  pointwise

/-- The modulated stream at a point. -/
theorem main_apply (r : Fin 256) (d : Fin 1024) :
    k0_pay43 (F := Ideal) i x0 x1 x2 x3 x4 x5 x6 x7 x8 x9 x10 x11 x12 x13 x14 x15 (ix2 r d) = modOf x0 x1 x2 x3 x4 x5 x6 x7 x8 x9 x10 x11 ⟨16 + r.val, by omega⟩ d := by
  have h := hidden_apply i x0 x1 x2 x3 x4 x5 x6 x7 x8 x9 x10 x11 x12 x13 x14 x15 ⟨16 + r.val, by omega⟩ d
  rw [← h]
  pointwise [k0_pay43, k0_pay9, k0_pay41]

/-- The body leaves the block of the residual stream. -/
theorem out16_apply (r : Fin 256) (d : Fin 1024) :
    out0_16 (F := Ideal) i x0 x1 x2 x3 x4 x5 x6 x7 x8 x9 x10 x11 x12 x13 x14 x15 (ix3 0 r d) = rowsOf x0 x1 x2 x3 x4 x5 x6 x7 x8 x9 x10 x11 ⟨16 + r.val, by omega⟩ d := by
  unfold out0_16
  refine (View.canon_apply_of_pieces (Val := Elt Ideal) (e := .f32)
    (fun y : S1x256x1024.Idx => rowsOf x0 x1 x2 x3 x4 x5 x6 x7 x8 x9 x10 x11 ⟨16 + (y 1).val, by have h : (y 1).val < 256 := (y 1).isLt; omega⟩ (y 2))
    _ (fun p hp z => ?_) (ix3 0 r d) (cover0_16 _ _)).trans rfl
  simp only [List.mem_cons, List.not_mem_nil, or_false] at hp
  subst hp
  obtain ⟨r, hr⟩ : ∃ r : Fin 256, r = z 1 := ⟨_, rfl⟩
  obtain ⟨d, hd⟩ : ∃ d : Fin 1024, d = z 2 := ⟨_, rfl⟩
  have hz : z = ix3 0 r d := by
    subst hr hd
    blk_ext
  subst hz
  have he : r0_4.emb (ix3 0 r d) = ix3 0 r d := by blk_ext
  rw [he]
  refine Eq.trans ?_ (rows_apply i x0 x1 x2 x3 x4 x5 x6 x7 x8 x9 x10 x11 x12 x13 x14 x15 ⟨16 + r.val, by omega⟩ d)
  pointwise [k0_pay6]

/-- A block of the gated unit. -/
def actOf (y : S1x256x2816.Idx) : EReal :=
  tileOf (k0_pay43 (F := Ideal) i x0 x1 x2 x3 x4 x5 x6 x7 x8 x9 x10 x11 x12 x13 x14 x15) (k0_pay44 (F := Ideal) i x0 x1 x2 x3 x4 x5 x6 x7 x8 x9 x10 x11 x12 x13 x14 x15) (fun k => x12 (ix2 k (y 2))) (x14 (ix2 0 (y 2))) (x14 (ix2 1 (y 2)))
    (x14 (ix2 2 (y 2))) (x15 (ix2 0 (y 2))) (fun k => x13 (ix2 k (y 2))) (y 1)

/-- The body leaves that block. -/
theorem out17_eq (y : S1x256x2816.Idx) : out0_17 (F := Ideal) i x0 x1 x2 x3 x4 x5 x6 x7 x8 x9 x10 x11 x12 x13 x14 x15 y = actOf i x0 x1 x2 x3 x4 x5 x6 x7 x8 x9 x10 x11 x12 x13 x14 x15 y := by
  rw [out17_pieces]
  refine View.canon_apply_of_pieces (Val := Elt Ideal) (e := .bf16) (actOf i x0 x1 x2 x3 x4 x5 x6 x7 x8 x9 x10 x11 x12 x13 x14 x15) _ (fun p hp z => ?_) y (cover0_17 _ _ _ _ _ _ _ _ _ _ _ y)
  simp only [List.mem_cons, List.not_mem_nil, or_false] at hp
  rcases hp with rfl | rfl | rfl | rfl | rfl | rfl | rfl | rfl | rfl | rfl | rfl
  all_goals
    obtain ⟨r, hr⟩ : ∃ r : Fin 256, r = z 1 := ⟨_, rfl⟩
    obtain ⟨f, hf⟩ : ∃ f : Fin 256, f = z 2 := ⟨_, rfl⟩
    have hz : z = ix3 0 r f := by
      subst hr hf
      blk_ext
    subst hz
  · have he : r0_73.emb (ix3 0 r f) = ix3 0 r ⟨2560 + f.val, by omega⟩ := by blk_ext
    rw [he]
    refine (tile_apply _ _ _ _ _ _ _ _ r f).trans ?_
    pointwise [tileOf, actOf]
  · have he : r0_67.emb (ix3 0 r f) = ix3 0 r ⟨2304 + f.val, by omega⟩ := by blk_ext
    rw [he]
    refine (tile_apply _ _ _ _ _ _ _ _ r f).trans ?_
    pointwise [tileOf, actOf]
  · have he : r0_61.emb (ix3 0 r f) = ix3 0 r ⟨2048 + f.val, by omega⟩ := by blk_ext
    rw [he]
    refine (tile_apply _ _ _ _ _ _ _ _ r f).trans ?_
    pointwise [tileOf, actOf]
  · have he : r0_55.emb (ix3 0 r f) = ix3 0 r ⟨1792 + f.val, by omega⟩ := by blk_ext
    rw [he]
    refine (tile_apply _ _ _ _ _ _ _ _ r f).trans ?_
    pointwise [tileOf, actOf]
  · have he : r0_49.emb (ix3 0 r f) = ix3 0 r ⟨1536 + f.val, by omega⟩ := by blk_ext
    rw [he]
    refine (tile_apply _ _ _ _ _ _ _ _ r f).trans ?_
    pointwise [tileOf, actOf]
  · have he : r0_43.emb (ix3 0 r f) = ix3 0 r ⟨1280 + f.val, by omega⟩ := by blk_ext
    rw [he]
    refine (tile_apply _ _ _ _ _ _ _ _ r f).trans ?_
    pointwise [tileOf, actOf]
  · have he : r0_37.emb (ix3 0 r f) = ix3 0 r ⟨1024 + f.val, by omega⟩ := by blk_ext
    rw [he]
    refine (tile_apply _ _ _ _ _ _ _ _ r f).trans ?_
    pointwise [tileOf, actOf]
  · have he : r0_31.emb (ix3 0 r f) = ix3 0 r ⟨768 + f.val, by omega⟩ := by blk_ext
    rw [he]
    refine (tile_apply _ _ _ _ _ _ _ _ r f).trans ?_
    pointwise [tileOf, actOf]
  · have he : r0_25.emb (ix3 0 r f) = ix3 0 r ⟨512 + f.val, by omega⟩ := by blk_ext
    rw [he]
    refine (tile_apply _ _ _ _ _ _ _ _ r f).trans ?_
    pointwise [tileOf, actOf]
  · have he : r0_19.emb (ix3 0 r f) = ix3 0 r ⟨256 + f.val, by omega⟩ := by blk_ext
    rw [he]
    refine (tile_apply _ _ _ _ _ _ _ _ r f).trans ?_
    pointwise [tileOf, actOf]
  · have he : r0_13.emb (ix3 0 r f) = ix3 0 r ⟨0 + f.val, by omega⟩ := by blk_ext
    rw [he]
    refine (tile_apply _ _ _ _ _ _ _ _ r f).trans ?_
    pointwise [tileOf, actOf]

/-- The rows that the convolution reads: zero outside the segment. -/
theorem ext_apply (j : Fin 33) (hj : (i 1).val = j.val) (r : Fin 288) (d : Fin 1024) :
    k0_pay44 (F := Ideal) i x0 x1 x2 x3 x4 x5 x6 x7 x8 x9 x10 x11 x12 x13 x14 x15 (ix2 r d)
      = if r.val < 16 ∧ (j.val = 0 ∨ j.val = 32) ∨ 272 ≤ r.val ∧ (j.val = 31 ∨ j.val = 32) then 0
        else modOf x0 x1 x2 x3 x4 x5 x6 x7 x8 x9 x10 x11 r d := by
  unfold k0_pay44
  rw [hj]
  refine (choose_apply j _ _ _ rfl (fun r d => (main_apply i x0 x1 x2 x3 x4 x5 x6 x7 x8 x9 x10 x11 x12 x13 x14 x15 r d).trans (hidden_apply i x0 x1 x2 x3 x4 x5 x6 x7 x8 x9 x10 x11 x12 x13 x14 x15 ⟨16 + r.val, by omega⟩ d).symm) r d).trans ?_
  rw [hidden_apply]
end

end FfnUp

end
-- ==== Proof.UpOut.lean ====
/- The gated up projection: the two arrays that the kernel returns. -/
module

public import proofs.«01_k».proof.Proof.Up

@[expose] public section

set_option maxRecDepth 16384

noncomputable section

namespace FfnUp

open Cert.Kernel2Ideal Cert.Kernel2Ideal.Gen Idealize.ShloMosaic Idealize.ShloMosaic.TcCoe Idealize.SL.Sem Stream

variable (m : (ℓ : Loc nD τ sig) → Buf (Elt Ideal) ℓ) (c : Dev nD) (t : Fin cfg0.N)

/-- The first mixer's output. -/
abbrev argA : S4x8448x512.Idx → EReal := m ((c : Thread nD τ).loc main_arg0)
/-- The second mixer's output. -/
abbrev argB : S4x8448x512.Idx → EReal := m ((c : Thread nD τ).loc main_arg1)
/-- The weights of the mixers' output projection. -/
abbrev argO : S1024x1024.Idx → EReal := m ((c : Thread nD τ).loc main_arg2)
/-- The residual stream. -/
abbrev argX : S4x8448x1024.Idx → EReal := m ((c : Thread nD τ).loc main_arg3)
/-- The six modulation vectors of each sample. -/
abbrev argM : S4x6144.Idx → EReal := m ((c : Thread nD τ).loc main_arg4)
/-- The six modulation vectors of the context. -/
abbrev argC : S6144.Idx → EReal := m ((c : Thread nD τ).loc main_arg5)
/-- The weights of the up projection. -/
abbrev argU : S1024x5632.Idx → EReal := m ((c : Thread nD τ).loc main_arg6)
/-- The weights of the convolution. -/
abbrev argK : S3x2816.Idx → EReal := m ((c : Thread nD τ).loc main_arg7)
/-- The bias of the convolution. -/
abbrev argD : S2816.Idx → EReal := m ((c : Thread nD τ).loc main_arg8)

/-- The block that each window of activations reads at a point. -/
theorem idx : ∀ t : Fin cfg0.N, win0_0.index t = ![t.val / 33, t.val % 33, 0] ∧ win0_1.index t = ![t.val / 33, 16 * (t.val % 33) - 1, 0]
    ∧ win0_2.index t = ![t.val / 33, min (16 * (t.val % 33) + 16) 527, 0]
    ∧ win0_3.index t = ![t.val / 33, t.val % 33, 0] ∧ win0_4.index t = ![t.val / 33, 16 * (t.val % 33) - 1, 0]
    ∧ win0_5.index t = ![t.val / 33, min (16 * (t.val % 33) + 16) 527, 0]
    ∧ win0_6.index t = ![t.val / 33, t.val % 33, 0] ∧ win0_7.index t = ![t.val / 33, 16 * (t.val % 33) - 1, 0]
    ∧ win0_8.index t = ![t.val / 33, min (16 * (t.val % 33) + 16) 527, 0]
    ∧ win0_9.index t = ![0, 0] ∧ win0_10.index t = ![0, 0] ∧ win0_11.index t = ![t.val / 33, t.val % 33 / 32, 0, 0]
    ∧ win0_12.index t = ![0, 0] ∧ win0_13.index t = ![0, 1] ∧ win0_14.index t = ![0, 0] ∧ win0_15.index t = ![0, 0]
    ∧ win0_16.index t = ![t.val / 33, t.val % 33, 0] ∧ win0_17.index t = ![t.val / 33, t.val % 33, 0] :=
  (by decide +kernel : ∀ t : Fin grid0.N, _)

/-- The block of tokens at a point. -/
theorem coord : ∀ t : Fin cfg0.N, (grid0.coords t 1).val = t.val % 33 :=
  (by decide +kernel : ∀ t : Fin grid0.N, _)

/-- The points are 132. -/
theorem point_lt (t : Fin cfg0.N) : t.val < 132 := t.isLt

/-- The first mixer's output at a point. -/
theorem block0_apply (r : Fin 256) (k : Fin 512) :
    (iblk m c 0 t : FVec Ideal S1x256x512 .bf16) (ix3 0 r k)
      = argA m c (ix3 ⟨t.val / 33, by have := point_lt t; omega⟩ ⟨256 * (t.val % 33) + r.val, by have := point_lt t; omega⟩ k) := by
  trans (V m c main_v1 : FVec Ideal S4x8448x512 .bf16) (ix3 ⟨t.val / 33, by have := point_lt t; omega⟩ ⟨256 * (t.val % 33) + r.val, by have := point_lt t; omega⟩ k)
  · blk_ext [iblk, idx t]
  · entry_read
    pointwise
/-- The first mixer's output just before a point. -/
theorem block1_apply (r : Fin 16) (k : Fin 512) :
    (iblk m c 1 t : FVec Ideal S1x16x512 .bf16) (ix3 0 r k)
      = argA m c (ix3 ⟨t.val / 33, by have := point_lt t; omega⟩ ⟨16 * (16 * (t.val % 33) - 1) + r.val, by have := point_lt t; omega⟩ k) := by
  trans (V m c main_v1 : FVec Ideal S4x8448x512 .bf16) (ix3 ⟨t.val / 33, by have := point_lt t; omega⟩ ⟨16 * (16 * (t.val % 33) - 1) + r.val, by have := point_lt t; omega⟩ k)
  · blk_ext [iblk, idx t]
  · entry_read
    pointwise
/-- The first mixer's output just after a point. -/
theorem block2_apply (r : Fin 16) (k : Fin 512) :
    (iblk m c 2 t : FVec Ideal S1x16x512 .bf16) (ix3 0 r k)
      = argA m c (ix3 ⟨t.val / 33, by have := point_lt t; omega⟩ ⟨16 * min (16 * (t.val % 33) + 16) 527 + r.val, by have := point_lt t; omega⟩ k) := by
  trans (V m c main_v1 : FVec Ideal S4x8448x512 .bf16) (ix3 ⟨t.val / 33, by have := point_lt t; omega⟩ ⟨16 * min (16 * (t.val % 33) + 16) 527 + r.val, by have := point_lt t; omega⟩ k)
  · blk_ext [iblk, idx t]
  · entry_read
    pointwise
/-- The first mixer's output about a point, by tokens. -/
theorem cat0_eq (r : Fin 288) (q : Fin 8448) (hq : q.val + 16 = 256 * (t.val % 33) + r.val) (k : Fin 512) :
    cat (iblk m c 1 t : FVec Ideal S1x16x512 .bf16) (iblk m c 0 t : FVec Ideal S1x256x512 .bf16) (iblk m c 2 t : FVec Ideal S1x16x512 .bf16) r k
      = argA m c (ix3 ⟨t.val / 33, by have := point_lt t; omega⟩ q k) := by
  have hr := r.isLt
  have hl := q.isLt
  unfold cat
  split_ifs
  · rw [block1_apply]
    refine congrArg (fun x => argA m c (ix3 _ x k)) (Fin.ext ?_)
    show 16 * (16 * (t.val % 33) - 1) + r.val = q.val
    omega
  · rw [block0_apply]
    refine congrArg (fun x => argA m c (ix3 _ x k)) (Fin.ext ?_)
    show 256 * (t.val % 33) + (r.val - 16) = q.val
    omega
  · rw [block2_apply]
    refine congrArg (fun x => argA m c (ix3 _ x k)) (Fin.ext ?_)
    show 16 * min (16 * (t.val % 33) + 16) 527 + (r.val - 16 - 256) = q.val
    omega

/-- The second mixer's output at a point. -/
theorem block3_apply (r : Fin 256) (k : Fin 512) :
    (iblk m c 3 t : FVec Ideal S1x256x512 .bf16) (ix3 0 r k)
      = argB m c (ix3 ⟨t.val / 33, by have := point_lt t; omega⟩ ⟨256 * (t.val % 33) + r.val, by have := point_lt t; omega⟩ k) := by
  trans (V m c main_v2 : FVec Ideal S4x8448x512 .bf16) (ix3 ⟨t.val / 33, by have := point_lt t; omega⟩ ⟨256 * (t.val % 33) + r.val, by have := point_lt t; omega⟩ k)
  · blk_ext [iblk, idx t]
  · entry_read
    pointwise
/-- The second mixer's output just before a point. -/
theorem block4_apply (r : Fin 16) (k : Fin 512) :
    (iblk m c 4 t : FVec Ideal S1x16x512 .bf16) (ix3 0 r k)
      = argB m c (ix3 ⟨t.val / 33, by have := point_lt t; omega⟩ ⟨16 * (16 * (t.val % 33) - 1) + r.val, by have := point_lt t; omega⟩ k) := by
  trans (V m c main_v2 : FVec Ideal S4x8448x512 .bf16) (ix3 ⟨t.val / 33, by have := point_lt t; omega⟩ ⟨16 * (16 * (t.val % 33) - 1) + r.val, by have := point_lt t; omega⟩ k)
  · blk_ext [iblk, idx t]
  · entry_read
    pointwise
/-- The second mixer's output just after a point. -/
theorem block5_apply (r : Fin 16) (k : Fin 512) :
    (iblk m c 5 t : FVec Ideal S1x16x512 .bf16) (ix3 0 r k)
      = argB m c (ix3 ⟨t.val / 33, by have := point_lt t; omega⟩ ⟨16 * min (16 * (t.val % 33) + 16) 527 + r.val, by have := point_lt t; omega⟩ k) := by
  trans (V m c main_v2 : FVec Ideal S4x8448x512 .bf16) (ix3 ⟨t.val / 33, by have := point_lt t; omega⟩ ⟨16 * min (16 * (t.val % 33) + 16) 527 + r.val, by have := point_lt t; omega⟩ k)
  · blk_ext [iblk, idx t]
  · entry_read
    pointwise
/-- The second mixer's output about a point, by tokens. -/
theorem cat3_eq (r : Fin 288) (q : Fin 8448) (hq : q.val + 16 = 256 * (t.val % 33) + r.val) (k : Fin 512) :
    cat (iblk m c 4 t : FVec Ideal S1x16x512 .bf16) (iblk m c 3 t : FVec Ideal S1x256x512 .bf16) (iblk m c 5 t : FVec Ideal S1x16x512 .bf16) r k
      = argB m c (ix3 ⟨t.val / 33, by have := point_lt t; omega⟩ q k) := by
  have hr := r.isLt
  have hl := q.isLt
  unfold cat
  split_ifs
  · rw [block4_apply]
    refine congrArg (fun x => argB m c (ix3 _ x k)) (Fin.ext ?_)
    show 16 * (16 * (t.val % 33) - 1) + r.val = q.val
    omega
  · rw [block3_apply]
    refine congrArg (fun x => argB m c (ix3 _ x k)) (Fin.ext ?_)
    show 256 * (t.val % 33) + (r.val - 16) = q.val
    omega
  · rw [block5_apply]
    refine congrArg (fun x => argB m c (ix3 _ x k)) (Fin.ext ?_)
    show 16 * min (16 * (t.val % 33) + 16) 527 + (r.val - 16 - 256) = q.val
    omega

/-- The residual stream at a point. -/
theorem block6_apply (r : Fin 256) (k : Fin 1024) :
    (iblk m c 6 t : FVec Ideal S1x256x1024 .f32) (ix3 0 r k)
      = argX m c (ix3 ⟨t.val / 33, by have := point_lt t; omega⟩ ⟨256 * (t.val % 33) + r.val, by have := point_lt t; omega⟩ k) := by
  trans (V m c main_arg3 : FVec Ideal S4x8448x1024 .f32) (ix3 ⟨t.val / 33, by have := point_lt t; omega⟩ ⟨256 * (t.val % 33) + r.val, by have := point_lt t; omega⟩ k)
  · blk_ext [iblk, idx t]
  · rw [V_main_arg3]

/-- The residual stream just before a point. -/
theorem block7_apply (r : Fin 16) (k : Fin 1024) :
    (iblk m c 7 t : FVec Ideal S1x16x1024 .f32) (ix3 0 r k)
      = argX m c (ix3 ⟨t.val / 33, by have := point_lt t; omega⟩ ⟨16 * (16 * (t.val % 33) - 1) + r.val, by have := point_lt t; omega⟩ k) := by
  trans (V m c main_arg3 : FVec Ideal S4x8448x1024 .f32) (ix3 ⟨t.val / 33, by have := point_lt t; omega⟩ ⟨16 * (16 * (t.val % 33) - 1) + r.val, by have := point_lt t; omega⟩ k)
  · blk_ext [iblk, idx t]
  · rw [V_main_arg3]

/-- The residual stream just after a point. -/
theorem block8_apply (r : Fin 16) (k : Fin 1024) :
    (iblk m c 8 t : FVec Ideal S1x16x1024 .f32) (ix3 0 r k)
      = argX m c (ix3 ⟨t.val / 33, by have := point_lt t; omega⟩ ⟨16 * min (16 * (t.val % 33) + 16) 527 + r.val, by have := point_lt t; omega⟩ k) := by
  trans (V m c main_arg3 : FVec Ideal S4x8448x1024 .f32) (ix3 ⟨t.val / 33, by have := point_lt t; omega⟩ ⟨16 * min (16 * (t.val % 33) + 16) 527 + r.val, by have := point_lt t; omega⟩ k)
  · blk_ext [iblk, idx t]
  · rw [V_main_arg3]

/-- The residual stream about a point, by tokens. -/
theorem cat6_eq (r : Fin 288) (q : Fin 8448) (hq : q.val + 16 = 256 * (t.val % 33) + r.val) (k : Fin 1024) :
    cat (iblk m c 7 t : FVec Ideal S1x16x1024 .f32) (iblk m c 6 t : FVec Ideal S1x256x1024 .f32) (iblk m c 8 t : FVec Ideal S1x16x1024 .f32) r k
      = argX m c (ix3 ⟨t.val / 33, by have := point_lt t; omega⟩ q k) := by
  have hr := r.isLt
  have hl := q.isLt
  unfold cat
  split_ifs
  · rw [block7_apply]
    refine congrArg (fun x => argX m c (ix3 _ x k)) (Fin.ext ?_)
    show 16 * (16 * (t.val % 33) - 1) + r.val = q.val
    omega
  · rw [block6_apply]
    refine congrArg (fun x => argX m c (ix3 _ x k)) (Fin.ext ?_)
    show 256 * (t.val % 33) + (r.val - 16) = q.val
    omega
  · rw [block8_apply]
    refine congrArg (fun x => argX m c (ix3 _ x k)) (Fin.ext ?_)
    show 16 * min (16 * (t.val % 33) + 16) 527 + (r.val - 16 - 256) = q.val
    omega

/-- The output projection of the first mixer at a point. -/
theorem block9_apply (k : Fin 512) (d : Fin 1024) :
    (iblk m c 9 t : FVec Ideal S512x1024 .bf16) (ix2 k d) = argO m c (ix2 ⟨k.val, by omega⟩ d) := by
  trans (V m c main_v3 : FVec Ideal S512x1024 .bf16) (ix2 k d)
  · blk_ext [iblk, idx t]
  · entry_read
    pointwise

/-- The output projection of the second mixer at a point. -/
theorem block10_apply (k : Fin 512) (d : Fin 1024) :
    (iblk m c 10 t : FVec Ideal S512x1024 .bf16) (ix2 k d) = argO m c (ix2 ⟨512 + k.val, by omega⟩ d) := by
  trans (V m c main_v4 : FVec Ideal S512x1024 .bf16) (ix2 k d)
  · blk_ext [iblk, idx t]
  · entry_read
    pointwise

/-- The modulation vectors side by side, read at a row. -/
theorem entry8_apply (g : Fin 4) (w : Fin 2) (s : Fin 6) (d : Fin 1024) :
    (V m c main_v8 : FVec Ideal S4x2x6x1024 .f32) (ix4 g w s d)
      = if w.val < 1 then argM m c (ix2 g ⟨1024 * s.val + d.val, by omega⟩) else argC m c (ix1 ⟨1024 * s.val + d.val, by omega⟩) := by
  entry_read
  fin_cases w <;> pointwise <;> blk_ext

/-- The modulation at a point, at a token of its segment. -/
theorem block11_apply (s : Fin 6) (d : Fin 1024) (q : ℕ) (hs : t.val % 33 < 32 ↔ q < 8192) :
    (iblk m c 11 t : FVec Ideal S1x1x6x1024 .f32) (ix4 0 0 s d)
      = modAt (argM m c) (argC m c) s ⟨t.val / 33, by have := point_lt t; omega⟩ q d := by
  have ht := point_lt t
  trans (V m c main_v8 : FVec Ideal S4x2x6x1024 .f32) (ix4 ⟨t.val / 33, by omega⟩ ⟨t.val % 33 / 32, by omega⟩ s d)
  · blk_ext [iblk, idx t]
  · rw [entry8_apply]
    exact if_congr (by show t.val % 33 / 32 < 1 ↔ _; omega) rfl rfl

/-- The convolved half of the up projection at a point. -/
theorem block12_apply (k : Fin 1024) (f : Fin 2816) :
    (iblk m c 12 t : FVec Ideal S1024x2816 .bf16) (ix2 k f) = argU m c (ix2 k ⟨f.val, by omega⟩) := by
  trans (V m c main_v9 : FVec Ideal S1024x5632 .bf16) (ix2 k ⟨f.val, by omega⟩)
  · blk_ext [iblk, idx t]
  · entry_read
    pointwise

/-- The other half of the up projection at a point. -/
theorem block13_apply (k : Fin 1024) (f : Fin 2816) :
    (iblk m c 13 t : FVec Ideal S1024x2816 .bf16) (ix2 k f) = argU m c (ix2 k ⟨2816 + f.val, by omega⟩) := by
  trans (V m c main_v9 : FVec Ideal S1024x5632 .bf16) (ix2 k ⟨2816 + f.val, by omega⟩)
  · blk_ext [iblk, idx t]
  · entry_read
    pointwise

/-- The convolution's weights at a point. -/
theorem block14_apply (k : Fin 3) (f : Fin 2816) : (iblk m c 14 t : FVec Ideal S3x2816 .f32) (ix2 k f) = argK m c (ix2 k f) := by
  trans (V m c main_arg7 : FVec Ideal S3x2816 .f32) (ix2 k f)
  · blk_ext [iblk, idx t]
  · rw [V_main_arg7]

/-- The convolution's bias at a point. -/
theorem block15_apply (f : Fin 2816) : (iblk m c 15 t : FVec Ideal S1x2816 .f32) (ix2 0 f) = argD m c (ix1 f) := by
  trans (V m c main_v10 : FVec Ideal S1x2816 .f32) (ix2 0 f)
  · blk_ext [iblk, idx t]
  · entry_read
    pointwise

/-- The residual stream after the mixers. -/
def stream (b : Fin 4) (q : Fin 8448) (d : Fin 1024) : EReal :=
  argX m c (ix3 b q d) + modAt (argM m c) (argC m c) 2 b q.val d * (∑ k : Fin 512, argA m c (ix3 b q k) * argO m c (ix2 ⟨k.val, by omega⟩ d)
    + ∑ k : Fin 512, argB m c (ix3 b q k) * argO m c (ix2 ⟨512 + k.val, by omega⟩ d))

/-- That stream modulated. -/
def hidden (b : Fin 4) (q : Fin 8448) (d : Fin 1024) : EReal :=
  modulated (stream m c b q) (modAt (argM m c) (argC m c) 3 b q.val d) (modAt (argM m c) (argC m c) 4 b q.val d) d

/-- The up projection of the modulated stream. -/
def proj (b : Fin 4) (q : Fin 8448) (f : Fin 5632) : EReal := ∑ k : Fin 1024, hidden m c b q k * argU m c (ix2 k f)

/-- The projection one token before, zero at the start of a segment. -/
def left (b : Fin 4) (q : Fin 8448) (f : Fin 5632) : EReal :=
  if q.val = 0 ∨ q.val = 8192 then 0 else proj m c b ⟨q.val - 1, by omega⟩ f

/-- The projection one token after, zero at the end of a segment. -/
def right (b : Fin 4) (q : Fin 8448) (f : Fin 5632) : EReal :=
  if h : q.val = 8191 ∨ q.val = 8447 then 0 else proj m c b ⟨q.val + 1, by omega⟩ f

/-- The residual stream that the kernel returns. -/
def returned (j : S4x8448x1024.Idx) : EReal := stream m c (j 0) (j 1) (j 2)

/-- The gated unit of a hidden channel. -/
def gated (b : Fin 4) (q : Fin 8448) (f : Fin 2816) : EReal :=
  act (left m c b q ⟨f.val, by omega⟩ * argK m c (ix2 0 f) + proj m c b q ⟨f.val, by omega⟩ * argK m c (ix2 1 f)
    + right m c b q ⟨f.val, by omega⟩ * argK m c (ix2 2 f) + argD m c (ix1 f)) (proj m c b q ⟨2816 + f.val, by omega⟩)

/-- The hidden activations that the kernel returns. -/
def returnedAct (j : S4x8448x2816.Idx) : EReal := gated m c (j 0) (j 1) (j 2)

/-- The rows at a point, by tokens. -/
theorem rowsOf_eq (r : Fin 288) (q : Fin 8448) (hq : q.val + 16 = 256 * (t.val % 33) + r.val) (hs : t.val % 33 < 32 ↔ q.val < 8192) (d : Fin 1024) :
    rowsOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r d = stream m c ⟨t.val / 33, by have := point_lt t; omega⟩ q d := by
  unfold rowsOf stream
  rw [cat6_eq m c t r q hq d, block11_apply m c t 2 d q.val hs]
  simp only [cat0_eq m c t r q hq, cat3_eq m c t r q hq, block9_apply, block10_apply]

/-- The modulated rows at a point, by tokens. -/
theorem modOf_eq (r : Fin 288) (q : Fin 8448) (hq : q.val + 16 = 256 * (t.val % 33) + r.val) (hs : t.val % 33 < 32 ↔ q.val < 8192) (d : Fin 1024) :
    modOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r d = hidden m c ⟨t.val / 33, by have := point_lt t; omega⟩ q d := by
  unfold modOf hidden
  rw [block11_apply m c t 3 d q.val hs, block11_apply m c t 4 d q.val hs]
  exact congrArg (fun v => modulated v _ _ d) (funext fun e => rowsOf_eq m c t r q hq hs e)

/-- The rows that the convolution reads at a point. -/
theorem ext_eq (r : Fin 288) (d : Fin 1024) :
    k0_pay44 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r d)
      = if r.val < 16 ∧ (t.val % 33 = 0 ∨ t.val % 33 = 32) ∨ 272 ≤ r.val ∧ (t.val % 33 = 31 ∨ t.val % 33 = 32) then 0
        else modOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r d :=
  ext_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ⟨t.val % 33, by omega⟩ (coord t) r d

/-- The token of a row of a point. -/
def tok (r : Fin 256) : Fin 8448 := ⟨256 * (t.val % 33) + r.val, by omega⟩

/-- The projection of a row of a point. -/
theorem proj_main (r : Fin 256) (w : Fin 5632) :
    ∑ k : Fin 1024, k0_pay43 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r k) * argU m c (ix2 k w)
      = proj m c ⟨t.val / 33, by have := point_lt t; omega⟩ (tok t r) w := by
  unfold proj
  refine Finset.sum_congr rfl fun k _ => congrArg (· * _) ?_
  rw [main_apply]
  exact modOf_eq m c t ⟨16 + r.val, by omega⟩ (tok t r) (by show 256 * (t.val % 33) + r.val + 16 = 256 * (t.val % 33) + (16 + r.val); omega)
    (by show _ ↔ 256 * (t.val % 33) + r.val < 8192; omega) k

/-- The projection of a row that the convolution reads, where it is not zeroed. -/
theorem proj_ext (r : Fin 288) (q : Fin 8448) (hq : q.val + 16 = 256 * (t.val % 33) + r.val) (hs : t.val % 33 < 32 ↔ q.val < 8192)
    (hz : ¬(r.val < 16 ∧ (t.val % 33 = 0 ∨ t.val % 33 = 32) ∨ 272 ≤ r.val ∧ (t.val % 33 = 31 ∨ t.val % 33 = 32))) (w : Fin 5632) :
    ∑ k : Fin 1024, k0_pay44 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r k) * argU m c (ix2 k w)
      = proj m c ⟨t.val / 33, by have := point_lt t; omega⟩ q w := by
  unfold proj
  refine Finset.sum_congr rfl fun k _ => congrArg (· * _) ?_
  rw [ext_eq, if_neg hz]
  exact modOf_eq m c t r q hq hs k

/-- The projection of a row that the convolution reads, where it is zeroed. -/
theorem proj_zero (r : Fin 288)
    (hz : r.val < 16 ∧ (t.val % 33 = 0 ∨ t.val % 33 = 32) ∨ 272 ≤ r.val ∧ (t.val % 33 = 31 ∨ t.val % 33 = 32)) (w : Fin 5632) :
    ∑ k : Fin 1024, k0_pay44 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r k) * argU m c (ix2 k w) = 0 := by
  refine Finset.sum_eq_zero fun k _ => ?_
  rw [ext_eq, if_pos hz, zero_mul]

/-- The projection of the row before. -/
theorem proj_left (r : Fin 256) (w : Fin 5632) :
    ∑ k : Fin 1024, k0_pay44 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 ⟨15 + r.val, by omega⟩ k) * argU m c (ix2 k w)
      = left m c ⟨t.val / 33, by have := point_lt t; omega⟩ (tok t r) w := by
  have e : (tok t r).val = 256 * (t.val % 33) + r.val := rfl
  have hr := r.isLt
  unfold left
  by_cases h : (tok t r).val = 0 ∨ (tok t r).val = 8192
  · rw [if_pos h]
    exact proj_zero m c t _ (by show 15 + r.val < 16 ∧ _ ∨ _; omega) w
  · rw [if_neg h]
    exact proj_ext m c t _ _ (by show (tok t r).val - 1 + 16 = _ + (15 + r.val); omega) (by show _ ↔ (tok t r).val - 1 < 8192; omega)
      (by show ¬(15 + r.val < 16 ∧ _ ∨ 272 ≤ 15 + r.val ∧ _); omega) w

/-- The projection of the row itself. -/
theorem proj_mid (r : Fin 256) (w : Fin 5632) :
    ∑ k : Fin 1024, k0_pay44 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 ⟨16 + r.val, by omega⟩ k) * argU m c (ix2 k w)
      = proj m c ⟨t.val / 33, by have := point_lt t; omega⟩ (tok t r) w := by
  have e : (tok t r).val = 256 * (t.val % 33) + r.val := rfl
  have hr := r.isLt
  exact proj_ext m c t _ _ (by show (tok t r).val + 16 = _ + (16 + r.val); omega) (by omega)
    (by show ¬(16 + r.val < 16 ∧ _ ∨ 272 ≤ 16 + r.val ∧ _); omega) w

/-- The projection of the row after. -/
theorem proj_right (r : Fin 256) (w : Fin 5632) :
    ∑ k : Fin 1024, k0_pay44 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 ⟨17 + r.val, by omega⟩ k) * argU m c (ix2 k w)
      = right m c ⟨t.val / 33, by have := point_lt t; omega⟩ (tok t r) w := by
  have e : (tok t r).val = 256 * (t.val % 33) + r.val := rfl
  have hr := r.isLt
  unfold right
  by_cases h : (tok t r).val = 8191 ∨ (tok t r).val = 8447
  · rw [dif_pos h]
    exact proj_zero m c t _ (by show 17 + r.val < 16 ∧ _ ∨ 272 ≤ 17 + r.val ∧ _; omega) w
  · rw [dif_neg h]
    exact proj_ext m c t _ _ (by show (tok t r).val + 1 + 16 = _ + (17 + r.val); omega) (by show _ ↔ (tok t r).val + 1 < 8192; omega)
      (by show ¬(17 + r.val < 16 ∧ _ ∨ 272 ≤ 17 + r.val ∧ _); omega) w

/-- A block of the hidden activations, of the blocks at a point. -/
theorem actOf_eq (r : Fin 256) (f : Fin 2816) :
    actOf (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r f) = gated m c ⟨t.val / 33, by have := point_lt t; omega⟩ (tok t r) f := by
  unfold actOf tileOf gated
  simp only [ix3_1, ix3_2, block12_apply, block13_apply, block14_apply, block15_apply, proj_left, proj_mid, proj_right, proj_main]

/-- The kernel returns that residual stream. -/
theorem final16 : (dats m 0 c).arrAt 16 cfg0.N = returned m c := by
  refine (dats m 0 c).arrAt_eq_of_covers 16 _ (by decide +kernel) fun t _ y => ?_
  blk_simp
  rw [after0_16]
  have hy0 : (y 0).val < 1 := (y 0).isLt
  have hy1 : (y 1).val < 256 := (y 1).isLt
  have hy2 : (y 2).val < 1024 := (y 2).isLt
  have ht := point_lt t
  have e : y = ix3 0 ⟨(y 1).val, hy1⟩ ⟨(y 2).val, hy2⟩ := by
    blk_ext
  have hg : (win0_16.blk t).view.emb y = ix3 ⟨t.val / 33, by omega⟩ (tok t ⟨(y 1).val, hy1⟩) ⟨(y 2).val, hy2⟩ := by
    blk_ext [idx t, tok]
  rw [hg]
  refine (congrArg _ e).trans ((out16_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).trans ?_)
  exact rowsOf_eq m c t _ _ (by show 256 * (t.val % 33) + (y 1).val + 16 = 256 * (t.val % 33) + (16 + (y 1).val); omega)
    (by show _ ↔ 256 * (t.val % 33) + (y 1).val < 8192; omega) _

/-- The kernel returns those hidden activations. -/
theorem final17 : (dats m 0 c).arrAt 17 cfg0.N = returnedAct m c := by
  refine (dats m 0 c).arrAt_eq_of_covers 17 _ (by decide +kernel) fun t _ y => ?_
  blk_simp
  rw [after0_17]
  have hy0 : (y 0).val < 1 := (y 0).isLt
  have hy1 : (y 1).val < 256 := (y 1).isLt
  have hy2 : (y 2).val < 2816 := (y 2).isLt
  have ht := point_lt t
  have e : y = ix3 0 ⟨(y 1).val, hy1⟩ ⟨(y 2).val, hy2⟩ := by
    blk_ext
  have hg : (win0_17.blk t).view.emb y = ix3 ⟨t.val / 33, by omega⟩ (tok t ⟨(y 1).val, hy1⟩) ⟨(y 2).val, hy2⟩ := by
    blk_ext [idx t, tok]
  rw [hg]
  exact (out17_eq (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y).trans ((congrArg _ e).trans (actOf_eq m c t _ _))

end FfnUp

end
-- ==== Proof.UpRef.lean ====
/- The gated up projection: the reference computes the two arrays that the kernel returns. -/
module

public import proofs.«01_k».proof.Proof.UpOut
public import proofs.«01_k».proof.Proof.Gen.Reference2Ideal.Read

@[expose] public section

set_option maxRecDepth 16384

noncomputable section

namespace FfnUp

open Cert.Kernel2Ideal Cert.Kernel2Ideal.Gen Idealize.ShloMosaic Idealize.ShloMosaic.TcCoe Idealize.SL.Sem Stream
open Cert.Reference2Ideal.Read

variable (m : (ℓ : Loc nD τ sig) → Buf (Elt Ideal) ℓ) (c : Dev nD)

/-- The gate laid out along the tokens. -/
theorem gate_apply (l : S4x6144.Idx → EReal) (cx : S6144.Idx → EReal) (b : Fin 4) (r : Fin 8448) (d : Fin 1024) :
    val_main_v6 (F := Ideal) l cx (ix3 b r d) = modAt l cx 2 b r.val d := by
  pointwise [val_main_v6, val_main_v5, val_main_v4, val_main_v3, val_main_v2, val_main_v1, modAt]
  split_ifs <;> blk_ext

/-- The shift laid out along the tokens. -/
theorem shift_apply (l : S4x6144.Idx → EReal) (cx : S6144.Idx → EReal) (b : Fin 4) (r : Fin 8448) (d : Fin 1024) :
    val_main_v15 (F := Ideal) l cx (ix3 b r d) = modAt l cx 3 b r.val d := by
  pointwise [val_main_v15, val_main_v14, val_main_v13, val_main_v12, val_main_v11, val_main_v10, modAt]
  split_ifs <;> blk_ext

/-- The scale laid out along the tokens. -/
theorem scale_apply (l : S4x6144.Idx → EReal) (cx : S6144.Idx → EReal) (b : Fin 4) (r : Fin 8448) (d : Fin 1024) :
    val_main_v21 (F := Ideal) l cx (ix3 b r d) = modAt l cx 4 b r.val d := by
  pointwise [val_main_v21, val_main_v20, val_main_v19, val_main_v18, val_main_v17, val_main_v16, modAt]
  split_ifs <;> blk_ext

/-- The mixers' outputs side by side, through their output projection. -/
theorem mix_apply (x0 x1 : S4x8448x512.Idx → EReal) (x2 : S1024x1024.Idx → EReal) (b : Fin 4) (r : Fin 8448) (d : Fin 1024) :
    val_main_v7 (F := Ideal) x0 x1 x2 (ix3 b r d)
      = ∑ k : Fin 512, x0 (ix3 b r k) * x2 (ix2 ⟨k.val, by omega⟩ d) + ∑ k : Fin 512, x1 (ix3 b r k) * x2 (ix2 ⟨512 + k.val, by omega⟩ d) := by
  have e : val_main_v7 (F := Ideal) x0 x1 x2 (ix3 b r d)
      = ∑ k : Fin (512 + 512), (if h : k.val < 512 then x0 (ix3 b r ⟨k.val, h⟩) else x1 (ix3 b r ⟨k.val - 512, by omega⟩)) * x2 (ix2 k d) := by
    pointwise [val_main_v7, val_main_v0]
  rw [e, Fin.sum_univ_add]
  refine congrArg₂ (· + ·) (Finset.sum_congr rfl fun k _ => ?_) (Finset.sum_congr rfl fun k _ => ?_)
  · rw [dif_pos (show (Fin.castAdd 512 k).val < 512 from k.isLt)]
    rfl
  · rw [dif_neg (by show ¬512 + k.val < 512; omega)]
    refine congrArg (· * _) (congrArg (fun v => x1 (ix3 b r v)) (Fin.ext ?_))
    show 512 + k.val - 512 = k.val
    omega

/-- The reference's residual stream. -/
theorem stream_apply (b : Fin 4) (r : Fin 8448) (d : Fin 1024) :
    val_main_v9 (F := Ideal) (argA m c) (argB m c) (argO m c) (argX m c) (argM m c) (argC m c) (ix3 b r d) = stream m c b r d := by
  have h := gate_apply (argM m c) (argC m c) b r d
  have h' := mix_apply (argA m c) (argB m c) (argO m c) b r d
  unfold stream
  rw [← h, ← h']
  pointwise [val_main_v9, val_main_v8]

/-- The reference's modulated stream, of its residual stream. -/
theorem modulated_apply (x0 x1 : S4x8448x512.Idx → EReal) (x2 : S1024x1024.Idx → EReal) (x3 : S4x8448x1024.Idx → EReal)
    (x4 : S4x6144.Idx → EReal) (x5 : S6144.Idx → EReal) (b : Fin 4) (r : Fin 8448) (d : Fin 1024) :
    val_main_v35 (F := Ideal) x0 x1 x2 x3 x4 x5 (ix3 b r d)
      = modulated (fun e => val_main_v9 (F := Ideal) x0 x1 x2 x3 x4 x5 (ix3 b r e)) (val_main_v15 (F := Ideal) x4 x5 (ix3 b r d))
        (val_main_v21 (F := Ideal) x4 x5 (ix3 b r d)) d := by
  pointwise [val_main_v35, val_main_v34, val_main_v33, val_main_v32, val_main_v31, val_main_v30, val_main_v29, val_main_v28, val_main_v27,
    val_main_v26, val_main_v25, val_main_v24, val_main_v23, val_main_v22, val_main_cst, val_main_cst_0, val_main_cst_1,
    val_main_cst_2, modulated]

/-- The reference's modulated stream. -/
theorem hidden_ref (b : Fin 4) (r : Fin 8448) (d : Fin 1024) :
    val_main_v35 (F := Ideal) (argA m c) (argB m c) (argO m c) (argX m c) (argM m c) (argC m c) (ix3 b r d) = hidden m c b r d := by
  rw [modulated_apply, shift_apply, scale_apply]
  unfold hidden
  simp only [stream_apply]

/-- The reference's up projection. -/
theorem proj_apply (b : Fin 4) (r : Fin 8448) (f : Fin 5632) :
    val_main_v36 (F := Ideal) (argA m c) (argB m c) (argO m c) (argX m c) (argM m c) (argC m c) (argU m c) (ix3 b r f) = proj m c b r f := by
  unfold proj
  simp only [← hidden_ref]
  pointwise [val_main_v36]

/-- The test of the first token of the context. -/
theorem first_choice : ∀ r : Fin 8448, Scalar.cmpi .eq (BitVec.ofNat 32 r.val) 8192#32 = if r.val = 8192 then 1#1 else 0#1 := by
  decide +kernel

/-- The test of the last token before the context. -/
theorem last_choice : ∀ r : Fin 8448, Scalar.cmpi .eq (BitVec.ofNat 32 r.val) 8191#32 = if r.val = 8191 then 1#1 else 0#1 := by
  decide +kernel

/-- The reference's shift by one token back. -/
theorem left_ref (b : Fin 4) (r : Fin 8448) (f : Fin 2816) :
    val_main_v46 (F := Ideal) (argA m c) (argB m c) (argO m c) (argX m c) (argM m c) (argC m c) (argU m c) (ix3 b r f) = left m c b r ⟨f.val, by omega⟩ := by
  unfold left
  simp only [← proj_apply]
  pointwise [val_main_v46, val_main_call0_v2, val_main_call0_v1, val_main_call0_v0, val_main_cst_4, val_main_v45, val_main_v44, val_main_v43,
    val_main_v42, val_main_c, val_main_v41, val_main_cst_3, val_main_v40, val_main_v39, val_main_v37]
  rw [show IntOp.cmpi CmpIPredicate.eq (BitVec.ofNat 32 r.val) 8192#32 = _ from first_choice r]
  by_cases h : r.val = 8192
  · rw [if_pos h, if_pos (Or.inr h), choice_true]
    exact Ideal.ofBits_zero_f32
  · rw [if_neg h, choice_false]
    by_cases h1 : r.val < 1
    · rw [dif_pos h1, if_pos (by omega)]
    · rw [dif_neg h1]
      exact (if_neg (show ¬(r.val = 0 ∨ r.val = 8192) by omega)).symm

/-- The reference's shift by one token on. -/
theorem right_ref (b : Fin 4) (r : Fin 8448) (f : Fin 2816) :
    val_main_v51 (F := Ideal) (argA m c) (argB m c) (argO m c) (argX m c) (argM m c) (argC m c) (argU m c) (ix3 b r f) = right m c b r ⟨f.val, by omega⟩ := by
  unfold right
  simp only [← proj_apply]
  pointwise [val_main_v51, val_main_call1_v2, val_main_call1_v1, val_main_call1_v0, val_main_cst_6, val_main_v50, val_main_v49, val_main_v48,
    val_main_v47, val_main_c_5, val_main_v41, val_main_cst_3, val_main_v40, val_main_v39, val_main_v37]
  rw [show IntOp.cmpi CmpIPredicate.eq (BitVec.ofNat 32 r.val) 8191#32 = _ from last_choice r]
  by_cases h : r.val = 8191
  · rw [if_pos h, dif_pos (Or.inl h), choice_true]
    exact Ideal.ofBits_zero_f32
  · rw [if_neg h, choice_false]
    have hr := r.isLt
    by_cases h1 : r.val < 8447
    · rw [dif_pos h1, dif_neg (by omega)]
      refine congrArg (fun v => val_main_v36 (F := Ideal) _ _ _ _ _ _ _ (ix3 b v _)) (Fin.ext ?_)
      show 1 + r.val = r.val + 1
      omega
    · rw [dif_neg h1, dif_pos (by omega)]

/-- The reference's convolution. -/
theorem conv_ref (b : Fin 4) (r : Fin 8448) (f : Fin 2816) :
    val_main_v71 (F := Ideal) (argA m c) (argB m c) (argO m c) (argX m c) (argM m c) (argC m c) (argU m c) (argK m c) (argD m c) (ix3 b r f)
      = left m c b r ⟨f.val, by omega⟩ * argK m c (ix2 0 f) + proj m c b r ⟨f.val, by omega⟩ * argK m c (ix2 1 f)
        + right m c b r ⟨f.val, by omega⟩ * argK m c (ix2 2 f) + argD m c (ix1 f) := by
  rw [← left_ref, ← right_ref, ← proj_apply]
  pointwise [val_main_v71, val_main_v70, val_main_v69, val_main_v68, val_main_v67, val_main_v66, val_main_v65, val_main_v64, val_main_v63,
    val_main_v62, val_main_v61, val_main_v60, val_main_v59, val_main_v58, val_main_v57, val_main_v56, val_main_v55, val_main_v54,
    val_main_v53, val_main_v52, val_main_v37]

/-- The exponential is nowhere negative. -/
theorem exp_nonneg (x : EReal) : 0 ≤ Ideal.exp x := by
  induction x using EReal.rec with
  | bot => exact le_refl _
  | top => exact le_top
  | coe r => exact EReal.coe_nonneg.mpr (Real.exp_pos r).le

/-- A quotient is a product with a reciprocal. -/
theorem act_eq (u v : EReal) : u * Ideal.div (Ideal.ofBits .f32 0x3F800000#32) (Ideal.ofBits .f32 0x3F800000#32 + Ideal.exp (-u)) * v = act u v := by
  unfold act
  have h : Ideal.ofBits .f32 0x3F800000#32 + Ideal.exp (-u) ≠ 0 := by
    rw [Ideal.ofBits_one_f32]
    exact ne_of_gt (lt_of_lt_of_le zero_lt_one (le_add_of_nonneg_right (exp_nonneg (-u))))
  rw [zero_sub]
  unfold Ideal.div
  rw [if_neg h, if_neg h, Ideal.ofBits_one_f32, one_mul]

/-- The reference's gated unit. -/
theorem gated_ref (b : Fin 4) (r : Fin 8448) (f : Fin 2816) :
    val_main_v74 (F := Ideal) (argA m c) (argB m c) (argO m c) (argX m c) (argM m c) (argC m c) (argU m c) (argK m c) (argD m c) (ix3 b r f) = gated m c b r f := by
  unfold gated
  rw [← conv_ref, ← proj_apply, ← act_eq]
  pointwise [val_main_v74, val_main_v73, val_main_v72, val_main_v38, val_main_call2_v0, val_main_call2_v1, val_main_call2_v2, val_main_call2_v3,
    val_main_call2_v4, val_main_call2_v5, val_main_call2_cst, val_main_call2_cst_0]

/-- The reference computes the residual stream that the kernel returns. -/
theorem reference_is_kernel : val_main_v9 (F := Ideal) (argA m c) (argB m c) (argO m c) (argX m c) (argM m c) (argC m c) = (dats m 0 c).arrAt 16 cfg0.N := by
  rw [final16]
  funext j
  obtain ⟨b, hb⟩ : ∃ b : Fin 4, b = j 0 := ⟨_, rfl⟩
  obtain ⟨r, hr⟩ : ∃ r : Fin 8448, r = j 1 := ⟨_, rfl⟩
  obtain ⟨d, hd⟩ : ∃ d : Fin 1024, d = j 2 := ⟨_, rfl⟩
  have hj : j = ix3 b r d := by
    subst hb hr hd
    blk_ext
  subst hj
  exact stream_apply m c b r d

/-- The reference computes the hidden activations that the kernel returns. -/
theorem reference_is_kernel_act : val_main_v74 (F := Ideal) (argA m c) (argB m c) (argO m c) (argX m c) (argM m c) (argC m c) (argU m c) (argK m c) (argD m c) = (dats m 0 c).arrAt 17 cfg0.N := by
  rw [final17]
  funext j
  obtain ⟨b, hb⟩ : ∃ b : Fin 4, b = j 0 := ⟨_, rfl⟩
  obtain ⟨r, hr⟩ : ∃ r : Fin 8448, r = j 1 := ⟨_, rfl⟩
  obtain ⟨d, hd⟩ : ∃ d : Fin 2816, d = j 2 := ⟨_, rfl⟩
  have hj : j = ix3 b r d := by
    subst hb hr hd
    blk_ext
  subst hj
  exact gated_ref m c b r d

end FfnUp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite
public import proofs.«01_k».proof.Proof.Gen.Pre_finite5
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Agree
public import proofs.«01_k».proof.Proof.GqaAgree
public import proofs.«01_k».proof.Proof.Last
public import proofs.«01_k».proof.Proof.DownRef
public import proofs.«01_k».proof.Proof.UpRef
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's ideal program and the reference return the same array from real arguments. -/
theorem agree : Cert.algebraic_KernelIdeal_ReferenceIdeal_pre_finite := by
  intro m g m' g' hpre hagree
  refine ⟨fun c => (Cert.KernelIdeal.Gen.dats m 0 c).arrAt 6 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨a0, a1, a2, a3, a4, a5, a6, a7⟩ := hagree c
  rw [Cert.ReferenceIdeal.Read.val_main_v125_eq, a0, a1, a2, a3, a4, a5, a6, a7]
  exact DiffAttn.reference_is_kernel m c (DiffAttn.real_args m c (hpre c))

/-- The reference runs, leaves its arguments, and declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Kernel 2 and its reference leave the same values, whatever the arguments. -/
theorem agree2 : Cert.algebraic_Kernel2Ideal_Reference2Ideal := by
  intro m g m' g' _ hagree
  refine ⟨fun c => (Cert.Kernel2Ideal.Gen.dats m 0 c).arrAt 16 Cert.Kernel2Ideal.cfg0.N,
    fun c => (Cert.Kernel2Ideal.Gen.dats m 0 c).arrAt 17 Cert.Kernel2Ideal.cfg0.N, Cert.Kernel2Ideal.Value.run_blocks m g, ?_⟩
  refine (θ_run _ _ _).mono (fun r h c => ⟨(h c).1.trans ?_, (h c).2.1.trans ?_, (h c).2.2⟩) (Cert.Reference2Ideal.Value.run m' g')
  · obtain ⟨a0, a1, a2, a3, a4, a5, a6, a7, a8⟩ := hagree c
    rw [Cert.Reference2Ideal.Read.val_main_v9_eq, a0, a1, a2, a3, a4, a5]
    exact FfnUp.reference_is_kernel m c
  · obtain ⟨a0, a1, a2, a3, a4, a5, a6, a7, a8⟩ := hagree c
    rw [Cert.Reference2Ideal.Read.val_main_v74_eq, a0, a1, a2, a3, a4, a5, a6, a7, a8]
    exact FfnUp.reference_is_kernel_act m c

/-- Kernel 3 and its reference leave the same values, whatever the arguments. -/
theorem agree3 : Cert.algebraic_Kernel3Ideal_Reference3Ideal := by
  intro m g m' g' _ hagree
  refine ⟨fun c => (Cert.Kernel3Ideal.Gen.dats m 0 c).arrAt 4 Cert.Kernel3Ideal.cfg0.N, Cert.Kernel3Ideal.Value.run_blocks m g, ?_⟩
  refine (θ_run _ _ _).mono (fun r h c => ⟨(h c).1.trans ?_, (h c).2⟩) (Cert.Reference3Ideal.Value.run m' g')
  · obtain ⟨a0, a1, a2, a3, a4⟩ := hagree c
    rw [Cert.Reference3Ideal.Read.val_main_v12_eq, a0, a1, a2, a3]
    exact FfnLast.reference_is_kernel m c

/-- Kernel 4 and its reference leave the same values, whatever the arguments. -/
theorem agree4 : Cert.algebraic_Kernel4Ideal_Reference4Ideal := by
  intro m g m' g' _ hagree
  refine ⟨fun c => (Cert.Kernel4Ideal.Gen.dats m 0 c).arrAt 5 Cert.Kernel4Ideal.cfg0.N,
    fun c => (Cert.Kernel4Ideal.Gen.dats m 0 c).arrAt 6 Cert.Kernel4Ideal.cfg0.N, Cert.Kernel4Ideal.Value.run_blocks m g, ?_⟩
  refine (θ_run _ _ _).mono (fun r h c => ⟨(h c).1.trans ?_, (h c).2.1.trans ?_, (h c).2.2⟩) (Cert.Reference4Ideal.Value.run m' g')
  · obtain ⟨a0, a1, a2, a3, a4, a5, a6⟩ := hagree c
    rw [Cert.Reference4Ideal.Read.val_main_v8_eq, a0, a1, a2, a3, a4]
    exact FfnDown.reference_is_kernel m c
  · obtain ⟨a0, a1, a2, a3, a4, a5, a6⟩ := hagree c
    rw [Cert.Reference4Ideal.Read.val_main_v35_eq, a0, a1, a2, a3, a4, a5, a6]
    exact FfnDown.reference_is_kernel_mod m c

/-- Reference 2 runs and leaves its arguments as they were. -/
theorem frame_reference2 : Cert.quiescent_Reference2Ideal := fun m g _ =>
  (θ_run Cert.Reference2Ideal.defs _ _).mono (fun r h => ⟨fun c => (h c).2.2, sem_eq_zero_of_no_sems (by decide) r.2⟩)
    (Cert.Reference2Ideal.Value.run (F := Ideal) m g)

/-- Reference 3 runs and leaves its arguments as they were. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- Reference 4 runs and leaves its arguments as they were. -/
theorem frame_reference4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- Kernel 5 and its reference return the same array from real arguments. -/
theorem agree5 : Cert.algebraic_Kernel5Ideal_Reference5Ideal_pre_finite5 := by
  intro m g m' g' hpre hagree
  refine ⟨fun c => (Cert.Kernel5Ideal.Gen.dats m 0 c).arrAt 4 Cert.Kernel5Ideal.cfg0.N, Cert.Kernel5Ideal.Value.run_blocks m g, ?_⟩
  refine (θ_run _ _ _).mono (fun r h c => ⟨(h c).1.trans ?_, (h c).2⟩) (Cert.Reference5Ideal.Value.run m' g')
  obtain ⟨a0, a1, a2⟩ := hagree c
  rw [Cert.Reference5Ideal.Read.val_main_v49_eq, a0, a1, a2]
  exact GqaAttn.reference_is_kernel m c (GqaAttn.real_args m c (hpre c))

/-- Reference 5 runs and leaves its arguments as they were. -/
theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts, Cert.Pre_finite5.Gen.facts,
    fun m ρ _ => Cert.Kernel.Gen.frame m ρ, fun m ρ _ => Cert.KernelIdeal.Gen.frame m ρ, fun m ρ _ => Cert.KernelIdeal.Gen.frame m ρ,
    frame_reference, fun m g _ => frame_reference m g trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, fun m ρ _ => Cert.Kernel5Ideal.Gen.frame m ρ,
    frame_reference5, fun m g _ => frame_reference5 m g trivial,
    trivial, agree, trivial, agree2, trivial, agree3, trivial, agree4, trivial, agree5⟩

end Cert.Proof

end
